-- ==== Defs.lean ====
def Pre_Kernel [hPre_valid_request : Cert.Pre_valid_request.Facts] (m : (ℓ : Loc Cert.Kernel.nD Cert.Kernel.τ Cert.Kernel.sig) → Buf (Elt Bits) ℓ) : Prop :=
  ∀ c : Dev Cert.Kernel.nD,
    (Cert.Pre_valid_request.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_valid_request : Cert.Pre_valid_request.Facts] (m : (ℓ : Loc Cert.KernelIdeal.nD Cert.KernelIdeal.τ Cert.KernelIdeal.sig) → Buf (Elt Ideal) ℓ) : Prop :=
  ∀ c : Dev Cert.KernelIdeal.nD,
    (Cert.Pre_valid_request.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_request [hPre_valid_request : Cert.Pre_valid_request.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_request.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_valid_request : Cert.Pre_valid_request.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_valid_request : Cert.Pre_valid_request.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_valid_request [hReferenceIdeal : Cert.ReferenceIdeal.Facts] [hPre_valid_request : Cert.Pre_valid_request.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_request m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log_base" .f32 0xBE135D8E#32 (((-1 / 64) * (Real.log 10000) : ℝ) : EReal)
  ∧ IdealRules.bf16_pair.Statement Cert.KernelIdeal.S1x64x2x128 Cert.KernelIdeal.S1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] [hPre_valid_request : Cert.Pre_valid_request.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v169) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_v171) = v3 c
          ∧ r.2.mem ((c.tc : Thread Cert.ReferenceIdeal.nD Cert.ReferenceIdeal.τ).loc Cert.ReferenceIdeal.main_v172) = v4 c
          ∧ r.2.mem ((c.tc : Thread Cert.ReferenceIdeal.nD Cert.ReferenceIdeal.τ).loc Cert.ReferenceIdeal.main_v43) = v5 c
          ∧ r.2.mem ((c.tc : Thread Cert.ReferenceIdeal.nD Cert.ReferenceIdeal.τ).loc Cert.ReferenceIdeal.main_v173) = v6 c
          ∧ r.2.mem ((c.tc : Thread Cert.ReferenceIdeal.nD Cert.ReferenceIdeal.τ).loc Cert.ReferenceIdeal.main_v58) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_valid_request : Cert.Pre_valid_request.Facts),
    quiescent_Kernel (hKernel := hKernel) (hPre_valid_request := hPre_valid_request)
    ∧ quiescent_KernelIdeal (hKernelIdeal := hKernelIdeal) (hPre_valid_request := hPre_valid_request)
    ∧ quiescent_ReferenceIdeal (hReferenceIdeal := hReferenceIdeal)
    ∧ quiescent_ReferenceIdeal_pre_valid_request (hReferenceIdeal := hReferenceIdeal) (hPre_valid_request := hPre_valid_request)
    ∧ preserves_Kernel_KernelIdeal
    ∧ algebraic_KernelIdeal_ReferenceIdeal (hKernelIdeal := hKernelIdeal) (hReferenceIdeal := hReferenceIdeal) (hPre_valid_request := hPre_valid_request)
-- ==== Pre_valid_request.lean ====
abbrev S4x2048x4x128 : Shape := ⟨4, ![4, 2048, 4, 128]⟩
abbrev S2565x16x4x128 : Shape := ⟨4, ![2565, 16, 4, 128]⟩
abbrev S2565x16x4 : Shape := ⟨3, ![2565, 16, 4]⟩
abbrev S4x513 : Shape := ⟨2, ![4, 513]⟩
abbrev S4 : Shape := ⟨1, ![4]⟩
abbrev S_ : Shape := ⟨0, ![]⟩

class Facts : Prop where
  bcast_S_S4x513 : S_.BroadcastsInDim S4x513 (![] : Fin 0 → Fin S4x513.rank)
  reducesTo_S4x513_S_d0_1 : S4x513.ReducesTo [0, 1] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x2048x4x128 .bf16) (main_arg1 : FVec F S4x2048x4x128 .bf16) (main_arg2 : IVec S2565x16x4x128 8) (main_arg3 : FVec F S2565x16x4 .f32) (main_arg4 : IVec S2565x16x4x128 8) (main_arg5 : FVec F S2565x16x4 .f32) (main_arg6 : IVec S4x513 32) (main_arg7 : IVec S4 32) (main_arg8 : IVec S4 32) : IVec S_ 1 :=
  let main_c : IVec S_ 32 := constantI S_ 32 0#32
  let main_v0 : IVec S4x513 32 := broadcastInDim S4x513 ![] bcast_S_S4x513 main_c
  let main_v1 : IVec S4x513 1 := cmpi .sge main_arg6 main_v0
  let main_c_0 : IVec S_ 32 := constantI S_ 32 2565#32
  let main_v2 : IVec S4x513 32 := broadcastInDim S4x513 ![] bcast_S_S4x513 main_c_0
  let main_v3 : IVec S4x513 1 := cmpi .slt main_arg6 main_v2
  let main_v4 : IVec S4x513 1 := andi main_v1 main_v3
  let main_c_1 : IVec S_ 1 := constantI S_ 1 1#1
  let main_v5 : IVec S_ 1 := (fun x v => Host.reduce IntOp.andi x v reducesTo_S4x513_S_d0_1 h_S_) main_v4 main_c_1
  let main_c_2 : IVec S_ 32 := constantI S_ 32 0#32
  let main_v6 : IVec S4 32 := broadcastInDim S4 ![] bcast_S_S4 main_c_2
  let main_v7 : IVec S4 1 := cmpi .sge main_arg7 main_v6
  let main_c_3 : IVec S_ 32 := constantI S_ 32 6144#32
  let main_v8 : IVec S4 32 := broadcastInDim S4 ![] bcast_S_S4 main_c_3
  let main_v9 : IVec S4 1 := cmpi .sle main_arg7 main_v8
  let main_v10 : IVec S4 1 := andi main_v7 main_v9
  let main_c_4 : IVec S_ 1 := constantI S_ 1 1#1
  let main_v11 : IVec S_ 1 := (fun x v => Host.reduce IntOp.andi x v reducesTo_S4_S_d0 h_S_) main_v10 main_c_4
  let main_v12 : IVec S_ 1 := andi main_v5 main_v11
  let main_c_5 : IVec S_ 32 := constantI S_ 32 2147481599#32
  let main_v13 : IVec S4 32 := broadcastInDim S4 ![] bcast_S_S4 main_c_5
  let main_v14 : IVec S4 1 := cmpi .sle main_arg8 main_v13
  let main_c_6 : IVec S_ 1 := constantI S_ 1 1#1
  let main_v15 : IVec S_ 1 := (fun x v => Host.reduce IntOp.andi x v reducesTo_S4_S_d0 h_S_) main_v14 main_c_6
  fn_part1 (F := F) main_v12 main_v15
-- ==== Kernel.lean ====
abbrev S4x2048x4x128 : Shape := ⟨4, ![4, 2048, 4, 128]⟩
abbrev S2565x16x4x128 : Shape := ⟨4, ![2565, 16, 4, 128]⟩
abbrev S2565x16x4 : Shape := ⟨3, ![2565, 16, 4]⟩
abbrev S4x513 : Shape := ⟨2, ![4, 513]⟩
abbrev S4 : Shape := ⟨1, ![4]⟩
abbrev S2565x64x128 : Shape := ⟨3, ![2565, 64, 128]⟩
abbrev S_ : Shape := ⟨0, ![]⟩
abbrev S4x1 : Shape := ⟨2, ![4, 1]⟩
abbrev S4x2 : Shape := ⟨2, ![4, 2]⟩
abbrev S4x2x1 : Shape := ⟨3, ![4, 2, 1]⟩
abbrev S4x8192x128 : Shape := ⟨3, ![4, 8192, 128]⟩
abbrev S4x8256x128 : Shape := ⟨3, ![4, 8256, 128]⟩
abbrev S4x2064x4 : Shape := ⟨3, ![4, 2064, 4]⟩
abbrev S4x2048x4 : Shape := ⟨3, ![4, 2048, 4]⟩
abbrev S1x1024x128 : Shape := ⟨3, ![1, 1024, 128]⟩
abbrev S1x64x128 : Shape := ⟨3, ![1, 64, 128]⟩
abbrev S1x1 : Shape := ⟨2, ![1, 1]⟩
abbrev S1x16x4 : Shape := ⟨3, ![1, 16, 4]⟩
abbrev S1x8256x128 : Shape := ⟨3, ![1, 8256, 128]⟩
abbrev S1x2064x4 : Shape := ⟨3, ![1, 2064, 4]⟩
abbrev S1x256x4 : Shape := ⟨3, ![1, 256, 4]⟩
abbrev S256x128 : Shape := ⟨2, ![256, 128]⟩
abbrev S1 : Shape := ⟨1, ![1]⟩
abbrev S1x128 : Shape := ⟨2, ![1, 128]⟩
abbrev S64x128 : Shape := ⟨2, ![64, 128]⟩
abbrev S16x4 : Shape := ⟨2, ![16, 4]⟩
abbrev S1x512x128 : Shape := ⟨3, ![1, 512, 128]⟩
abbrev S1x512x2x128 : Shape := ⟨4, ![1, 512, 2, 128]⟩
abbrev S1x64x2x128 : Shape := ⟨4, ![1, 64, 2, 128]⟩
abbrev S1x64x1x128 : Shape := ⟨4, ![1, 64, 1, 128]⟩
abbrev S64x4 : Shape := ⟨2, ![64, 4]⟩
abbrev S64 : Shape := ⟨1, ![64]⟩
abbrev S64x1 : Shape := ⟨2, ![64, 1]⟩
abbrev S1x256x128 : Shape := ⟨3, ![1, 256, 128]⟩
abbrev S1x64x4 : Shape := ⟨3, ![1, 64, 4]⟩

abbrev nBuf : Space → Nat
  | .hbm => 54
  | .vmem => 38
  | .smem => 3
  | _ => 0

abbrev bufTy : (tb : Table) → Fin (tcTables nBuf tb) → BufTy
  | .hbm, ⟨0, _⟩ => ⟨S4x2048x4x128, .bf16⟩
  | .hbm, ⟨1, _⟩ => ⟨S4x2048x4x128, .bf16⟩
  | .hbm, ⟨2, _⟩ => ⟨S2565x16x4x128, .i8⟩
  | .hbm, ⟨3, _⟩ => ⟨S2565x16x4, .f32⟩
  | .hbm, ⟨4, _⟩ => ⟨S2565x16x4x128, .i8⟩
  | .hbm, ⟨5, _⟩ => ⟨S2565x16x4, .f32⟩
  | .hbm, ⟨6, _⟩ => ⟨S4x513, .i32⟩
  | .hbm, ⟨7, _⟩ => ⟨S2565x64x128, .i8⟩
  | .hbm, ⟨8, _⟩ => ⟨S2565x64x128, .i8⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S4x1, .i32⟩
  | .hbm, ⟨34, _⟩ => ⟨S4x1, .i32⟩
  | .hbm, ⟨35, _⟩ => ⟨S4x2, .i32⟩
  | .hbm, ⟨36, _⟩ => ⟨S_, .i32⟩
  | .hbm, ⟨37, _⟩ => ⟨S4x2, .i32⟩
  | .hbm, ⟨38, _⟩ => ⟨S4x2, .i1⟩
  | .hbm, ⟨39, _⟩ => ⟨S_, .i32⟩
  | .hbm, ⟨40, _⟩ => ⟨S4x2, .i32⟩
  | .hbm, ⟨41, _⟩ => ⟨S4x2, .i32⟩
  | .hbm, ⟨42, _⟩ => ⟨S4x2, .i32⟩
  | .hbm, ⟨43, _⟩ => ⟨S4x2x1, .i32⟩
  | .hbm, ⟨44, _⟩ => ⟨S4x8192x128, .bf16⟩
  | .hbm, ⟨45, _⟩ => ⟨S4x8192x128, .bf16⟩
  | .hbm, ⟨46, _⟩ => ⟨S4x8256x128, .i8⟩
  | .hbm, ⟨47, _⟩ => ⟨S4x2064x4, .f32⟩
  | .hbm, ⟨48, _⟩ => ⟨S4x8256x128, .i8⟩
  | .hbm, ⟨49, _⟩ => ⟨S4x2064x4, .f32⟩
  | .hbm, ⟨50, _⟩ => ⟨S4x8192x128, .i8⟩
  | .hbm, ⟨51, _⟩ => ⟨S4x2048x4, .f32⟩
  | .hbm, ⟨52, _⟩ => ⟨S4x8192x128, .i8⟩
  | .hbm, ⟨53, _⟩ => ⟨S4x2048x4, .f32⟩
  | .local _ .vmem, ⟨0, _⟩ => ⟨S1x1024x128, .bf16⟩
  | .local _ .vmem, ⟨1, _⟩ => ⟨S1x1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x64x128, .i8⟩
  | .local _ .vmem, ⟨5, _⟩ => ⟨S1x64x128, .i8⟩
  | .local _ .vmem, ⟨6, _⟩ => ⟨S1x64x128, .i8⟩
  | .local _ .vmem, ⟨7, _⟩ => ⟨S1x64x128, .i8⟩
  | .local _ .vmem, ⟨8, _⟩ => ⟨S1x16x4, .f32⟩
  | .local _ .vmem, ⟨9, _⟩ => ⟨S1x16x4, .f32⟩
  | .local _ .vmem, ⟨10, _⟩ => ⟨S1x16x4, .f32⟩
  | .local _ .vmem, ⟨11, _⟩ => ⟨S1x16x4, .f32⟩
  | .local _ .vmem, ⟨12, _⟩ => ⟨S1x64x128, .i8⟩
  | .local _ .vmem, ⟨13, _⟩ => ⟨S1x64x128, .i8⟩
  | .local _ .vmem, ⟨14, _⟩ => ⟨S1x64x128, .i8⟩
  | .local _ .vmem, ⟨15, _⟩ => ⟨S1x64x128, .i8⟩
  | .local _ .vmem, ⟨16, _⟩ => ⟨S1x16x4, .f32⟩
  | .local _ .vmem, ⟨17, _⟩ => ⟨S1x16x4, .f32⟩
  | .local _ .vmem, ⟨18, _⟩ => ⟨S1x16x4, .f32⟩
  | .local _ .vmem, ⟨19, _⟩ => ⟨S1x16x4, .f32⟩
  | .local _ .vmem, ⟨20, _⟩ => ⟨S1x8256x128, .i8⟩
  | .local _ .vmem, ⟨21, _⟩ => ⟨S1x8256x128, .i8⟩
  | .local _ .vmem, ⟨22, _⟩ => ⟨S1x2064x4, .f32⟩
  | .local _ .vmem, ⟨23, _⟩ => ⟨S1x2064x4, .f32⟩
  | .local _ .vmem, ⟨24, _⟩ => ⟨S1x8256x128, .i8⟩
  | .local _ .vmem, ⟨25, _⟩ => ⟨S1x8256x128, .i8⟩
  | .local _ .vmem, ⟨26, _⟩ => ⟨S1x2064x4, .f32⟩
  | .local _ .vmem, ⟨27, _⟩ => ⟨S1x2064x4, .f32⟩
  | .local _ .vmem, ⟨28, _⟩ => ⟨S1x1024x128, .i8⟩
  | .local _ .vmem, ⟨29, _⟩ => ⟨S1x1024x128, .i8⟩
  | .local _ .vmem, ⟨30, _⟩ => ⟨S1x256x4, .f32⟩
  | .local _ .vmem, ⟨31, _⟩ => ⟨S1x256x4, .f32⟩
  | .local _ .vmem, ⟨32, _⟩ => ⟨S1x1024x128, .i8⟩
  | .local _ .vmem, ⟨33, _⟩ => ⟨S1x1024x128, .i8⟩
  | .local _ .vmem, ⟨34, _⟩ => ⟨S1x256x4, .f32⟩
  | .local _ .vmem, ⟨35, _⟩ => ⟨S1x256x4, .f32⟩
  | .local _ .vmem, ⟨36, _⟩ => ⟨S256x128, .f32⟩
  | .local _ .vmem, ⟨37, _⟩ => ⟨S256x128, .f32⟩
  | .local _ .smem, ⟨0, _⟩ => ⟨S4x2, .i32⟩
  | .local _ .smem, ⟨1, _⟩ => ⟨S4, .i32⟩
  | .local _ .smem, ⟨2, _⟩ => ⟨S4, .i32⟩
  | _, _ => ⟨S4x2048x4x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_v11 : Ref sig .tc := ⟨.hbm, 44, rfl⟩
abbrev main_v12 : Ref sig .tc := ⟨.hbm, 45, rfl⟩
abbrev main_v13_0 : Ref sig .tc := ⟨.hbm, 46, rfl⟩
abbrev main_v13_1 : Ref sig .tc := ⟨.hbm, 47, rfl⟩
abbrev main_v13_2 : Ref sig .tc := ⟨.hbm, 48, rfl⟩
abbrev main_v13_3 : Ref sig .tc := ⟨.hbm, 49, rfl⟩
abbrev main_v13_4 : Ref sig .tc := ⟨.hbm, 50, rfl⟩
abbrev main_v13_5 : Ref sig .tc := ⟨.hbm, 51, rfl⟩
abbrev main_v13_6 : Ref sig .tc := ⟨.hbm, 52, rfl⟩
abbrev main_v13_7 : Ref sig .tc := ⟨.hbm, 53, rfl⟩
abbrev main_v10 : Ref sig .tc := ⟨.smem, 0, rfl⟩
abbrev main_arg7 : Ref sig .tc := ⟨.smem, 1, rfl⟩
abbrev main_arg8 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [BitOps F]

abbrev grid0 : Pipeline.Grid := ⟨2, ![4, 8], ![false, false]⟩

abbrev pre0 : Pipeline.Prefetch sig := ⟨3, ![main_v10.idx, main_arg7.idx, main_arg8.idx], fun | 0 => main_v10.names | 1 => main_arg7.names | 2 => main_arg8.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 1 → Nat :=
  let arg0 : BitVec 32 := BitVec.ofNat 32 (i 0).val
  let v0 : Index := Scalar.indexCast arg0
  ![v0.toNat]
def k0_off4 (i : grid0.Coords) (v1 : BitVec 32) (c0_i32_17 : BitVec 32) : Fin 3 → Nat :=
  let c0_63 : Index := 0#32
  let c4_i32 : BitVec 32 := 4#32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let arg1 : BitVec 32 := BitVec.ofNat 32 (i 1).val
  let c256_i32_16 : BitVec 32 := 256#32
  let v57 : BitVec 32 := Scalar.muli arg1 c256_i32_16
  let v58 : BitVec 32 := Scalar.addi v11 v57
  let v59 : BitVec 32 := Scalar.addi v58 c0_i32_17
  let v201 : BitVec 32 := Scalar.muli c4_i32 v59
  let v202 : Index := Scalar.indexCast v201
  let c0_64 : Index := 0#32
  ![0, v202.toNat, 0]

def k0_off5 (i : grid0.Coords) (v1 : BitVec 32) (c0_i32_17 : BitVec 32) : Fin 3 → Nat :=
  let c0_68 : Index := 0#32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let arg1 : BitVec 32 := BitVec.ofNat 32 (i 1).val
  let c256_i32_16 : BitVec 32 := 256#32
  let v57 : BitVec 32 := Scalar.muli arg1 c256_i32_16
  let v58 : BitVec 32 := Scalar.addi v11 v57
  let v59 : BitVec 32 := Scalar.addi v58 c0_i32_17
  let v209 : Index := Scalar.indexCast v59
  let c0_69 : Index := 0#32
  ![0, v209.toNat, 0]

def k0_chk1 (i : grid0.Coords) (v1 : BitVec 32) : Prop :=
  (∀ (r : Fin 4), ∀ a, (k0_off4 i v1 (BitVec.ofNat 32 (64 * r.val))) a + S1x256x128.size a ≤ S1x8256x128.size a) ∧
  (∀ (r : Fin 4), ∀ (hinb : ∀ a, (k0_off4 i v1 (BitVec.ofNat 32 (64 * r.val))) a + S1x256x128.size a ≤ S1x8256x128.size a), (Rect.unit (s := S1x8256x128) (k0_off4 i v1 (BitVec.ofNat 32 (64 * r.val))) S1x256x128.size hinb).PackedRows (EltTy.packing .i8)) ∧
  (∀ (r : Fin 4), ∀ a, (k0_off5 i v1 (BitVec.ofNat 32 (64 * r.val))) a + S1x64x4.size a ≤ S1x2064x4.size a)
theorem k0_off4_inb : ∀ (i : grid0.Coords) (v1 : BitVec 32) (k0_hw1 : k0_chk1 i v1), ∀ (r : Fin 4), ∀ a, (k0_off4 i v1 (BitVec.ofNat 32 (64 * r.val))) a + S1x256x128.size a ≤ S1x8256x128.size a := fun i v1 k0_hw1 r => k0_hw1.1 r
theorem k0_off4_packedi8 : ∀ (i : grid0.Coords) (v1 : BitVec 32) (k0_hw1 : k0_chk1 i v1), ∀ (r : Fin 4), (Rect.unit (s := S1x8256x128) (k0_off4 i v1 (BitVec.ofNat 32 (64 * r.val))) S1x256x128.size (k0_off4_inb i v1 k0_hw1 r)).PackedRows (EltTy.packing .i8) := fun i v1 k0_hw1 r => k0_hw1.2.1 r (k0_off4_inb i v1 k0_hw1 r)
theorem k0_off5_inb : ∀ (i : grid0.Coords) (v1 : BitVec 32) (k0_hw1 : k0_chk1 i v1), ∀ (r : Fin 4), ∀ a, (k0_off5 i v1 (BitVec.ofNat 32 (64 * r.val))) a + S1x64x4.size a ≤ S1x2064x4.size a := fun i v1 k0_hw1 r => k0_hw1.2.2 r

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (k0_off1_inb : ∀ i : grid0.Coords, ∀ a, (k0_off1 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S4x2) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c1 : Index := 1#32
  let v1 : BitVec 32 := pf.at 0 (Rect.unit (s := S4x2) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S4x2) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c1 : Index := 1#32
  let v1 : BitVec 32 := pf.at 0 (Rect.unit (s := S4x2) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S4x2) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c1 : Index := 1#32
  let v1 : BitVec 32 := pf.at 0 (Rect.unit (s := S4x2) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c0 : Index := 0#32
  let v1 : BitVec 32 := pf.at 0 (Rect.unit (s := S4x2) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off2_inb : ∀ i : grid0.Coords, ∀ a, (k0_off2 i) a + S1x1.size a ≤ S4x2.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let c1 : Index := 1#32
  let v1 : BitVec 32 := pf.at 0 (Rect.unit (s := S4x2) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x64x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x16x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8256x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2064x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8256x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2064x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x128 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x4 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x128 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x4 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
abbrev S128x128 : Shape := ⟨2, ![128, 128]⟩
variable {F : FTy → Type} [FloatOps F] [Named F]
def κ : String → Option EReal := fun
  | "log_base" => some (((-1 / 64) * (Real.log 10000) : ℝ) : EReal)
  | _ => none
-- ==== ReferenceIdeal.lean ====
abbrev S4x2048x4x128 : Shape := ⟨4, ![4, 2048, 4, 128]⟩
abbrev S2565x16x4x128 : Shape := ⟨4, ![2565, 16, 4, 128]⟩
abbrev S2565x16x4 : Shape := ⟨3, ![2565, 16, 4]⟩
abbrev S4x513 : Shape := ⟨2, ![4, 513]⟩
abbrev S4 : Shape := ⟨1, ![4]⟩
abbrev S2048 : Shape := ⟨1, ![2048]⟩
abbrev S4x1 : Shape := ⟨2, ![4, 1]⟩
abbrev S1x2048 : Shape := ⟨2, ![1, 2048]⟩
abbrev S4x2048 : Shape := ⟨2, ![4, 2048]⟩
abbrev S64 : Shape := ⟨1, ![64]⟩
abbrev S_ : Shape := ⟨0, ![]⟩
abbrev S4x2048x1 : Shape := ⟨3, ![4, 2048, 1]⟩
abbrev S1x1x64 : Shape := ⟨3, ![1, 1, 64]⟩
abbrev S4x2048x64 : Shape := ⟨3, ![4, 2048, 64]⟩
abbrev S4x2048x1x64 : Shape := ⟨4, ![4, 2048, 1, 64]⟩
abbrev S4x2048x4x64 : Shape := ⟨4, ![4, 2048, 4, 64]⟩
abbrev S4x2048x4 : Shape := ⟨3, ![4, 2048, 4]⟩
abbrev S4x2048x4x1 : Shape := ⟨4, ![4, 2048, 4, 1]⟩
abbrev S129 : Shape := ⟨1, ![129]⟩
abbrev S1x129 : Shape := ⟨2, ![1, 129]⟩
abbrev S4x129 : Shape := ⟨2, ![4, 129]⟩
abbrev S4x129x1 : Shape := ⟨3, ![4, 129, 1]⟩
abbrev S2064 : Shape := ⟨1, ![2064]⟩
abbrev S1x2064 : Shape := ⟨2, ![1, 2064]⟩
abbrev S4x2064 : Shape := ⟨2, ![4, 2064]⟩
abbrev S4x129x16x4x128 : Shape := ⟨5, ![4, 129, 16, 4, 128]⟩
abbrev S4x2064x4x128 : Shape := ⟨4, ![4, 2064, 4, 128]⟩
abbrev S4x2064x1x1 : Shape := ⟨4, ![4, 2064, 1, 1]⟩
abbrev S4x2064x1 : Shape := ⟨3, ![4, 2064, 1]⟩
abbrev S4x129x16x4 : Shape := ⟨4, ![4, 129, 16, 4]⟩
abbrev S4x2064x4 : Shape := ⟨3, ![4, 2064, 4]⟩
abbrev S4x8256x128 : Shape := ⟨3, ![4, 8256, 128]⟩
abbrev S4x8192x128 : Shape := ⟨3, ![4, 8192, 128]⟩

abbrev nBuf : Space → Nat
  | .hbm => 327
  | .vmem => 0
  | .smem => 0
  | _ => 0

abbrev hbmTy0_0 (i : Nat) : BufTy := match i % 128 with
  | 0 => ⟨S4x2048x4x128, .bf16⟩
  | 1 => ⟨S4x2048x4x128, .bf16⟩
  | 2 => ⟨S2565x16x4x128, .i8⟩
  | 3 => ⟨S2565x16x4, .f32⟩
  | 4 => ⟨S2565x16x4x128, .i8⟩
  | 5 => ⟨S2565x16x4, .f32⟩
  | 6 => ⟨S4x513, .i32⟩
  | 7 => ⟨S4, .i32⟩
  | 8 => ⟨S4, .i32⟩
  | 9 => ⟨S2048, .i32⟩
  | 10 => ⟨S4x1, .i32⟩
  | 11 => ⟨S1x2048, .i32⟩
  | 12 => ⟨S4x2048, .i32⟩
  | 13 => ⟨S4x2048, .i32⟩
  | 14 => ⟨S4x2048, .i32⟩
  | 15 => ⟨S4x2048x4x128, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S4x2048, .f32⟩
  | 27 => ⟨S4x2048x1, .f32⟩
  | 28 => ⟨S1x1x64, .f32⟩
  | 29 => ⟨S4x2048x64, .f32⟩
  | 30 => ⟨S4x2048x64, .f32⟩
  | 31 => ⟨S4x2048x64, .f32⟩
  | 32 => ⟨S4x2048x64, .f32⟩
  | 33 => ⟨S4x2048x1x64, .f32⟩
  | 34 => ⟨S4x2048x64, .f32⟩
  | 35 => ⟨S4x2048x1x64, .f32⟩
  | 36 => ⟨S4x2048x4x64, .f32⟩
  | 37 => ⟨S4x2048x4x64, .f32⟩
  | 38 => ⟨S4x2048x4x64, .f32⟩
  | 39 => ⟨S4x2048x4x64, .f32⟩
  | 40 => ⟨S4x2048x4x64, .f32⟩
  | 41 => ⟨S4x2048x4x64, .f32⟩
  | 42 => ⟨S4x2048x4x64, .f32⟩
  | 43 => ⟨S4x2048x4x64, .f32⟩
  | 44 => ⟨S4x2048x4x64, .f32⟩
  | 45 => ⟨S4x2048x4x64, .f32⟩
  | 46 => ⟨S4x2048x4x64, .f32⟩
  | 47 => ⟨S4x2048x4x64, .f32⟩
  | 48 => ⟨S4x2048x4x128, .f32⟩
  | 49 => ⟨S4x2048x4x128, .f32⟩
  | 50 => ⟨S_, .f32⟩
  | 51 => ⟨S4x2048x4, .f32⟩
  | 52 => ⟨S_, .f32⟩
  | 53 => ⟨S4x2048x4, .f32⟩
  | 54 => ⟨S4x2048x4, .i1⟩
  | 55 => ⟨S_, .f32⟩
  | 56 => ⟨S4x2048x4, .f32⟩
  | 57 => ⟨S4x2048x4, .f32⟩
  | 58 => ⟨S_, .f32⟩
  | 59 => ⟨S4x2048x4, .f32⟩
  | 60 => ⟨S4x2048x4, .f32⟩
  | 61 => ⟨S4x2048x4x1, .f32⟩
  | 62 => ⟨S4x2048x4x128, .f32⟩
  | 63 => ⟨S4x2048x4x128, .f32⟩
  | 64 => ⟨S4x2048x4x128, .f32⟩
  | 65 => ⟨S_, .f32⟩
  | 66 => ⟨S_, .f32⟩
  | 67 => ⟨S_, .f32⟩
  | 68 => ⟨S4x2048x4x128, .f32⟩
  | 69 => ⟨S4x2048x4x128, .f32⟩
  | 70 => ⟨S_, .f32⟩
  | 71 => ⟨S4x2048x4x128, .f32⟩
  | 72 => ⟨S4x2048x4x128, .f32⟩
  | 73 => ⟨S4x2048x4x128, .i32⟩
  | 74 => ⟨S4x2048x4x128, .i8⟩
  | 75 => ⟨S4x2048x4x128, .f32⟩
  | 76 => ⟨S4x2048x4x128, .f32⟩
  | 77 => ⟨S_, .f32⟩
  | 78 => ⟨S4x2048x4, .f32⟩
  | 79 => ⟨S_, .f32⟩
  | 80 => ⟨S4x2048x4, .f32⟩
  | 81 => ⟨S4x2048x4, .i1⟩
  | 82 => ⟨S_, .f32⟩
  | 83 => ⟨S4x2048x4, .f32⟩
  | 84 => ⟨S4x2048x4, .f32⟩
  | 85 => ⟨S_, .f32⟩
  | 86 => ⟨S4x2048x4, .f32⟩
  | 87 => ⟨S4x2048x4, .f32⟩
  | 88 => ⟨S4x2048x4x1, .f32⟩
  | 89 => ⟨S4x2048x4x128, .f32⟩
  | 90 => ⟨S4x2048x4x128, .f32⟩
  | 91 => ⟨S4x2048x4x128, .f32⟩
  | 92 => ⟨S_, .f32⟩
  | 93 => ⟨S_, .f32⟩
  | 94 => ⟨S_, .f32⟩
  | 95 => ⟨S4x2048x4x128, .f32⟩
  | 96 => ⟨S4x2048x4x128, .f32⟩
  | 97 => ⟨S_, .f32⟩
  | 98 => ⟨S4x2048x4x128, .f32⟩
  | 99 => ⟨S4x2048x4x128, .f32⟩
  | 100 => ⟨S4x2048x4x128, .i32⟩
  | 101 => ⟨S4x2048x4x128, .i8⟩
  | 102 => ⟨S_, .i32⟩
  | 103 => ⟨S_, .i32⟩
  | 104 => ⟨S4, .i32⟩
  | 105 => ⟨S4, .i32⟩
  | 106 => ⟨S4, .i32⟩
  | 107 => ⟨S_, .i32⟩
  | 108 => ⟨S4, .i32⟩
  | 109 => ⟨S4, .i1⟩
  | 110 => ⟨S4, .i32⟩
  | 111 => ⟨S4, .i32⟩
  | 112 => ⟨S_, .i32⟩
  | 113 => ⟨S4, .i32⟩
  | 114 => ⟨S4, .i1⟩
  | 115 => ⟨S4, .i1⟩
  | 116 => ⟨S_, .i32⟩
  | 117 => ⟨S4, .i32⟩
  | 118 => ⟨S4, .i32⟩
  | 119 => ⟨S4, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S4, .i32⟩
  | 127 => ⟨S4, .i32⟩
  | _ => ⟨S4x2048x4x128, .bf16⟩

abbrev hbmTy0_1 (i : Nat) : BufTy := match i % 128 with
  | 0 => ⟨S_, .i32⟩
  | 1 => ⟨S4, .i32⟩
  | 2 => ⟨S4, .i1⟩
  | 3 => ⟨S_, .i32⟩
  | 4 => ⟨S4, .i32⟩
  | 5 => ⟨S4, .i1⟩
  | 6 => ⟨S_, .i32⟩
  | 7 => ⟨S_, .i1⟩
  | 8 => ⟨S4, .i1⟩
  | 9 => ⟨S4, .i1⟩
  | 10 => ⟨S4, .i1⟩
  | 11 => ⟨S4, .i32⟩
  | 12 => ⟨S4, .i32⟩
  | 13 => ⟨S4, .i32⟩
  | 14 => ⟨S4x1, .i32⟩
  | 15 => ⟨S129, .i32⟩
  | 16 => ⟨S1x129, .i32⟩
  | 17 => ⟨S4x129, .i32⟩
  | 18 => ⟨S4x129, .i32⟩
  | 19 => ⟨S4x129, .i32⟩
  | 20 => ⟨S_, .i32⟩
  | 21 => ⟨S4x129, .i32⟩
  | 22 => ⟨S4x129, .i1⟩
  | 23 => ⟨S_, .i32⟩
  | 24 => ⟨S4x129, .i32⟩
  | 25 => ⟨S4x129, .i32⟩
  | 26 => ⟨S4x129, .i32⟩
  | 27 => ⟨S4x129x1, .i32⟩
  | 28 => ⟨S4x129, .i32⟩
  | 29 => ⟨S2064, .i32⟩
  | 30 => ⟨S1x2064, .i32⟩
  | 31 => ⟨S4x1, .i32⟩
  | 32 => ⟨S4x2064, .i32⟩
  | 33 => ⟨S4x2064, .i32⟩
  | 34 => ⟨S4x2064, .i1⟩
  | 35 => ⟨S4x1, .i32⟩
  | 36 => ⟨S_, .i32⟩
  | 37 => ⟨S4x1, .i32⟩
  | 38 => ⟨S4x1, .i32⟩
  | 39 => ⟨S4x2064, .i32⟩
  | 40 => ⟨S4x2064, .i32⟩
  | 41 => ⟨S4x2064, .i1⟩
  | 42 => ⟨S4x2064, .i1⟩
  | 43 => ⟨S_, .i32⟩
  | 44 => ⟨S4x129, .i32⟩
  | 45 => ⟨S4x129, .i1⟩
  | 46 => ⟨S_, .i32⟩
  | 47 => ⟨S4x129, .i32⟩
  | 48 => ⟨S4x129, .i32⟩
  | 49 => ⟨S4x129, .i32⟩
  | 50 => ⟨S4x129x1, .i32⟩
  | 51 => ⟨S4x129x16x4x128, .i8⟩
  | 52 => ⟨S4x2064x4x128, .i8⟩
  | 53 => ⟨S2064, .i32⟩
  | 54 => ⟨S1x2064, .i32⟩
  | 55 => ⟨S4x1, .i32⟩
  | 56 => ⟨S4x2064, .i32⟩
  | 57 => ⟨S4x2064, .i32⟩
  | 58 => ⟨S4x2064, .i32⟩
  | 59 => ⟨S_, .i32⟩
  | 60 => ⟨S_, .i32⟩
  | 61 => ⟨S_, .i32⟩
  | 62 => ⟨S4x2064, .i32⟩
  | 63 => ⟨S4x2064, .i32⟩
  | 64 => ⟨S_, .i32⟩
  | 65 => ⟨S4x2064, .i32⟩
  | 66 => ⟨S4x2064, .i32⟩
  | 67 => ⟨S4x2064x1x1, .i32⟩
  | 68 => ⟨S_, .i32⟩
  | 69 => ⟨S4x2064x1x1, .i32⟩
  | 70 => ⟨S4x2064x1x1, .i1⟩
  | 71 => ⟨S_, .i32⟩
  | 72 => ⟨S4x2064x1x1, .i32⟩
  | 73 => ⟨S4x2064x1x1, .i32⟩
  | 74 => ⟨S4x2064x1x1, .i32⟩
  | 75 => ⟨S4x2064x1, .i32⟩
  | 76 => ⟨S4x2064x4x128, .i8⟩
  | 77 => ⟨S4x2064x1x1, .i1⟩
  | 78 => ⟨S4x2064x4x128, .i1⟩
  | 79 => ⟨S4x2064x4x128, .i8⟩
  | 80 => ⟨S4x129x16x4x128, .i8⟩
  | 81 => ⟨S_, .i32⟩
  | 82 => ⟨S4x129, .i32⟩
  | 83 => ⟨S4x129, .i1⟩
  | 84 => ⟨S_, .i32⟩
  | 85 => ⟨S4x129, .i32⟩
  | 86 => ⟨S4x129, .i32⟩
  | 87 => ⟨S4x129, .i32⟩
  | 88 => ⟨S4x129x1, .i32⟩
  | 89 => ⟨S4x129x16x4, .f32⟩
  | 90 => ⟨S4x2064x4, .f32⟩
  | 91 => ⟨S2064, .i32⟩
  | 92 => ⟨S1x2064, .i32⟩
  | 93 => ⟨S4x1, .i32⟩
  | 94 => ⟨S4x2064, .i32⟩
  | 95 => ⟨S4x2064, .i32⟩
  | 96 => ⟨S4x2064, .i32⟩
  | 97 => ⟨S_, .i32⟩
  | 98 => ⟨S_, .i32⟩
  | 99 => ⟨S_, .i32⟩
  | 100 => ⟨S4x2064, .i32⟩
  | 101 => ⟨S4x2064, .i32⟩
  | 102 => ⟨S_, .i32⟩
  | 103 => ⟨S4x2064, .i32⟩
  | 104 => ⟨S4x2064, .i32⟩
  | 105 => ⟨S4x2064x1, .i32⟩
  | 106 => ⟨S_, .i32⟩
  | 107 => ⟨S4x2064x1, .i32⟩
  | 108 => ⟨S4x2064x1, .i1⟩
  | 109 => ⟨S_, .i32⟩
  | 110 => ⟨S4x2064x1, .i32⟩
  | 111 => ⟨S4x2064x1, .i32⟩
  | 112 => ⟨S4x2064x1, .i32⟩
  | 113 => ⟨S4x2064x4, .f32⟩
  | 114 => ⟨S4x2064x1, .i1⟩
  | 115 => ⟨S4x2064x4, .i1⟩
  | 116 => ⟨S4x2064x4, .f32⟩
  | 117 => ⟨S4x129x16x4, .f32⟩
  | 118 => ⟨S_, .i32⟩
  | 119 => ⟨S4x129, .i32⟩
  | 120 => ⟨S4x129, .i1⟩
  | 121 => ⟨S_, .i32⟩
  | 122 => ⟨S4x129, .i32⟩
  | 123 => ⟨S4x129, .i32⟩
  | 124 => ⟨S4x129, .i32⟩
  | 125 => ⟨S4x129x1, .i32⟩
  | 126 => ⟨S4x129x16x4x128, .i8⟩
  | 127 => ⟨S4x2064x4x128, .i8⟩
  | _ => ⟨S4x2048x4x128, .bf16⟩

abbrev hbmTy0_2 (i : Nat) : BufTy := match i % 128 with
  | 0 => ⟨S2064, .i32⟩
  | 1 => ⟨S1x2064, .i32⟩
  | 2 => ⟨S4x1, .i32⟩
  | 3 => ⟨S4x2064, .i32⟩
  | 4 => ⟨S4x2064, .i32⟩
  | 5 => ⟨S4x2064, .i32⟩
  | 6 => ⟨S_, .i32⟩
  | 7 => ⟨S_, .i32⟩
  | 8 => ⟨S_, .i32⟩
  | 9 => ⟨S4x2064, .i32⟩
  | 10 => ⟨S4x2064, .i32⟩
  | 11 => ⟨S_, .i32⟩
  | 12 => ⟨S4x2064, .i32⟩
  | 13 => ⟨S4x2064, .i32⟩
  | 14 => ⟨S4x2064x1x1, .i32⟩
  | 15 => ⟨S_, .i32⟩
  | 16 => ⟨S4x2064x1x1, .i32⟩
  | 17 => ⟨S4x2064x1x1, .i1⟩
  | 18 => ⟨S_, .i32⟩
  | 19 => ⟨S4x2064x1x1, .i32⟩
  | 20 => ⟨S4x2064x1x1, .i32⟩
  | 21 => ⟨S4x2064x1x1, .i32⟩
  | 22 => ⟨S4x2064x1, .i32⟩
  | 23 => ⟨S4x2064x4x128, .i8⟩
  | 24 => ⟨S4x2064x1x1, .i1⟩
  | 25 => ⟨S4x2064x4x128, .i1⟩
  | 26 => ⟨S4x2064x4x128, .i8⟩
  | 27 => ⟨S4x129x16x4x128, .i8⟩
  | 28 => ⟨S_, .i32⟩
  | 29 => ⟨S4x129, .i32⟩
  | 30 => ⟨S4x129, .i1⟩
  | 31 => ⟨S_, .i32⟩
  | 32 => ⟨S4x129, .i32⟩
  | 33 => ⟨S4x129, .i32⟩
  | 34 => ⟨S4x129, .i32⟩
  | 35 => ⟨S4x129x1, .i32⟩
  | 36 => ⟨S4x129x16x4, .f32⟩
  | 37 => ⟨S4x2064x4, .f32⟩
  | 38 => ⟨S2064, .i32⟩
  | 39 => ⟨S1x2064, .i32⟩
  | 40 => ⟨S4x1, .i32⟩
  | 41 => ⟨S4x2064, .i32⟩
  | 42 => ⟨S4x2064, .i32⟩
  | 43 => ⟨S4x2064, .i32⟩
  | 44 => ⟨S_, .i32⟩
  | 45 => ⟨S_, .i32⟩
  | 46 => ⟨S_, .i32⟩
  | 47 => ⟨S4x2064, .i32⟩
  | 48 => ⟨S4x2064, .i32⟩
  | 49 => ⟨S_, .i32⟩
  | 50 => ⟨S4x2064, .i32⟩
  | 51 => ⟨S4x2064, .i32⟩
  | 52 => ⟨S4x2064x1, .i32⟩
  | 53 => ⟨S_, .i32⟩
  | 54 => ⟨S4x2064x1, .i32⟩
  | 55 => ⟨S4x2064x1, .i1⟩
  | 56 => ⟨S_, .i32⟩
  | 57 => ⟨S4x2064x1, .i32⟩
  | 58 => ⟨S4x2064x1, .i32⟩
  | 59 => ⟨S4x2064x1, .i32⟩
  | 60 => ⟨S4x2064x4, .f32⟩
  | 61 => ⟨S4x2064x1, .i1⟩
  | 62 => ⟨S4x2064x4, .i1⟩
  | 63 => ⟨S4x2064x4, .f32⟩
  | 64 => ⟨S4x129x16x4, .f32⟩
  | 65 => ⟨S4x8256x128, .i8⟩
  | 66 => ⟨S4x2064x4, .f32⟩
  | 67 => ⟨S4x8256x128, .i8⟩
  | 68 => ⟨S4x2064x4, .f32⟩
  | 69 => ⟨S4x8192x128, .i8⟩
  | 70 => ⟨S4x8192x128, .i8⟩
  | _ => ⟨S4x2048x4x128, .bf16⟩

abbrev hbmTy (i : Nat) : BufTy := match i / 128 with
  | 0 => hbmTy0_0 i
  | 1 => hbmTy0_1 i
  | 2 => hbmTy0_2 i
  | _ => ⟨S4x2048x4x128, .bf16⟩

abbrev bufTy : (tb : Table) → Fin (tcTables nBuf tb) → BufTy
  | .hbm, ⟨i, _⟩ => hbmTy i
  | _, _ => ⟨S4x2048x4x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_cst_7 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_call3_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_cst_13 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_v6 : Ref sig .tc := ⟨.hbm, 109, rfl⟩
abbrev main_call6_v7 : Ref sig .tc := ⟨.hbm, 110, rfl⟩
abbrev main_call6_v8 : Ref sig .tc := ⟨.hbm, 111, rfl⟩
abbrev main_call6_c : Ref sig .tc := ⟨.hbm, 112, rfl⟩
abbrev main_call6_v9 : Ref sig .tc := ⟨.hbm, 113, rfl⟩
abbrev main_call6_v10 : Ref sig .tc := ⟨.hbm, 114, rfl⟩
abbrev main_call6_v11 : Ref sig .tc := ⟨.hbm, 115, rfl⟩
abbrev main_call6_c_0 : Ref sig .tc := ⟨.hbm, 116, rfl⟩
abbrev main_call6_v12 : Ref sig .tc := ⟨.hbm, 117, rfl⟩
abbrev main_call6_v13 : Ref sig .tc := ⟨.hbm, 118, rfl⟩
abbrev main_v66 : Ref sig .tc := ⟨.hbm, 119, rfl⟩
abbrev main_c_14 : Ref sig .tc := ⟨.hbm, 120, rfl⟩
abbrev main_call7_v0 : Ref sig .tc := ⟨.hbm, 121, rfl⟩
abbrev main_call7_c : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_c_1 : Ref sig .tc := ⟨.hbm, 128, rfl⟩
abbrev main_call7_v5 : Ref sig .tc := ⟨.hbm, 129, rfl⟩
abbrev main_call7_v6 : Ref sig .tc := ⟨.hbm, 130, rfl⟩
abbrev main_call7_c_2 : Ref sig .tc := ⟨.hbm, 131, rfl⟩
abbrev main_call7_v7 : Ref sig .tc := ⟨.hbm, 132, rfl⟩
abbrev main_call7_v8 : Ref sig .tc := ⟨.hbm, 133, rfl⟩
abbrev main_call7_c_3 : Ref sig .tc := ⟨.hbm, 134, rfl⟩
abbrev main_call7_v9 : Ref sig .tc := ⟨.hbm, 135, rfl⟩
abbrev main_call7_v10 : Ref sig .tc := ⟨.hbm, 136, rfl⟩
abbrev main_call7_v11 : Ref sig .tc := ⟨.hbm, 137, rfl⟩
abbrev main_call7_v12 : Ref sig .tc := ⟨.hbm, 138, rfl⟩
abbrev main_call7_v13 : Ref sig .tc := ⟨.hbm, 139, rfl⟩
abbrev main_call7_v14 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_call8_c : Ref sig .tc := ⟨.hbm, 148, rfl⟩
abbrev main_call8_v0 : Ref sig .tc := ⟨.hbm, 149, rfl⟩
abbrev main_call8_v1 : Ref sig .tc := ⟨.hbm, 150, rfl⟩
abbrev main_call8_c_0 : Ref sig .tc := ⟨.hbm, 151, rfl⟩
abbrev main_call8_v2 : Ref sig .tc := ⟨.hbm, 152, rfl⟩
abbrev main_call8_v3 : Ref sig .tc := ⟨.hbm, 153, rfl⟩
abbrev main_call8_v4 : Ref sig .tc := ⟨.hbm, 154, rfl⟩
abbrev main_call8_v5 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_c_15 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_c_16 : Ref sig .tc := ⟨.hbm, 171, rfl⟩
abbrev main_v88 : Ref sig .tc := ⟨.hbm, 172, rfl⟩
abbrev main_v89 : Ref sig .tc := ⟨.hbm, 173, rfl⟩
abbrev main_c_17 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_c_18 : Ref sig .tc := ⟨.hbm, 187, rfl⟩
abbrev main_c_19 : Ref sig .tc := ⟨.hbm, 188, rfl⟩
abbrev main_call9_v0 : Ref sig .tc := ⟨.hbm, 189, rfl⟩
abbrev main_call9_v1 : Ref sig .tc := ⟨.hbm, 190, rfl⟩
abbrev main_call9_v2 : Ref sig .tc := ⟨.hbm, 191, rfl⟩
abbrev main_call9_v3 : Ref sig .tc := ⟨.hbm, 192, rfl⟩
abbrev main_call9_v4 : Ref sig .tc := ⟨.hbm, 193, rfl⟩
abbrev main_v102 : Ref sig .tc := ⟨.hbm, 194, rfl⟩
abbrev main_v103 : Ref sig .tc := ⟨.hbm, 195, rfl⟩
abbrev main_call10_c : Ref sig .tc := ⟨.hbm, 196, rfl⟩
abbrev main_call10_v0 : Ref sig .tc := ⟨.hbm, 197, rfl⟩
abbrev main_call10_v1 : Ref sig .tc := ⟨.hbm, 198, rfl⟩
abbrev main_call10_c_0 : Ref sig .tc := ⟨.hbm, 199, rfl⟩
abbrev main_call10_v2 : Ref sig .tc := ⟨.hbm, 200, rfl⟩
abbrev main_call10_v3 : Ref sig .tc := ⟨.hbm, 201, rfl⟩
abbrev main_call10_v4 : Ref sig .tc := ⟨.hbm, 202, rfl⟩
abbrev main_call10_v5 : Ref sig .tc := ⟨.hbm, 203, rfl⟩
abbrev main_v104 : Ref sig .tc := ⟨.hbm, 204, rfl⟩
abbrev main_v105 : Ref sig .tc := ⟨.hbm, 205, rfl⟩
abbrev main_call11_v0 : Ref sig .tc := ⟨.hbm, 206, rfl⟩
abbrev main_v106 : Ref sig .tc := ⟨.hbm, 207, rfl⟩
abbrev main_v107 : Ref sig .tc := ⟨.hbm, 208, rfl⟩
abbrev main_c_20 : Ref sig .tc := ⟨.hbm, 209, rfl⟩
abbrev main_v108 : Ref sig .tc := ⟨.hbm, 210, rfl⟩
abbrev main_v109 : Ref sig .tc := ⟨.hbm, 211, rfl⟩
abbrev main_c_21 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_c_22 : Ref sig .tc := ⟨.hbm, 225, rfl⟩
abbrev main_c_23 : Ref sig .tc := ⟨.hbm, 226, rfl⟩
abbrev main_call12_v0 : Ref sig .tc := ⟨.hbm, 227, rfl⟩
abbrev main_call12_v1 : Ref sig .tc := ⟨.hbm, 228, rfl⟩
abbrev main_call12_v2 : Ref sig .tc := ⟨.hbm, 229, rfl⟩
abbrev main_call12_v3 : Ref sig .tc := ⟨.hbm, 230, rfl⟩
abbrev main_call12_v4 : Ref sig .tc := ⟨.hbm, 231, rfl⟩
abbrev main_v122 : Ref sig .tc := ⟨.hbm, 232, rfl⟩
abbrev main_v123 : Ref sig .tc := ⟨.hbm, 233, rfl⟩
abbrev main_call13_c : Ref sig .tc := ⟨.hbm, 234, rfl⟩
abbrev main_call13_v0 : Ref sig .tc := ⟨.hbm, 235, rfl⟩
abbrev main_call13_v1 : Ref sig .tc := ⟨.hbm, 236, rfl⟩
abbrev main_call13_c_0 : Ref sig .tc := ⟨.hbm, 237, rfl⟩
abbrev main_call13_v2 : Ref sig .tc := ⟨.hbm, 238, rfl⟩
abbrev main_call13_v3 : Ref sig .tc := ⟨.hbm, 239, rfl⟩
abbrev main_call13_v4 : Ref sig .tc := ⟨.hbm, 240, rfl⟩
abbrev main_v124 : Ref sig .tc := ⟨.hbm, 241, rfl⟩
abbrev main_v125 : Ref sig .tc := ⟨.hbm, 242, rfl⟩
abbrev main_call14_v0 : Ref sig .tc := ⟨.hbm, 243, rfl⟩
abbrev main_v126 : Ref sig .tc := ⟨.hbm, 244, rfl⟩
abbrev main_v127 : Ref sig .tc := ⟨.hbm, 245, rfl⟩
abbrev main_c_24 : Ref sig .tc := ⟨.hbm, 246, rfl⟩
abbrev main_v128 : Ref sig .tc := ⟨.hbm, 247, rfl⟩
abbrev main_v129 : Ref sig .tc := ⟨.hbm, 248, rfl⟩
abbrev main_c_25 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_c_26 : Ref sig .tc := ⟨.hbm, 262, rfl⟩
abbrev main_c_27 : Ref sig .tc := ⟨.hbm, 263, rfl⟩
abbrev main_call15_v0 : Ref sig .tc := ⟨.hbm, 264, rfl⟩
abbrev main_call15_v1 : Ref sig .tc := ⟨.hbm, 265, rfl⟩
abbrev main_call15_v2 : Ref sig .tc := ⟨.hbm, 266, rfl⟩
abbrev main_call15_v3 : Ref sig .tc := ⟨.hbm, 267, rfl⟩
abbrev main_call15_v4 : Ref sig .tc := ⟨.hbm, 268, rfl⟩
abbrev main_v142 : Ref sig .tc := ⟨.hbm, 269, rfl⟩
abbrev main_v143 : Ref sig .tc := ⟨.hbm, 270, rfl⟩
abbrev main_call16_c : Ref sig .tc := ⟨.hbm, 271, rfl⟩
abbrev main_call16_v0 : Ref sig .tc := ⟨.hbm, 272, rfl⟩
abbrev main_call16_v1 : Ref sig .tc := ⟨.hbm, 273, rfl⟩
abbrev main_call16_c_0 : Ref sig .tc := ⟨.hbm, 274, rfl⟩
abbrev main_call16_v2 : Ref sig .tc := ⟨.hbm, 275, rfl⟩
abbrev main_call16_v3 : Ref sig .tc := ⟨.hbm, 276, rfl⟩
abbrev main_call16_v4 : Ref sig .tc := ⟨.hbm, 277, rfl⟩
abbrev main_call16_v5 : Ref sig .tc := ⟨.hbm, 278, rfl⟩
abbrev main_v144 : Ref sig .tc := ⟨.hbm, 279, rfl⟩
abbrev main_v145 : Ref sig .tc := ⟨.hbm, 280, rfl⟩
abbrev main_call17_v0 : Ref sig .tc := ⟨.hbm, 281, rfl⟩
abbrev main_v146 : Ref sig .tc := ⟨.hbm, 282, rfl⟩
abbrev main_v147 : Ref sig .tc := ⟨.hbm, 283, rfl⟩
abbrev main_c_28 : Ref sig .tc := ⟨.hbm, 284, rfl⟩
abbrev main_v148 : Ref sig .tc := ⟨.hbm, 285, rfl⟩
abbrev main_v149 : Ref sig .tc := ⟨.hbm, 286, rfl⟩
abbrev main_c_29 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_c_30 : Ref sig .tc := ⟨.hbm, 300, rfl⟩
abbrev main_c_31 : Ref sig .tc := ⟨.hbm, 301, rfl⟩
abbrev main_call18_v0 : Ref sig .tc := ⟨.hbm, 302, rfl⟩
abbrev main_call18_v1 : Ref sig .tc := ⟨.hbm, 303, rfl⟩
abbrev main_call18_v2 : Ref sig .tc := ⟨.hbm, 304, rfl⟩
abbrev main_call18_v3 : Ref sig .tc := ⟨.hbm, 305, rfl⟩
abbrev main_call18_v4 : Ref sig .tc := ⟨.hbm, 306, rfl⟩
abbrev main_v162 : Ref sig .tc := ⟨.hbm, 307, rfl⟩
abbrev main_v163 : Ref sig .tc := ⟨.hbm, 308, rfl⟩
abbrev main_call19_c : Ref sig .tc := ⟨.hbm, 309, rfl⟩
abbrev main_call19_v0 : Ref sig .tc := ⟨.hbm, 310, rfl⟩
abbrev main_call19_v1 : Ref sig .tc := ⟨.hbm, 311, rfl⟩
abbrev main_call19_c_0 : Ref sig .tc := ⟨.hbm, 312, rfl⟩
abbrev main_call19_v2 : Ref sig .tc := ⟨.hbm, 313, rfl⟩
abbrev main_call19_v3 : Ref sig .tc := ⟨.hbm, 314, rfl⟩
abbrev main_call19_v4 : Ref sig .tc := ⟨.hbm, 315, rfl⟩
abbrev main_v164 : Ref sig .tc := ⟨.hbm, 316, rfl⟩
abbrev main_v165 : Ref sig .tc := ⟨.hbm, 317, rfl⟩
abbrev main_call20_v0 : Ref sig .tc := ⟨.hbm, 318, rfl⟩
abbrev main_v166 : Ref sig .tc := ⟨.hbm, 319, rfl⟩
abbrev main_v167 : Ref sig .tc := ⟨.hbm, 320, rfl⟩
abbrev main_v168 : Ref sig .tc := ⟨.hbm, 321, rfl⟩
abbrev main_v169 : Ref sig .tc := ⟨.hbm, 322, rfl⟩
abbrev main_v170 : Ref sig .tc := ⟨.hbm, 323, rfl⟩
abbrev main_v171 : Ref sig .tc := ⟨.hbm, 324, rfl⟩
abbrev main_v172 : Ref sig .tc := ⟨.hbm, 325, rfl⟩
abbrev main_v173 : Ref sig .tc := ⟨.hbm, 326, rfl⟩

abbrev nD : Nat := 1
abbrev τ : Topo := Topo.v7x

variable {F : FTy → Type} [FloatOps F]
-- ==== Proof.Kernel.Points.lean ====
/- The schedule of the key/value cache write's pipeline in closed form over the grid points. -/
module

public import proofs.«01_k».proof.Proof.Gen.Kernel
public import Idealize.ShloMosaic.Lib.Pipeline.Kit

@[expose] public section

noncomputable section

namespace Cert.Kernel.Hand

open Cert.Kernel.Gen

open Idealize.ShloMosaic Idealize.ShloMosaic.TcCoe
open Idealize.SL Idealize.SL.Sem

variable {F : FTy → Type} [BitOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%11)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 4 (%12)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
/-- Window 10 (result 0 (%13#0)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 0 (fun _ => rfl) (by decide)) (P := 8) (m := 7) (by decide) rfl t : ∀ t : Fin grid0.N, Pipeline.Window.flushOf grid0 true cc0_transform_10 t = true ↔ t.val % 8 = 7)
/-- Window 11 (result 1 (%13#1)) is written back at the points ≡ 7 (mod 8), at any contents of the tables (its index map reads none). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 2 (%13#2)) is written back at the points ≡ 7 (mod 8), at any contents of the tables (its index map reads none). -/
theorem flush0_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 0 (fun _ => rfl) (by decide)) (P := 8) (m := 7) (by decide) rfl t : ∀ t : Fin grid0.N, Pipeline.Window.flushOf grid0 true cc0_transform_12 t = true ↔ t.val % 8 = 7)
/-- Window 13 (result 3 (%13#3)) is written back at the points ≡ 7 (mod 8), at any contents of the tables (its index map reads none). -/
theorem flush0_13 (a : (pcfg0 (F := F)).Adm) : ∀ t : Fin (cfg0 a).N, ((cfg0 a).win 13).flush t = true ↔ t.val % 8 = 7 :=
  (fun t => Pipeline.Window.flushOf_reads cc0_transform_13 reads0_13 hreads0_13 0 (by decide) (by decide) (Pipeline.Window.sep_of_coord cc0_transform_13 0 0 (fun _ => rfl) (by decide)) (P := 8) (m := 7) (by decide) rfl t : ∀ t : Fin grid0.N, Pipeline.Window.flushOf grid0 true cc0_transform_13 t = true ↔ t.val % 8 = 7)
/-- Window 14 (result 4 (%13#4)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 1 (by decide) (by decide) (Pipeline.Window.sep_of_coord cc0_transform_14 1 1 (fun _ => rfl) (by decide)) (P := 1) (m := 0) (by decide) rfl t).mpr (Nat.mod_one _) : ∀ t : Fin grid0.N, Pipeline.Window.flushOf grid0 true cc0_transform_14 t = true)
/-- Window 15 (result 5 (%13#5)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 1 (by decide) (by decide) (Pipeline.Window.sep_of_coord cc0_transform_15 1 1 (fun _ => rfl) (by decide)) (P := 1) (m := 0) (by decide) rfl t).mpr (Nat.mod_one _) : ∀ t : Fin grid0.N, Pipeline.Window.flushOf grid0 true cc0_transform_15 t = true)
/-- Window 16 (result 6 (%13#6)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 1 (by decide) (by decide) (Pipeline.Window.sep_of_coord cc0_transform_16 1 1 (fun _ => rfl) (by decide)) (P := 1) (m := 0) (by decide) rfl t).mpr (Nat.mod_one _) : ∀ t : Fin grid0.N, Pipeline.Window.flushOf grid0 true cc0_transform_16 t = true)
/-- Window 17 (result 7 (%13#7)) is written back at every point, at any contents of the tables (its index map reads none). -/
theorem flush0_17 (a : (pcfg0 (F := F)).Adm) : ∀ t : Fin (cfg0 a).N, ((cfg0 a).win 17).flush t = true :=
  (fun t => (Pipeline.Window.flushOf_reads cc0_transform_17 reads0_17 hreads0_17 1 (by decide) (by decide) (Pipeline.Window.sep_of_coord cc0_transform_17 1 1 (fun _ => rfl) (by decide)) (P := 1) (m := 0) (by decide) rfl t).mpr (Nat.mod_one _) : ∀ t : Fin grid0.N, Pipeline.Window.flushOf grid0 true cc0_transform_17 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_paged_kv_write (grid0.coords t) (Memref.whole main_v10) (Memref.isWhole_whole _) (Memref.whole main_arg7) (Memref.isWhole_whole _) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _) (Memref.whole cc0_scratch1) (Memref.isWhole_whole _)

end Cert.Kernel.Hand

end
-- ==== Proof.Kernel.Kit.lean ====
/- What the runs of the body share: @main up to the pipelined region, the prefetched tables, the windows' blocks, the branch conditions in closed form and the side condition the body assumes. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x2 .i32 := Memref.whole main_v10
abbrev htbM0_0 : tbM0_0.IsWhole := Memref.isWhole_whole _
abbrev tbM0_1 : Memref sig .tc .smem S4 .i32 := Memref.whole main_arg7
abbrev htbM0_1 : tbM0_1.IsWhole := Memref.isWhole_whole _
abbrev tbM0_2 : Memref sig .tc .smem S4 .i32 := Memref.whole main_arg8
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 5 rfl).trans ((hA c 5).trans (V_main_arg3 m c)),
      ((h c).2 main_arg4 (by decide : main_arg4 ∈ Pipeline.restRefs sig spec0)).trans (V_main_arg4 m c),
      (Pipeline.RDat.FramePost.arr_in h c 9 rfl).trans ((hA c 9).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin grid0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1024x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x128 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x128 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x16x4 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x16x4 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x128 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x128 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16x4 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x16x4 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8256x128 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x2064x4 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x8256x128 .i8 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x2064x4 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1024x128 .i8 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x256x4 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1024x128 .i8 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x256x4 .f32 := spec0_17.stage ((cfgM m hO).slots t 17)
abbrev hs0_17 (hO : Ok m) (t : Fin (cfgM m hO).N) : (ms0_17 m hO t).IsWhole := hstage0_17 (((cfgM m hO).slots t 17).cast nbuf0_17)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos)))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
/- The body run at the first grid point (both conditionals taken): the outputs are handed back at some contents. -/
module

public import proofs.«01_k».proof.Proof.Kernel.Kit

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1312000 in
/-- The body's triple IN CASE A (`scf.if` 0 taken, `scf.if` 1 taken: points 0): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.Kernel.Hand

end
-- ==== Proof.Kernel.RunB.lean ====
/- The body run at a point that starts no batch (no conditional taken): the outputs are handed back at some contents. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1152000 in
/-- The body's triple IN CASE B (`scf.if` 0 not taken, `scf.if` 1 not taken: points 1, 2, … 31: 28 of 32): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : ¬cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.Kernel.Hand

end
-- ==== Proof.Kernel.RunC.lean ====
/- The body run at a point that starts a batch but is not the first (the second conditional taken): the outputs are handed back at some contents. -/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1288000 in
/-- The body's triple IN CASE C (`scf.if` 0 not taken, `scf.if` 1 taken: points 8, 16, 24): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.Kernel.Hand

end
-- ==== Proof.Kernel.Frame.lean ====
/- The frame: proof data with the outputs forgotten, the body obligation at every point, the launch, and the frame claim under the admissibility of the tables and the assumed side condition. -/
module

public import proofs.«01_k».proof.Proof.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14, 15, 16, 17): nothing reads what the kernel leaves in them, so nothing
    of it is named (Lib/Pipeline/Dat.lean `Dat.toRForget`). -/
def forgets0 : Fin 18 → Bool := fun w => w.val == 10 || w.val == 11 || w.val == 12 || w.val == 13 || w.val == 14 || w.val == 15 || w.val == 16 || w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨_ + 18, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d))

set_option maxHeartbeats 6000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9]
  rw [show (dats m hO hH 0 c).Φ t.castSucc = iprop(Pipeline.ΦA spec0 c ∗ Pipeline.ΦT pre0 (tbl m) c) from rfl, PhiT0_eq, PhiA0_eq]
  have hN : t.val < 32 := lt_of_lt_of_eq t.isLt (show (cfgM m hO).N = 32 from N_0)
  by_cases h0 : t.val % 32 = 0
  · by_cases h1 : t.val % 8 = 0
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · exfalso; omega
  · by_cases h1 : t.val % 8 = 0
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14, 15, 16, 17) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.facts, fun m ρ _ => Cert.Kernel.frame m ρ⟩`; here for every contents of the PREFETCHED TABLES, UNDER `Ok m` (the pipeline's side condition of
    them) and `Hyps m hO` (the side conditions the body assumes, at every point), which Proof.lean proves from the precondition: `⟨…, fun m ρ h => Cert.Kernel.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hH) ((θ_run defs _ _).mono (fun _ h => h.2) (run_main_quiescent m ρ hO hH))

end Cert.Kernel.Hand

end
-- ==== Proof.Request.lean ====
/- The precondition `valid_request` decoded: what it says of the page table, the past lengths and the start positions. -/
module

public import proofs.«01_k».proof.Proof.Gen.Pre_valid_request
public import Idealize.ShloMosaic.Lib.ReduceAll
public import Idealize.ShloMosaic.Lib.StableHlo.Predicate

@[expose] public section

namespace Cert.Request

open Idealize.ShloMosaic Cert.Pre_valid_request

/-- What the predicate says, word by word: every page id is below 2565 and not negative, every past length is between 0
    and 6144, every start position is at most 2147481599. -/
structure Valid (table : IVec S4x513 32) (past : IVec S4 32) (pos : IVec S4 32) : Prop where
  page : ∀ j, (table j).toNat < 2565
  past : ∀ j, (past j).toNat ≤ 6144
  pos : ∀ j, (pos j).toInt ≤ 2147481599

/-- The predicate all ones gives those bounds. -/
theorem valid_of_fn {F : FTy → Type} [FloatOps F] {a0 : FVec F S4x2048x4x128 .bf16} {a1 : FVec F S4x2048x4x128 .bf16}
    {a2 : IVec S2565x16x4x128 8} {a3 : FVec F S2565x16x4 .f32} {a4 : IVec S2565x16x4x128 8} {a5 : FVec F S2565x16x4 .f32}
    {table : IVec S4x513 32} {past pos : IVec S4 32}
    (h : Cert.Pre_valid_request.fn (F := F) a0 a1 a2 a3 a4 a5 table past pos = fun _ => 1#1) : Valid table past pos := by
  have e := congrFun h (fun a => a.elim0)
  simp only [Cert.Pre_valid_request.fn, fn_part1, andi, IntOp.andi_eq_one] at e
  obtain ⟨⟨e1, e2⟩, e3⟩ := e
  haveI : Subsingleton S_.Idx := ⟨fun y z => funext fun a => a.elim0⟩
  have f1 := fun i => Host.reduce_andi_all _ _ _ _ _ e1 i
  have f2 := fun i => Host.reduce_andi_all _ _ _ _ _ e2 i
  have f3 := fun i => Host.reduce_andi_all _ _ _ _ _ e3 i
  clear e1 e2 e3 h
  refine ⟨fun j => ?_, fun j => ?_, fun j => ?_⟩
  · have g := f1 j
    simp only [andi, IntOp.andi_eq_one, cmpi, broadcastInDim, constantI, IntOp.cmpi, StableHlo.Predicate.ofBool_eq_one_iff, BitVec.sle, BitVec.slt, decide_eq_true_eq,
      BitVec.toInt, BitVec.toNat_ofNat] at g
    omega
  · have g := f2 j
    simp only [andi, IntOp.andi_eq_one, cmpi, broadcastInDim, constantI, IntOp.cmpi, StableHlo.Predicate.ofBool_eq_one_iff, BitVec.sle, BitVec.slt, decide_eq_true_eq,
      BitVec.toInt, BitVec.toNat_ofNat] at g
    omega
  · have g := f3 j
    simp only [cmpi, broadcastInDim, constantI, IntOp.cmpi, StableHlo.Predicate.ofBool_eq_one_iff, BitVec.sle, decide_eq_true_eq] at g
    have k : (2147481599#32 : BitVec 32).toInt = 2147481599 := by decide
    have g' := of_decide_eq_true g
    rwa [k] at g'

end Cert.Request

end
-- ==== Proof.Kernel.Side.lean ====
/- The tables the region is entered with, as numbers, and what follows of the pipeline's and the body's side conditions
   under the precondition: every page the index maps name is in the pool, every store of the body stays inside its block
   and starts at a whole packed row. -/
module

public import proofs.«01_k».proof.Proof.Kernel.Frame
public import proofs.«01_k».proof.Proof.Request
public import proofs.«01_k».proof.Defs
public import Idealize.ShloMosaic.Lib.StableHlo.ReadAt
public import Idealize.ShloMosaic.Lib.Claim

@[expose] public section

noncomputable section

namespace Cert.Kernel.Hand

open Cert.Kernel Cert.Kernel.Gen Idealize.ShloMosaic Idealize.ShloMosaic.TcCoe Idealize.SL.Sem Cert.Request

variable {F : FTy → Type} [BitOps F]

/-- The word the body computes from a past length: its remainder by 16 as Python takes it. -/
theorem rem16 (v : BitVec 32) (hv : v.toNat ≤ 6144) :
    (Scalar.remsi v 16#32).toNat = v.toNat % 16 ∧
    Scalar.select (Scalar.andi (Scalar.xori (Scalar.cmpi .slt (Scalar.remsi v 16#32) 0#32) (Scalar.cmpi .slt (16#32 : BitVec 32) 0#32))
      (Scalar.cmpi .ne (Scalar.remsi v 16#32) 0#32)) (Scalar.addi (Scalar.remsi v 16#32) 16#32) (Scalar.remsi v 16#32) = Scalar.remsi v 16#32 := by
  have h : (Scalar.remsi v 16#32).toNat = v.toNat % 16 := IntOp.toNat_remsi _ (by omega) 16 (by decide) (by decide)
  refine ⟨h, ?_⟩
  generalize Scalar.remsi v 16#32 = x at h
  have hx : (Scalar.cmpi .slt x 0#32) = 0#1 := by
    have : ¬ (Scalar.cmpi .slt x 0#32 = 1#1) := by
      rw [Scalar.cmpi, IntOp.cmpi_slt, BitVec.toInt_eq_toNat_of_lt (by omega)]
      have : (0#32 : BitVec 32).toInt = 0 := by decide
      omega
    revert this; generalize Scalar.cmpi .slt x 0#32 = b; revert b; decide
  rw [hx]
  generalize Scalar.cmpi .ne x 0#32 = b
  have : Scalar.andi (Scalar.xori 0#1 (Scalar.cmpi .slt (16#32 : BitVec 32) 0#32)) b = 0#1 := by revert b; decide
  rw [this]; rfl

/-- Where chunk `r` of point `i` stores its codes: token row `past % 16 + 256 i₁ + 64 r`, four rows a token. -/
theorem off4_eq (i : grid0.Coords) (v : BitVec 32) (hv : v.toNat ≤ 6144) (r : Fin 4) :
    k0_off4 i v (BitVec.ofNat 32 (64 * r.val)) = ![0, 4 * (v.toNat % 16 + 256 * (i 1).val + 64 * r.val), 0] := by
  have hi : (i 1).val < 8 := (i 1).isLt
  have hr := r.isLt
  obtain ⟨h, hs⟩ := rem16 v hv
  have hd : Scalar.select (Scalar.cmpi .eq (16#32 : BitVec 32) 0#32) (1#32 : BitVec 32) 16#32 = 16#32 := by decide
  unfold k0_off4
  dsimp only
  rw [hd, hs]
  have : (Scalar.indexCast (Scalar.muli (4#32 : BitVec 32) (Scalar.addi (Scalar.addi (Scalar.remsi v 16#32)
      (Scalar.muli (BitVec.ofNat 32 (i 1).val) 256#32)) (BitVec.ofNat 32 (64 * r.val))))).toNat
      = 4 * (v.toNat % 16 + 256 * (i 1).val + 64 * r.val) := by
    generalize Scalar.remsi v 16#32 = x at h
    simp only [Scalar.indexCast, Scalar.muli, Scalar.addi, IntOp.muli, IntOp.addi]
    simp only [BitVec.toNat_mul, BitVec.toNat_add, BitVec.toNat_ofNat]
    omega
  rw [this]

/-- Where chunk `r` of point `i` stores its scales: the same token row, one row a token. -/
theorem off5_eq (i : grid0.Coords) (v : BitVec 32) (hv : v.toNat ≤ 6144) (r : Fin 4) :
    k0_off5 i v (BitVec.ofNat 32 (64 * r.val)) = ![0, v.toNat % 16 + 256 * (i 1).val + 64 * r.val, 0] := by
  have hi : (i 1).val < 8 := (i 1).isLt
  have hr := r.isLt
  obtain ⟨h, hs⟩ := rem16 v hv
  have hd : Scalar.select (Scalar.cmpi .eq (16#32 : BitVec 32) 0#32) (1#32 : BitVec 32) 16#32 = 16#32 := by decide
  unfold k0_off5
  dsimp only
  rw [hd, hs]
  have : (Scalar.indexCast (Scalar.addi (Scalar.addi (Scalar.remsi v 16#32)
      (Scalar.muli (BitVec.ofNat 32 (i 1).val) 256#32)) (BitVec.ofNat 32 (64 * r.val)))).toNat
      = v.toNat % 16 + 256 * (i 1).val + 64 * r.val := by
    generalize Scalar.remsi v 16#32 = x at h
    simp only [Scalar.indexCast, Scalar.muli, Scalar.addi, IntOp.muli, IntOp.addi]
    simp only [BitVec.toNat_mul, BitVec.toNat_add, BitVec.toNat_ofNat]
    omega
  rw [this]

/-- The body's side condition holds of every past length up to 6144. -/
theorem chk1_of (i : grid0.Coords) (v : BitVec 32) (hv : v.toNat ≤ 6144) : k0_chk1 i v := by
  have hi : (i 1).val < 8 := (i 1).isLt
  refine ⟨fun r a => ?_, fun r hinb => ?_, fun r a => ?_⟩
  · have hr := r.isLt
    rw [off4_eq i v hv r]
    fin_cases a <;> simp [Shape.size] <;> omega
  · have hr := r.isLt
    refine Affine.packed_dvd (by decide) ?_ ?_
    · rw [off4_eq i v hv r]; exact ⟨v.toNat % 16 + 256 * (i 1).val + 64 * r.val, rfl⟩
    · exact ⟨64, rfl⟩
  · have hr := r.isLt
    rw [off5_eq i v hv r]
    fin_cases a <;> simp [Shape.size] <;> omega

variable (m : (ℓ : Loc nD τ sig) → Buf (Elt F) ℓ)

/-- Every entry of the table of end pages is an entry of the page table. -/
theorem tbl0_mem (j : S4x2.Idx) : ∃ k : S4x513.Idx, tbl m 0 j = m (((0 : Dev nD) : Thread nD τ).loc main_arg6) k := by
  have h : ∃ s : IVec S4x2x1 32, V m (0 : Dev nD) main_v10 = Host.gather gather_S4x513_S4x2x1_S4x2_n_1_0_0_1_2_11 (m (((0 : Dev nD) : Thread nD τ).loc main_arg6)) s := by
    refine ⟨?_, ?_⟩
    rotate_left
    · unfold_abbrev_sides
      after_reads_simp
      rfl
  obtain ⟨s, hs⟩ := h
  have : tbl m 0 j = V m (0 : Dev nD) main_v10 j := rfl
  rw [this, hs]
  exact ⟨_, rfl⟩

/-- Under the precondition every block the tables name lies inside its array. -/
theorem ok_of_valid (h : Valid (m (((0 : Dev nD) : Thread nD τ).loc main_arg6)) (m (((0 : Dev nD) : Thread nD τ).loc main_arg7)) (m (((0 : Dev nD) : Thread nD τ).loc main_arg8))) : Ok m := by
  have ht : ∀ j, (tbl m 0 j).toNat < 2565 := fun j => by
    obtain ⟨k, hk⟩ := tbl0_mem m j; rw [hk]; exact h.page k
  have code (f : grid0.Coords → Fin 3 → Nat) (hf : ∀ i, ∃ j, f i = ![(tbl m 0 j).toNat, 0, 0]) (i : grid0.Coords) :
      ∃ h : (∀ a, (f i a + 1) * S1x64x128.size a ≤ S2565x64x128.size a), EltTy.bits .i8 = 32 ∨
        (Rect.block (s := S2565x64x128) S1x64x128.size (f i) h).WholeWords (EltTy.packing .i8) := by
    obtain ⟨j, hj⟩ := hf i
    have := ht j
    refine ⟨fun a => ?_, .inr ?_⟩
    · rw [hj]; fin_cases a <;> simp [Shape.size] <;> omega
    · refine Affine.words_rows (by decide) ?_ rfl
      show f i 1 * 64 = 0
      rw [hj]; rfl
  have scale (f : grid0.Coords → Fin 3 → Nat) (hf : ∀ i, ∃ j, f i = ![(tbl m 0 j).toNat, 0, 0]) (i : grid0.Coords) :
      ∃ h : (∀ a, (f i a + 1) * S1x16x4.size a ≤ S2565x16x4.size a), EltTy.bits .f32 = 32 ∨
        (Rect.block (s := S2565x16x4) S1x16x4.size (f i) h).WholeWords (EltTy.packing .f32) := by
    obtain ⟨j, hj⟩ := hf i
    have := ht j
    refine ⟨fun a => ?_, .inl rfl⟩
    rw [hj]; fin_cases a <;> simp [Shape.size] <;> omega
  exact ⟨code _ fun i => ⟨_, rfl⟩, code _ fun i => ⟨_, rfl⟩, scale _ fun i => ⟨_, rfl⟩, scale _ fun i => ⟨_, rfl⟩,
    code _ fun i => ⟨_, rfl⟩, code _ fun i => ⟨_, rfl⟩, scale _ fun i => ⟨_, rfl⟩, scale _ fun i => ⟨_, rfl⟩⟩

/-- Under the precondition the body's side condition holds at every point. -/
theorem hyps_of_valid (h : Valid (m (((0 : Dev nD) : Thread nD τ).loc main_arg6)) (m (((0 : Dev nD) : Thread nD τ).loc main_arg7)) (m (((0 : Dev nD) : Thread nD τ).loc main_arg8))) (hO : Ok m) : Hyps m hO :=
  Hyps.of fun c t => chk1_of _ _ (by
    have e : tbl m 1 = m (((0 : Dev nD) : Thread nD τ).loc main_arg7) := V_main_arg7 m 0
    rw [e]
    exact h.past _)

end Cert.Kernel.Hand

end

end
-- ==== Proof.KernelIdeal.Points.lean ====
/- The schedule of the key/value cache write's pipeline in closed form over the grid points. -/
module

public import proofs.«01_k».proof.Proof.Gen.KernelIdeal
public import Idealize.ShloMosaic.Lib.Pipeline.Kit

@[expose] public section

noncomputable section

namespace Cert.KernelIdeal.Hand

open Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%11)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 4 (%12)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
-- window 7: no schedule fact — its index map reads a prefetched table, so where it is fetched or written back depends on the tables' contents
-- window 8: no schedule fact — its index map reads a prefetched table, so where it is fetched or written back depends on the tables' contents
-- window 9: no schedule fact — its index map reads a prefetched table, so where it is fetched or written back depends on the tables' contents
/-- Window 10 (result 0 (%13#0)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 0 (fun _ => rfl) (by decide)) (P := 8) (m := 7) (by decide) rfl t : ∀ t : Fin grid0.N, Pipeline.Window.flushOf grid0 true cc0_transform_10 t = true ↔ t.val % 8 = 7)
/-- Window 11 (result 1 (%13#1)) is written back at the points ≡ 7 (mod 8), at any contents of the tables (its index map reads none). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 2 (%13#2)) is written back at the points ≡ 7 (mod 8), at any contents of the tables (its index map reads none). -/
theorem flush0_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 0 (fun _ => rfl) (by decide)) (P := 8) (m := 7) (by decide) rfl t : ∀ t : Fin grid0.N, Pipeline.Window.flushOf grid0 true cc0_transform_12 t = true ↔ t.val % 8 = 7)
/-- Window 13 (result 3 (%13#3)) is written back at the points ≡ 7 (mod 8), at any contents of the tables (its index map reads none). -/
theorem flush0_13 (a : (pcfg0 (F := F)).Adm) : ∀ t : Fin (cfg0 a).N, ((cfg0 a).win 13).flush t = true ↔ t.val % 8 = 7 :=
  (fun t => Pipeline.Window.flushOf_reads cc0_transform_13 reads0_13 hreads0_13 0 (by decide) (by decide) (Pipeline.Window.sep_of_coord cc0_transform_13 0 0 (fun _ => rfl) (by decide)) (P := 8) (m := 7) (by decide) rfl t : ∀ t : Fin grid0.N, Pipeline.Window.flushOf grid0 true cc0_transform_13 t = true ↔ t.val % 8 = 7)
/-- Window 14 (result 4 (%13#4)) is written back at every point, at any contents of the tables (its index map reads none). -/
theorem flush0_14 (a : (pcfg0 (F := F)).Adm) : ∀ t : Fin (cfg0 a).N, ((cfg0 a).win 14).flush t = true :=
  (fun t => (Pipeline.Window.flushOf_reads cc0_transform_14 reads0_14 hreads0_14 1 (by decide) (by decide) (Pipeline.Window.sep_of_coord cc0_transform_14 1 1 (fun _ => rfl) (by decide)) (P := 1) (m := 0) (by decide) rfl t).mpr (Nat.mod_one _) : ∀ t : Fin grid0.N, Pipeline.Window.flushOf grid0 true cc0_transform_14 t = true)
/-- Window 15 (result 5 (%13#5)) is written back at every point, at any contents of the tables (its index map reads none). -/
theorem flush0_15 (a : (pcfg0 (F := F)).Adm) : ∀ t : Fin (cfg0 a).N, ((cfg0 a).win 15).flush t = true :=
  (fun t => (Pipeline.Window.flushOf_reads cc0_transform_15 reads0_15 hreads0_15 1 (by decide) (by decide) (Pipeline.Window.sep_of_coord cc0_transform_15 1 1 (fun _ => rfl) (by decide)) (P := 1) (m := 0) (by decide) rfl t).mpr (Nat.mod_one _) : ∀ t : Fin grid0.N, Pipeline.Window.flushOf grid0 true cc0_transform_15 t = true)
/-- Window 16 (result 6 (%13#6)) is written back at every point, at any contents of the tables (its index map reads none). -/
theorem flush0_16 (a : (pcfg0 (F := F)).Adm) : ∀ t : Fin (cfg0 a).N, ((cfg0 a).win 16).flush t = true :=
  (fun t => (Pipeline.Window.flushOf_reads cc0_transform_16 reads0_16 hreads0_16 1 (by decide) (by decide) (Pipeline.Window.sep_of_coord cc0_transform_16 1 1 (fun _ => rfl) (by decide)) (P := 1) (m := 0) (by decide) rfl t).mpr (Nat.mod_one _) : ∀ t : Fin grid0.N, Pipeline.Window.flushOf grid0 true cc0_transform_16 t = true)
/-- Window 17 (result 7 (%13#7)) is written back at every point, at any contents of the tables (its index map reads none). -/
theorem flush0_17 (a : (pcfg0 (F := F)).Adm) : ∀ t : Fin (cfg0 a).N, ((cfg0 a).win 17).flush t = true :=
  (fun t => (Pipeline.Window.flushOf_reads cc0_transform_17 reads0_17 hreads0_17 1 (by decide) (by decide) (Pipeline.Window.sep_of_coord cc0_transform_17 1 1 (fun _ => rfl) (by decide)) (P := 1) (m := 0) (by decide) rfl t).mpr (Nat.mod_one _) : ∀ t : Fin grid0.N, Pipeline.Window.flushOf grid0 true cc0_transform_17 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)
abbrev st0_16 (a : (pcfg0 (F := F)).Adm) (t : Fin (cfg0 a).N) := ((cfg0 a).win 16).stage ((cfg0 a).slots t 16)
abbrev st0_17 (a : (pcfg0 (F := F)).Adm) (t : Fin (cfg0 a).N) := ((cfg0 a).win 17).stage ((cfg0 a).slots t 17)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_paged_kv_write (grid0.coords t) (Memref.whole main_v10) (Memref.isWhole_whole _) (Memref.whole main_arg7) (Memref.isWhole_whole _) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _) (Memref.whole cc0_scratch1) (Memref.isWhole_whole _)

end Cert.KernelIdeal.Hand

end
-- ==== Proof.KernelIdeal.Kit.lean ====
/- What the runs of the body share: @main up to the pipelined region, the prefetched tables, the windows' blocks, the branch conditions in closed form and the side condition the body assumes. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x2 .i32 := Memref.whole main_v10
abbrev htbM0_0 : tbM0_0.IsWhole := Memref.isWhole_whole _
abbrev tbM0_1 : Memref sig .tc .smem S4 .i32 := Memref.whole main_arg7
abbrev htbM0_1 : tbM0_1.IsWhole := Memref.isWhole_whole _
abbrev tbM0_2 : Memref sig .tc .smem S4 .i32 := Memref.whole main_arg8
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 5 rfl).trans ((hA c 5).trans (V_main_arg3 m c)),
      ((h c).2 main_arg4 (by decide : main_arg4 ∈ Pipeline.restRefs sig spec0)).trans (V_main_arg4 m c),
      (Pipeline.RDat.FramePost.arr_in h c 9 rfl).trans ((hA c 9).trans (V_main_arg5 m c)),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 32 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin grid0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x1024x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x128 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x128 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x16x4 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x16x4 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x128 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x128 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16x4 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x16x4 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8256x128 .i8 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x2064x4 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x8256x128 .i8 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x2064x4 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x1024x128 .i8 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x256x4 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1024x128 .i8 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x256x4 .f32 := spec0_17.stage ((cfgM m hO).slots t 17)
abbrev hs0_17 (hO : Ok m) (t : Fin (cfgM m hO).N) : (ms0_17 m hO t).IsWhole := hstage0_17 (((cfgM m hO).slots t 17).cast nbuf0_17)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos)))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos)))
variable {m} in
theorem Hyps.c0 {hO : Ok m} (hH : Hyps m hO) (c : Dev nD) (t : Fin (cfgM m hO).N) :
    k0_chk1 (grid0.coords t) (tbM0_1.view.readAt (Elt F) (Rect.unit (s := S4) (k0_off3 (grid0.coords t)) S1.size (k0_off3_inb (grid0.coords t))).toLoadRect (tbl m 1) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
/- The body run at the first grid point (both conditionals taken): the outputs are handed back at some contents. -/
module

public import proofs.«01_k».proof.Proof.KernelIdeal.Kit

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1440000 in
/-- The body's triple IN CASE A (`scf.if` 0 taken, `scf.if` 1 taken: points 0): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.KernelIdeal.Hand

end
-- ==== Proof.KernelIdeal.RunB.lean ====
/- The body run at a point that starts no batch (no conditional taken): the outputs are handed back at some contents. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1280000 in
/-- The body's triple IN CASE B (`scf.if` 0 not taken, `scf.if` 1 not taken: points 1, 2, … 31: 28 of 32): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : ¬cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.KernelIdeal.Hand

end
-- ==== Proof.KernelIdeal.RunC.lean ====
/- The body run at a point that starts a batch but is not the first (the second conditional taken): the outputs are handed back at some contents. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1416000 in
/-- The body's triple IN CASE C (`scf.if` 0 not taken, `scf.if` 1 taken: points 8, 16, 24): on whole staging memrefs — the inputs' at their contents,
    the FORGOTTEN outputs' (10, 11, 12, 13, 14, 15, 16, 17) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_C (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (k0_hw1 : k0_chk1 i (tbM0_1.view.readAt (Elt F) (Rect.unit (s := S4) (k0_off3 i) S1.size (k0_off3_inb i)).toLoadRect xt1 (Shape.Idx.first (numel1_S1.symm ▸ Nat.one_pos)))) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    iexact HT2

end Cert.KernelIdeal.Hand

end
-- ==== Proof.KernelIdeal.Frame.lean ====
/- The frame: proof data with the outputs forgotten, the body obligation at every point, the launch, and the frame claim under the admissibility of the tables and the assumed side condition. -/
module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (10, 11, 12, 13, 14, 15, 16, 17): nothing reads what the kernel leaves in them, so nothing
    of it is named (Lib/Pipeline/Dat.lean `Dat.toRForget`). -/
def forgets0 : Fin 18 → Bool := fun w => w.val == 10 || w.val == 11 || w.val == 12 || w.val == 13 || w.val == 14 || w.val == 15 || w.val == 16 || w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨16, h⟩ => Pipeline.Dat.unnamed (cfg := (cfgM m hO)) ⟨16, h⟩ t
    | ⟨17, h⟩ => Pipeline.Dat.unnamed (cfg := (cfgM m hO)) ⟨17, h⟩ t
    | ⟨_ + 18, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = iblk m hO c 8 t := by dsimp only [dats]; try rfl
theorem after0_9 (hO : Ok m) (hH : Hyps m hO) (c : Dev nD) (t : Fin (cfgM m hO).N) : (dats m hO hH 0 c).after 9 t = iblk m hO c 9 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m hO) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m hO) (c : Dev nD) (t : Fin (cfgM m hO).N) (d) : (dats m hO hH 0 c).before 9 t d = iblk m hO c 9 t :=
  before0_9_of m hO (dats m hO hH 0 c) (A_eq m hO hH c 9) (after0_9 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d)
    ∗ (∃ d, owns (c : Thread nD τ) (ms0_16 m hO t) fullShare d)
    ∗ (∃ d, owns (c : Thread nD τ) (ms0_17 m hO t) fullShare d))

set_option maxHeartbeats 6000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7, before0_8, before0_9]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8, after0_9]
  rw [show (dats m hO hH 0 c).Φ t.castSucc = iprop(Pipeline.ΦA spec0 c ∗ Pipeline.ΦT pre0 (tbl m) c) from rfl, PhiT0_eq, PhiA0_eq]
  have hN : t.val < 32 := lt_of_lt_of_eq t.isLt (show (cfgM m hO).N = 32 from N_0)
  by_cases h0 : t.val % 32 = 0
  · by_cases h1 : t.val % 8 = 0
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · exfalso; omega
  · by_cases h1 : t.val % 8 = 0
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) (Hyps.c0 hH c t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget_shared (Q' := _) pcfgs (fun _ => adm m hO) (dats m hO hH) (0 : Fin 1) launch₀0 defs₀ Variants.none forgets0 m ρ main
    (hbody := fun c => (body_obligation m hO hH c).loose) (hq := fun _ _ _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 10, 11, 12, 13, 14, 15, 16, 17) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.facts, fun m ρ _ => Cert.KernelIdeal.frame m ρ⟩`; here for every contents of the PREFETCHED TABLES, UNDER `Ok m` (the pipeline's side condition of
    them) and `Hyps m hO` (the side conditions the body assumes, at every point), which Proof.lean proves from the precondition: `⟨…, fun m ρ h => Cert.KernelIdeal.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hH) ((θ_run defs _ _).mono (fun _ h => h.2) (run_main_quiescent m ρ hO hH))

end Cert.KernelIdeal.Hand

end
-- ==== Proof.KernelIdeal.Offsets.lean ====
/- Where the body stores its chunks, as numbers, and its side condition: every store stays inside its block and starts at a
   whole packed row. -/
module

public import proofs.«01_k».proof.Proof.KernelIdeal.Kit
public import Idealize.ShloMosaic.Lib.Claim

@[expose] public section

noncomputable section

namespace Cert.KernelIdeal.Hand

open Cert.KernelIdeal Cert.KernelIdeal.Gen Idealize.ShloMosaic Idealize.ShloMosaic.TcCoe Idealize.SL.Sem

/-- The word the body computes from a past length: its remainder by 16 as Python takes it. -/
theorem rem16 (v : BitVec 32) (hv : v.toNat ≤ 6144) :
    (Scalar.remsi v 16#32).toNat = v.toNat % 16 ∧
    Scalar.select (Scalar.andi (Scalar.xori (Scalar.cmpi .slt (Scalar.remsi v 16#32) 0#32) (Scalar.cmpi .slt (16#32 : BitVec 32) 0#32))
      (Scalar.cmpi .ne (Scalar.remsi v 16#32) 0#32)) (Scalar.addi (Scalar.remsi v 16#32) 16#32) (Scalar.remsi v 16#32) = Scalar.remsi v 16#32 := by
  have h : (Scalar.remsi v 16#32).toNat = v.toNat % 16 := IntOp.toNat_remsi _ (by omega) 16 (by decide) (by decide)
  refine ⟨h, ?_⟩
  generalize Scalar.remsi v 16#32 = x at h
  have hx : (Scalar.cmpi .slt x 0#32) = 0#1 := by
    have : ¬ (Scalar.cmpi .slt x 0#32 = 1#1) := by
      rw [Scalar.cmpi, IntOp.cmpi_slt, BitVec.toInt_eq_toNat_of_lt (by omega)]
      have : (0#32 : BitVec 32).toInt = 0 := by decide
      omega
    revert this; generalize Scalar.cmpi .slt x 0#32 = b; revert b; decide
  rw [hx]
  generalize Scalar.cmpi .ne x 0#32 = b
  have : Scalar.andi (Scalar.xori 0#1 (Scalar.cmpi .slt (16#32 : BitVec 32) 0#32)) b = 0#1 := by revert b; decide
  rw [this]; rfl

/-- Where chunk `r` of point `i` stores its codes: token row `past % 16 + 256 i₁ + 64 r`, four rows a token. -/
theorem off4_eq (i : grid0.Coords) (v : BitVec 32) (hv : v.toNat ≤ 6144) (r : Fin 4) :
    k0_off4 i v (BitVec.ofNat 32 (64 * r.val)) = ![0, 4 * (v.toNat % 16 + 256 * (i 1).val + 64 * r.val), 0] := by
  have hi : (i 1).val < 8 := (i 1).isLt
  have hr := r.isLt
  obtain ⟨h, hs⟩ := rem16 v hv
  have hd : Scalar.select (Scalar.cmpi .eq (16#32 : BitVec 32) 0#32) (1#32 : BitVec 32) 16#32 = 16#32 := by decide
  unfold k0_off4
  dsimp only
  rw [hd, hs]
  have : (Scalar.indexCast (Scalar.muli (4#32 : BitVec 32) (Scalar.addi (Scalar.addi (Scalar.remsi v 16#32)
      (Scalar.muli (BitVec.ofNat 32 (i 1).val) 256#32)) (BitVec.ofNat 32 (64 * r.val))))).toNat
      = 4 * (v.toNat % 16 + 256 * (i 1).val + 64 * r.val) := by
    generalize Scalar.remsi v 16#32 = x at h
    simp only [Scalar.indexCast, Scalar.muli, Scalar.addi, IntOp.muli, IntOp.addi]
    simp only [BitVec.toNat_mul, BitVec.toNat_add, BitVec.toNat_ofNat]
    omega
  rw [this]

/-- Where chunk `r` of point `i` stores its scales: the same token row, one row a token. -/
theorem off5_eq (i : grid0.Coords) (v : BitVec 32) (hv : v.toNat ≤ 6144) (r : Fin 4) :
    k0_off5 i v (BitVec.ofNat 32 (64 * r.val)) = ![0, v.toNat % 16 + 256 * (i 1).val + 64 * r.val, 0] := by
  have hi : (i 1).val < 8 := (i 1).isLt
  have hr := r.isLt
  obtain ⟨h, hs⟩ := rem16 v hv
  have hd : Scalar.select (Scalar.cmpi .eq (16#32 : BitVec 32) 0#32) (1#32 : BitVec 32) 16#32 = 16#32 := by decide
  unfold k0_off5
  dsimp only
  rw [hd, hs]
  have : (Scalar.indexCast (Scalar.addi (Scalar.addi (Scalar.remsi v 16#32)
      (Scalar.muli (BitVec.ofNat 32 (i 1).val) 256#32)) (BitVec.ofNat 32 (64 * r.val)))).toNat
      = v.toNat % 16 + 256 * (i 1).val + 64 * r.val := by
    generalize Scalar.remsi v 16#32 = x at h
    simp only [Scalar.indexCast, Scalar.muli, Scalar.addi, IntOp.muli, IntOp.addi]
    simp only [BitVec.toNat_mul, BitVec.toNat_add, BitVec.toNat_ofNat]
    omega
  rw [this]

/-- The body's side condition holds of every past length up to 6144. -/
theorem chk1_of (i : grid0.Coords) (v : BitVec 32) (hv : v.toNat ≤ 6144) : k0_chk1 i v := by
  have hi : (i 1).val < 8 := (i 1).isLt
  refine ⟨fun r a => ?_, fun r hinb => ?_, fun r a => ?_⟩
  · have hr := r.isLt
    rw [off4_eq i v hv r]
    fin_cases a <;> simp [Shape.size] <;> omega
  · have hr := r.isLt
    refine Affine.packed_dvd (by decide) ?_ ?_
    · rw [off4_eq i v hv r]; exact ⟨v.toNat % 16 + 256 * (i 1).val + 64 * r.val, rfl⟩
    · exact ⟨64, rfl⟩
  · have hr := r.isLt
    rw [off5_eq i v hv r]
    fin_cases a <;> simp [Shape.size] <;> omega

end Cert.KernelIdeal.Hand

end
-- ==== Proof.KernelIdeal.Side.lean ====
/- The tables the region is entered with, as numbers, and what follows of the pipeline's and the body's side conditions
   under the precondition: every page the index maps name is in the pool, and the body's side condition holds. -/
module

public import proofs.«01_k».proof.Proof.KernelIdeal.Frame
public import proofs.«01_k».proof.Proof.KernelIdeal.Offsets
public import proofs.«01_k».proof.Proof.Request
public import proofs.«01_k».proof.Defs
public import Idealize.ShloMosaic.Lib.StableHlo.ReadAt
public import Idealize.ShloMosaic.Lib.Claim

@[expose] public section

noncomputable section

namespace Cert.KernelIdeal.Hand

open Cert.KernelIdeal Cert.KernelIdeal.Gen Idealize.ShloMosaic Idealize.ShloMosaic.TcCoe Idealize.SL.Sem Cert.Request

variable {F : FTy → Type} [FloatOps F] [Named F]

variable (m : (ℓ : Loc nD τ sig) → Buf (Elt F) ℓ)

/-- Every entry of the table of end pages is an entry of the page table. -/
theorem tbl0_mem (j : S4x2.Idx) : ∃ k : S4x513.Idx, tbl m 0 j = m (((0 : Dev nD) : Thread nD τ).loc main_arg6) k := by
  have h : ∃ s : IVec S4x2x1 32, V m (0 : Dev nD) main_v10 = Host.gather gather_S4x513_S4x2x1_S4x2_n_1_0_0_1_2_11 (m (((0 : Dev nD) : Thread nD τ).loc main_arg6)) s := by
    refine ⟨?_, ?_⟩
    rotate_left
    · unfold_abbrev_sides
      after_reads_simp
      rfl
  obtain ⟨s, hs⟩ := h
  have : tbl m 0 j = V m (0 : Dev nD) main_v10 j := rfl
  rw [this, hs]
  exact ⟨_, rfl⟩

/-- Under the precondition every block the tables name lies inside its array. -/
theorem ok_of_valid (h : Valid (m (((0 : Dev nD) : Thread nD τ).loc main_arg6)) (m (((0 : Dev nD) : Thread nD τ).loc main_arg7)) (m (((0 : Dev nD) : Thread nD τ).loc main_arg8))) : Ok m := by
  have ht : ∀ j, (tbl m 0 j).toNat < 2565 := fun j => by
    obtain ⟨k, hk⟩ := tbl0_mem m j; rw [hk]; exact h.page k
  have code (f : grid0.Coords → Fin 3 → Nat) (hf : ∀ i, ∃ j, f i = ![(tbl m 0 j).toNat, 0, 0]) (i : grid0.Coords) :
      ∃ h : (∀ a, (f i a + 1) * S1x64x128.size a ≤ S2565x64x128.size a), EltTy.bits .i8 = 32 ∨
        (Rect.block (s := S2565x64x128) S1x64x128.size (f i) h).WholeWords (EltTy.packing .i8) := by
    obtain ⟨j, hj⟩ := hf i
    have := ht j
    refine ⟨fun a => ?_, .inr ?_⟩
    · rw [hj]; fin_cases a <;> simp [Shape.size] <;> omega
    · refine Affine.words_rows (by decide) ?_ rfl
      show f i 1 * 64 = 0
      rw [hj]; rfl
  have scale (f : grid0.Coords → Fin 3 → Nat) (hf : ∀ i, ∃ j, f i = ![(tbl m 0 j).toNat, 0, 0]) (i : grid0.Coords) :
      ∃ h : (∀ a, (f i a + 1) * S1x16x4.size a ≤ S2565x16x4.size a), EltTy.bits .f32 = 32 ∨
        (Rect.block (s := S2565x16x4) S1x16x4.size (f i) h).WholeWords (EltTy.packing .f32) := by
    obtain ⟨j, hj⟩ := hf i
    have := ht j
    refine ⟨fun a => ?_, .inl rfl⟩
    rw [hj]; fin_cases a <;> simp [Shape.size] <;> omega
  exact ⟨code _ fun i => ⟨_, rfl⟩, code _ fun i => ⟨_, rfl⟩, scale _ fun i => ⟨_, rfl⟩, scale _ fun i => ⟨_, rfl⟩,
    code _ fun i => ⟨_, rfl⟩, code _ fun i => ⟨_, rfl⟩, scale _ fun i => ⟨_, rfl⟩, scale _ fun i => ⟨_, rfl⟩⟩

/-- Under the precondition the body's side condition holds at every point. -/
theorem hyps_of_valid (h : Valid (m (((0 : Dev nD) : Thread nD τ).loc main_arg6)) (m (((0 : Dev nD) : Thread nD τ).loc main_arg7)) (m (((0 : Dev nD) : Thread nD τ).loc main_arg8))) (hO : Ok m) : Hyps m hO :=
  Hyps.of fun c t => chk1_of _ _ (by
    have e : tbl m 1 = m (((0 : Dev nD) : Thread nD τ).loc main_arg7) := V_main_arg7 m 0
    rw [e]
    exact h.past _)

end Cert.KernelIdeal.Hand

end

end
-- ==== Proof.KernelIdeal.Chunk.lean ====
/- What one chunk of 64 tokens writes: the rotation, the quantiser's codes and its scales, as functions of the chunk's
   loads. The four chunks of a point print the same operations; these are those of the first. -/
module

public import proofs.«01_k».proof.Proof.Gen.KernelIdeal.Skeleton

@[expose] public section

noncomputable section

namespace Cert.KernelIdeal.Hand

open Cert.KernelIdeal.Gen
open Idealize.ShloMosaic

variable {F : FTy → Type} [FloatOps F] [Named F]

/-- The first head of a pair of heads, of 64 tokens. -/
def lo (x : Vec F S1x64x2x128 .bf16) : FVec F S64x128 .f32 := k0_pay43 x

/-- The second head of a pair of heads, of 64 tokens. -/
def hi (x : Vec F S1x64x2x128 .bf16) : FVec F S64x128 .f32 := k0_pay44 x

/-- The numbers 0 to 3 along the heads. -/
def headIota : IVec S64x4 32 := iota Kind.tc S64x4 32 [1] iota_S64x4_d1_w32

/-- The numbers 0 to 127 along the lanes. -/
def laneIota : IVec S1x128 32 := iota Kind.tc S1x128 32 [1] iota_S1x128_d1_w32

/-- The codes of 64 tokens' four heads, row `4 t + h` that of token `t` and head `h`. -/
def codes4 (x0 x1 x2 x3 : FVec F S64x128 .f32) : IVec S1x256x128 8 :=
  k0_pay61 x3 (k0_pay52 x0) (k0_pay52 x1) (k0_pay52 x2)

/-- The scales of 64 tokens' four heads. -/
def scales4 (x0 x1 x2 x3 : FVec F S64x128 .f32) : FVec F S1x64x4 .f32 :=
  k0_pay64 (k0_pay59 x3 headIota (k0_pay53 x1 headIota k0_pay47 (k0_pay58 x0) k0_pay50) (k0_pay56 headIota) (k0_pay57 x2))

/-- The cosines of 64 tokens' angles, from the point's position and 64 rows of the two tables. -/
def cosT (iw pw : BitVec 32) (c s : Vec F S64x128 .f32) : FVec F S64x128 .f32 := k0_pay19 iw k0_pay6 pw c s

/-- The signed sines of 64 tokens' angles, from the point's position and 64 rows of the two tables. -/
def sinT (iw pw : BitVec 32) (c s : Vec F S64x128 .f32) : FVec F S64x128 .f32 := k0_pay20 iw laneIota k0_pay6 pw c s

/-- One head rotated: itself by the cosines plus its two halves exchanged by the signed sines. -/
def rot (c s x : FVec F S64x128 .f32) : FVec F S64x128 .f32 := k0_pay24 c s x

/-- The value codes of one chunk. -/
def vCodes (e o : Vec F S1x64x2x128 .bf16) : IVec S1x256x128 8 := codes4 (lo e) (hi e) (lo o) (hi o)

/-- The value scales of one chunk. -/
def vScales (e o : Vec F S1x64x2x128 .bf16) : FVec F S1x64x4 .f32 := scales4 (lo e) (hi e) (lo o) (hi o)

/-- The key codes of one chunk. -/
def kCodes (iw pw : BitVec 32) (c s : Vec F S64x128 .f32) (e o : Vec F S1x64x2x128 .bf16) : IVec S1x256x128 8 :=
  codes4 (rot (cosT iw pw c s) (sinT iw pw c s) (lo e)) (rot (cosT iw pw c s) (sinT iw pw c s) (hi e))
    (rot (cosT iw pw c s) (sinT iw pw c s) (lo o)) (rot (cosT iw pw c s) (sinT iw pw c s) (hi o))

/-- The key scales of one chunk. -/
def kScales (iw pw : BitVec 32) (c s : Vec F S64x128 .f32) (e o : Vec F S1x64x2x128 .bf16) : FVec F S1x64x4 .f32 :=
  scales4 (rot (cosT iw pw c s) (sinT iw pw c s) (lo e)) (rot (cosT iw pw c s) (sinT iw pw c s) (hi e))
    (rot (cosT iw pw c s) (sinT iw pw c s) (lo o)) (rot (cosT iw pw c s) (sinT iw pw c s) (hi o))

end Cert.KernelIdeal.Hand

end
-- ==== Proof.KernelIdeal.Blocks.lean ====
/- What one grid point leaves in each output block, as a function of what its inputs hold: four chunks of 64 tokens side by
   side, and of the loads that make them the entries of the input blocks. -/
module

public import proofs.«01_k».proof.Proof.KernelIdeal.Chunk
public import Idealize.ShloMosaic.Lib.Writes
public import Idealize.ShloMosaic.Lib.WholeRead
public import Idealize.ShloMosaic.Lib.Pointwise

@[expose] public section

set_option maxRecDepth 16384

noncomputable section

namespace Cert.KernelIdeal.Hand

open Cert.KernelIdeal.Gen
open Idealize.ShloMosaic

variable {F : FTy → Type} [FloatOps F] [Named F]

/-- Heads `2 o` and `2 o + 1` of the 64 tokens of chunk `r`. -/
def half (x : Vec F S1x1024x128 .bf16) (r : Fin 4) (o : Fin 2) : Vec F S1x64x2x128 .bf16 := fun j =>
  x (ix3 (0 : Fin 1) (⟨256 * r.val + 4 * (j 1).val + 2 * o.val + (j 2).val, by
    have h1 : (j 1).val < 64 := (j 1).isLt
    have h2 : (j 2).val < 2 := (j 2).isLt
    omega⟩ : Fin 1024) (j 3 : Fin 128))

/-- The 64 rows of a table that chunk `r` reads. -/
def rows (s : Vec F S256x128 .f32) (r : Fin 4) : Vec F S64x128 .f32 := fun j =>
  s (ix2 (⟨64 * r.val + (j 0).val, by have h : (j 0).val < 64 := (j 0).isLt; omega⟩ : Fin 256) (j 1 : Fin 128))

/-- Four chunks of codes side by side. -/
def codeBlock (p : Fin 4 → IVec S1x256x128 8) : IVec S1x1024x128 8 := fun j =>
  p ⟨(j 1).val / 256, by have h : (j 1).val < 1024 := (j 1).isLt; omega⟩
    (ix3 (0 : Fin 1) (⟨(j 1).val % 256, by omega⟩ : Fin 256) (j 2 : Fin 128))

/-- Four chunks of scales side by side. -/
def scaleBlock (p : Fin 4 → FVec F S1x64x4 .f32) : FVec F S1x256x4 .f32 := fun j =>
  p ⟨(j 1).val / 64, by have h : (j 1).val < 256 := (j 1).isLt; omega⟩
    (ix3 (0 : Fin 1) (⟨(j 1).val % 64, by omega⟩ : Fin 64) (j 2 : Fin 4))

/-- A block of codes laid over an array at row `o`. -/
def overCodes (o : Nat) (p : IVec S1x1024x128 8) (y : IVec S1x8256x128 8) : IVec S1x8256x128 8 := fun j =>
  if h : o ≤ (j 1).val ∧ (j 1).val < o + 1024 then
    p (ix3 (0 : Fin 1) (⟨(j 1).val - o, by omega⟩ : Fin 1024) (j 2 : Fin 128))
  else y j

/-- A block of scales laid over an array at row `o`. -/
def overScales (o : Nat) (p : FVec F S1x256x4 .f32) (y : FVec F S1x2064x4 .f32) : FVec F S1x2064x4 .f32 := fun j =>
  if h : o ≤ (j 1).val ∧ (j 1).val < o + 256 then
    p (ix3 (0 : Fin 1) (⟨(j 1).val - o, by omega⟩ : Fin 256) (j 2 : Fin 4))
  else y j

/-- A first and a last page of codes laid over an array. -/
def endCodes (a b : IVec S1x64x128 8) (y : IVec S1x8256x128 8) : IVec S1x8256x128 8 := fun j =>
  if h : (j 1).val < 64 then a (ix3 (0 : Fin 1) (⟨(j 1).val, h⟩ : Fin 64) (j 2 : Fin 128))
  else if h : 8192 ≤ (j 1).val then
    b (ix3 (0 : Fin 1) (⟨(j 1).val - 8192, by have h : (j 1).val < 8256 := (j 1).isLt; omega⟩ : Fin 64) (j 2 : Fin 128))
  else y j

/-- A first and a last page of scales laid over an array. -/
def endScales (a b : FVec F S1x16x4 .f32) (y : FVec F S1x2064x4 .f32) : FVec F S1x2064x4 .f32 := fun j =>
  if h : (j 1).val < 16 then a (ix3 (0 : Fin 1) (⟨(j 1).val, h⟩ : Fin 16) (j 2 : Fin 4))
  else if h : 2048 ≤ (j 1).val then
    b (ix3 (0 : Fin 1) (⟨(j 1).val - 2048, by have h : (j 1).val < 2064 := (j 1).isLt; omega⟩ : Fin 16) (j 2 : Fin 4))
  else y j

/-- The value codes of a point. -/
def vcBlock (x : Vec F S1x1024x128 .bf16) : IVec S1x1024x128 8 := codeBlock fun r => vCodes (half x r 0) (half x r 1)

/-- The value scales of a point. -/
def vsBlock (x : Vec F S1x1024x128 .bf16) : FVec F S1x256x4 .f32 := scaleBlock fun r => vScales (half x r 0) (half x r 1)

/-- The key codes of a point. -/
def kcBlock (iw pw : BitVec 32) (c s : Vec F S256x128 .f32) (x : Vec F S1x1024x128 .bf16) : IVec S1x1024x128 8 :=
  codeBlock fun r => kCodes iw pw (rows c r) (rows s r) (half x r 0) (half x r 1)

/-- The key scales of a point. -/
def ksBlock (iw pw : BitVec 32) (c s : Vec F S256x128 .f32) (x : Vec F S1x1024x128 .bf16) : FVec F S1x256x4 .f32 :=
  scaleBlock fun r => kScales iw pw (rows c r) (rows s r) (half x r 0) (half x r 1)

/-! ## The loads -/

/-- A load of every second pair of heads reads the pair's entries of the block. -/
theorem load_half {a : Memref sig .tc .vmem S1x1024x128 .bf16} (ha : a.IsWhole) (x : Vec F S1x1024x128 .bf16)
    (h1 : S1x512x2x128.numel = S1x1024x128.numel) (h2) (h3) (r : Fin 4) (o : Fin 2) (inb) :
    View.readAt (Elt F) (a.reshape S1x512x2x128 h1 h2 h3).view
      (⟨![0, 128 * r.val + o.val, 0, 0], S1x64x2x128.size, ![1, 2, 1, 1], inb⟩ : LoadRect S1x512x2x128) (ha.unread x) = half x r o := by
  funext j
  refine (congrFun (ha.read_unread x) _).trans ?_
  refine congrArg x (Shape.reshapeEquiv_eq_of_vals _ _ _ _ _ (rowMajor_val3 _ _ _ rfl rfl) (rowMajor_val4 _ _ _ _ rfl rfl rfl) ?_)
  have h0 : (j 0).val < 1 := (j 0).isLt
  have h1 : (j 1).val < 64 := (j 1).isLt
  have h2 : (j 2).val < 2 := (j 2).isLt
  have h3 : (j 3).val < 128 := (j 3).isLt
  show 0 * _ + (256 * r.val + 4 * (j 1).val + 2 * o.val + (j 2).val) * 128 + (j 3).val
    = (0 + 1 * (j 0).val) * 131072 + (128 * r.val + o.val + 2 * (j 1).val) * 256 + (0 + 1 * (j 2).val) * 128 + (0 + 1 * (j 3).val)
  omega

/-- A load of 64 rows of a table. -/
theorem load_rows {a : Memref sig .tc .vmem S256x128 .f32} (ha : a.IsWhole) (s : Vec F S256x128 .f32) (r : Fin 4) (inb) :
    View.readAt (Elt F) a.view (Rect.unit (s := S256x128) ![64 * r.val, 0] S64x128.size inb).toLoadRect (ha.unread s) = rows s r := by
  funext j
  refine (ha.readAt_unread s _ j).trans (congrArg s ?_)
  funext a
  match a with
  | ⟨0, _⟩ => exact Fin.ext (show 64 * r.val + 1 * (j 0).val = _ by rw [Nat.one_mul]; rfl)
  | ⟨1, _⟩ => exact Fin.ext (show 0 + 1 * (j 1).val = _ by rw [Nat.one_mul, Nat.zero_add]; rfl)

/-! ## The stores -/

variable {κ : Kind} {sp : Space}

/-- Four stores of codes make the block of four chunks. -/
theorem read_codeBlock (v : View sig κ sp S1x1024x128 .i8) (f : v.ty.Contents (Elt F)) (q : Fin 4 → IVec S1x256x128 8)
    {p0 p1 p2 p3 : IVec S1x256x128 8} (i0 i1 i2 i3) (h0 : p0 = q 0) (h1 : p1 = q 1) (h2 : p2 = q 2) (h3 : p3 = q 3) :
    v.read (Elt F) (v.writes (Elt F) f [⟨Rect.unit (s := S1x1024x128) ![0, 768, 0] S1x256x128.size i3, p3⟩,
      ⟨Rect.unit (s := S1x1024x128) ![0, 512, 0] S1x256x128.size i2, p2⟩,
      ⟨Rect.unit (s := S1x1024x128) ![0, 256, 0] S1x256x128.size i1, p1⟩,
      ⟨Rect.unit (s := S1x1024x128) ![0, 0, 0] S1x256x128.size i0, p0⟩]) = codeBlock q := by
  subst h0 h1 h2 h3
  have key (r : Fin 4) (i) (x : S1x256x128.Idx) :
      q r x = codeBlock q ((Rect.unit (s := S1x1024x128) ![0, 256 * r.val, 0] S1x256x128.size i).emb x) := by
    have h1 : (x 1).val < 256 := (x 1).isLt
    have e : (((Rect.unit (s := S1x1024x128) ![0, 256 * r.val, 0] S1x256x128.size i).emb x) 1).val = 256 * r.val + 1 * (x 1).val := rfl
    have e2 : (((Rect.unit (s := S1x1024x128) ![0, 256 * r.val, 0] S1x256x128.size i).emb x) 2).val = 0 + 1 * (x 2).val := rfl
    unfold codeBlock
    refine congr (congrArg q (Fin.ext ?_)) ?_
    · show r.val = _ / 256
      rw [e]; omega
    · funext a
      match a with
      | ⟨0, _⟩ => exact Subsingleton.elim (α := Fin 1) _ _
      | ⟨1, _⟩ => exact Fin.ext ((congrArg (· % 256) e).trans (by show (256 * r.val + 1 * (x 1).val) % 256 = (x 1).val; omega)).symm
      | ⟨2, _⟩ => exact Fin.ext (e2.trans (by show 0 + 1 * (x 2).val = (x 2).val; omega)).symm
  funext y
  refine View.read_writes_apply_of_pieces (e := EltTy.i8) (Val := Elt F) _ _ (codeBlock q) _ ?_ y ?_
  rotate_left
  · exact View.cover_of_tiled (s := S1x1024x128) (e := EltTy.i8) (Val := Elt F) _ S1x256x128.size rfl y
  intro p hp
  simp only [List.mem_cons, List.not_mem_nil, or_false] at hp
  rcases hp with rfl | rfl | rfl | rfl
  · exact key 3 i3
  · exact key 2 i2
  · exact key 1 i1
  · exact key 0 i0

/-- Four stores of scales make the block of four chunks. -/
theorem read_scaleBlock (v : View sig κ sp S1x256x4 .f32) (f : v.ty.Contents (Elt F)) (q : Fin 4 → FVec F S1x64x4 .f32)
    {p0 p1 p2 p3 : FVec F S1x64x4 .f32} (i0 i1 i2 i3) (h0 : p0 = q 0) (h1 : p1 = q 1) (h2 : p2 = q 2) (h3 : p3 = q 3) :
    v.read (Elt F) (v.writes (Elt F) f [⟨Rect.unit (s := S1x256x4) ![0, 192, 0] S1x64x4.size i3, p3⟩,
      ⟨Rect.unit (s := S1x256x4) ![0, 128, 0] S1x64x4.size i2, p2⟩,
      ⟨Rect.unit (s := S1x256x4) ![0, 64, 0] S1x64x4.size i1, p1⟩,
      ⟨Rect.unit (s := S1x256x4) ![0, 0, 0] S1x64x4.size i0, p0⟩]) = scaleBlock q := by
  subst h0 h1 h2 h3
  have key (r : Fin 4) (i) (x : S1x64x4.Idx) :
      q r x = scaleBlock q ((Rect.unit (s := S1x256x4) ![0, 64 * r.val, 0] S1x64x4.size i).emb x) := by
    have h1 : (x 1).val < 64 := (x 1).isLt
    have e : (((Rect.unit (s := S1x256x4) ![0, 64 * r.val, 0] S1x64x4.size i).emb x) 1).val = 64 * r.val + 1 * (x 1).val := rfl
    have e2 : (((Rect.unit (s := S1x256x4) ![0, 64 * r.val, 0] S1x64x4.size i).emb x) 2).val = 0 + 1 * (x 2).val := rfl
    unfold scaleBlock
    refine congr (congrArg q (Fin.ext ?_)) ?_
    · show r.val = _ / 64
      rw [e]; omega
    · funext a
      match a with
      | ⟨0, _⟩ => exact Subsingleton.elim (α := Fin 1) _ _
      | ⟨1, _⟩ => exact Fin.ext ((congrArg (· % 64) e).trans (by show (64 * r.val + 1 * (x 1).val) % 64 = (x 1).val; omega)).symm
      | ⟨2, _⟩ => exact Fin.ext (e2.trans (by show 0 + 1 * (x 2).val = (x 2).val; omega)).symm
  funext y
  refine View.read_writes_apply_of_pieces (e := EltTy.f32) (Val := Elt F) _ _ (scaleBlock q) _ ?_ y ?_
  rotate_left
  · exact View.cover_of_tiled (s := S1x256x4) (e := EltTy.f32) (Val := Elt F) _ S1x64x4.size rfl y
  intro p hp
  simp only [List.mem_cons, List.not_mem_nil, or_false] at hp
  rcases hp with rfl | rfl | rfl | rfl
  · exact key 3 i3
  · exact key 2 i2
  · exact key 1 i1
  · exact key 0 i0

/-- Four stores of codes at rows `o`, `o + 256`, `o + 512`, `o + 768` lay the block of four chunks over what was there. -/
theorem read_overCodes (v : View sig κ sp S1x8256x128 .i8) (f : v.ty.Contents (Elt F)) (q : Fin 4 → IVec S1x256x128 8) (o : Nat)
    (L : List (View.Piece (Elt F) S1x8256x128 .i8)) (y : IVec S1x8256x128 8) (hy : v.read (Elt F) (v.writes (Elt F) f L) = y)
    {p0 p1 p2 p3 : IVec S1x256x128 8} {o0 o1 o2 o3 : Fin 3 → Nat} (i0 i1 i2 i3)
    (e0 : o0 = ![0, o, 0]) (e1 : o1 = ![0, o + 256, 0]) (e2 : o2 = ![0, o + 512, 0]) (e3 : o3 = ![0, o + 768, 0])
    (h0 : p0 = q 0) (h1 : p1 = q 1) (h2 : p2 = q 2) (h3 : p3 = q 3) :
    v.read (Elt F) (v.writes (Elt F) f (⟨Rect.unit (s := S1x8256x128) o3 S1x256x128.size i3, p3⟩ ::
      ⟨Rect.unit (s := S1x8256x128) o2 S1x256x128.size i2, p2⟩ ::
      ⟨Rect.unit (s := S1x8256x128) o1 S1x256x128.size i1, p1⟩ ::
      ⟨Rect.unit (s := S1x8256x128) o0 S1x256x128.size i0, p0⟩ :: L)) = overCodes o (codeBlock q) y := by
  subst h0 h1 h2 h3 hy e0 e1 e2 e3
  funext j
  have h1 : (j 1).val < 8256 := (j 1).isLt
  have hit (r : Fin 4) (ob : Nat) (i) (M) (hk : ob = o + 256 * r.val) (hin : ob ≤ (j 1).val ∧ (j 1).val < ob + 256) :
      v.read (Elt F) (v.writes (Elt F) f (⟨Rect.unit (s := S1x8256x128) ![0, ob, 0] S1x256x128.size i, q r⟩ :: M)) j = overCodes o (codeBlock q)
        (v.read (Elt F) (v.writes (Elt F) f L)) j := by
    refine (View.read_writes_cons_hit_of_coords v f (Rect.unit (s := S1x8256x128) ![0, ob, 0] S1x256x128.size i) (q r) M
      (ix3 (0 : Fin 1) (⟨(j 1).val - ob, by omega⟩ : Fin 256) (j 2 : Fin 128) : S1x256x128.Idx) j (fun a => by
      match a with
      | ⟨0, _⟩ => exact (show (j 0).val = 0 + 1 * 0 by have h : (j 0).val < 1 := (j 0).isLt; omega)
      | ⟨1, _⟩ => exact (show (j 1).val = ob + 1 * ((j 1).val - ob) by omega)
      | ⟨2, _⟩ => exact (show (j 2).val = 0 + 1 * (j 2).val by omega))).trans ?_
    unfold overCodes
    rw [dif_pos (by omega)]
    unfold codeBlock
    refine congr (congrArg q (Fin.ext ?_)) ?_
    · show r.val = ((j 1).val - o) / 256
      omega
    · funext a
      match a with
      | ⟨0, _⟩ => rfl
      | ⟨1, _⟩ => exact Fin.ext (show (j 1).val - ob = ((j 1).val - o) % 256 by omega)
      | ⟨2, _⟩ => rfl
  have miss (ob : Nat) (i) (p) (M) (hin : (j 1).val < ob ∨ ob + 256 ≤ (j 1).val) :
      v.read (Elt F) (v.writes (Elt F) f (⟨Rect.unit (s := S1x8256x128) ![0, ob, 0] S1x256x128.size i, p⟩ :: M)) j
        = v.read (Elt F) (v.writes (Elt F) f M) j :=
    View.read_writes_cons_miss_of_axis v f _ _ _ (1 : Fin 3) ob 256 rfl rfl rfl hin
  by_cases c3 : o + 768 ≤ (j 1).val ∧ (j 1).val < o + 768 + 256
  · exact hit 3 _ _ _ rfl c3
  rw [miss _ _ _ _ (by omega)]
  by_cases c2 : o + 512 ≤ (j 1).val ∧ (j 1).val < o + 512 + 256
  · exact hit 2 _ _ _ rfl c2
  rw [miss _ _ _ _ (by omega)]
  by_cases c1 : o + 256 ≤ (j 1).val ∧ (j 1).val < o + 256 + 256
  · exact hit 1 _ _ _ rfl c1
  rw [miss _ _ _ _ (by omega)]
  by_cases c0 : o ≤ (j 1).val ∧ (j 1).val < o + 256
  · exact hit 0 _ _ _ rfl c0
  rw [miss _ _ _ _ (by omega)]
  unfold overCodes
  rw [dif_neg (by omega)]

/-- Four stores of scales at rows `o`, `o + 64`, `o + 128`, `o + 192` lay the block of four chunks over what was there. -/
theorem read_overScales (v : View sig κ sp S1x2064x4 .f32) (f : v.ty.Contents (Elt F)) (q : Fin 4 → FVec F S1x64x4 .f32) (o : Nat)
    (L : List (View.Piece (Elt F) S1x2064x4 .f32)) (y : FVec F S1x2064x4 .f32) (hy : v.read (Elt F) (v.writes (Elt F) f L) = y)
    {p0 p1 p2 p3 : FVec F S1x64x4 .f32} {o0 o1 o2 o3 : Fin 3 → Nat} (i0 i1 i2 i3)
    (e0 : o0 = ![0, o, 0]) (e1 : o1 = ![0, o + 64, 0]) (e2 : o2 = ![0, o + 128, 0]) (e3 : o3 = ![0, o + 192, 0])
    (h0 : p0 = q 0) (h1 : p1 = q 1) (h2 : p2 = q 2) (h3 : p3 = q 3) :
    v.read (Elt F) (v.writes (Elt F) f (⟨Rect.unit (s := S1x2064x4) o3 S1x64x4.size i3, p3⟩ ::
      ⟨Rect.unit (s := S1x2064x4) o2 S1x64x4.size i2, p2⟩ ::
      ⟨Rect.unit (s := S1x2064x4) o1 S1x64x4.size i1, p1⟩ ::
      ⟨Rect.unit (s := S1x2064x4) o0 S1x64x4.size i0, p0⟩ :: L)) = overScales o (scaleBlock q) y := by
  subst h0 h1 h2 h3 hy e0 e1 e2 e3
  funext j
  have h1 : (j 1).val < 2064 := (j 1).isLt
  have hit (r : Fin 4) (ob : Nat) (i) (M) (hk : ob = o + 64 * r.val) (hin : ob ≤ (j 1).val ∧ (j 1).val < ob + 64) :
      v.read (Elt F) (v.writes (Elt F) f (⟨Rect.unit (s := S1x2064x4) ![0, ob, 0] S1x64x4.size i, q r⟩ :: M)) j = overScales o (scaleBlock q)
        (v.read (Elt F) (v.writes (Elt F) f L)) j := by
    refine (View.read_writes_cons_hit_of_coords v f (Rect.unit (s := S1x2064x4) ![0, ob, 0] S1x64x4.size i) (q r) M
      (ix3 (0 : Fin 1) (⟨(j 1).val - ob, by omega⟩ : Fin 64) (j 2 : Fin 4) : S1x64x4.Idx) j (fun a => by
      match a with
      | ⟨0, _⟩ => exact (show (j 0).val = 0 + 1 * 0 by have h : (j 0).val < 1 := (j 0).isLt; omega)
      | ⟨1, _⟩ => exact (show (j 1).val = ob + 1 * ((j 1).val - ob) by omega)
      | ⟨2, _⟩ => exact (show (j 2).val = 0 + 1 * (j 2).val by omega))).trans ?_
    unfold overScales
    rw [dif_pos (by omega)]
    unfold scaleBlock
    refine congr (congrArg q (Fin.ext ?_)) ?_
    · show r.val = ((j 1).val - o) / 64
      omega
    · funext a
      match a with
      | ⟨0, _⟩ => rfl
      | ⟨1, _⟩ => exact Fin.ext (show (j 1).val - ob = ((j 1).val - o) % 64 by omega)
      | ⟨2, _⟩ => rfl
  have miss (ob : Nat) (i) (p) (M) (hin : (j 1).val < ob ∨ ob + 64 ≤ (j 1).val) :
      v.read (Elt F) (v.writes (Elt F) f (⟨Rect.unit (s := S1x2064x4) ![0, ob, 0] S1x64x4.size i, p⟩ :: M)) j
        = v.read (Elt F) (v.writes (Elt F) f M) j :=
    View.read_writes_cons_miss_of_axis v f _ _ _ (1 : Fin 3) ob 64 rfl rfl rfl hin
  by_cases c3 : o + 192 ≤ (j 1).val ∧ (j 1).val < o + 192 + 64
  · exact hit 3 _ _ _ rfl c3
  rw [miss _ _ _ _ (by omega)]
  by_cases c2 : o + 128 ≤ (j 1).val ∧ (j 1).val < o + 128 + 64
  · exact hit 2 _ _ _ rfl c2
  rw [miss _ _ _ _ (by omega)]
  by_cases c1 : o + 64 ≤ (j 1).val ∧ (j 1).val < o + 64 + 64
  · exact hit 1 _ _ _ rfl c1
  rw [miss _ _ _ _ (by omega)]
  by_cases c0 : o ≤ (j 1).val ∧ (j 1).val < o + 64
  · exact hit 0 _ _ _ rfl c0
  rw [miss _ _ _ _ (by omega)]
  unfold overScales
  rw [dif_neg (by omega)]

end Cert.KernelIdeal.Hand

end
-- ==== Proof.KernelIdeal.ChunkEq.lean ====
/- The codes every chunk prints are those of the first, of its own loads: each is the same operations, grouped differently. -/
module

public import proofs.«01_k».proof.Proof.KernelIdeal.Chunk

@[expose] public section

set_option maxHeartbeats 2000000

noncomputable section

namespace Cert.KernelIdeal.Hand

open Cert.KernelIdeal.Gen
open Idealize.ShloMosaic

variable {F : FTy → Type} [FloatOps F] [Named F]

theorem pay40_eq (iw pw : BitVec 32) (cc ss : Vec F S64x128 .f32) (e o : Vec F S1x64x2x128 .bf16) :
    (k0_pay40 (k0_pay26 (k0_pay19 iw k0_pay6 pw cc ss) (k0_pay20 iw laneIota k0_pay6 pw cc ss) o) (k0_pay29 (k0_pay19 iw k0_pay6 pw cc ss) (k0_pay20 iw laneIota k0_pay6 pw cc ss) (k0_pay21 e)) (k0_pay31 (k0_pay24 (k0_pay19 iw k0_pay6 pw cc ss) (k0_pay20 iw laneIota k0_pay6 pw cc ss) (k0_pay22 e))) (k0_pay34 (k0_pay25 (k0_pay19 iw k0_pay6 pw cc ss) (k0_pay20 iw laneIota k0_pay6 pw cc ss) o)) : IVec S1x256x128 8)
      = kCodes iw pw cc ss e o := rfl

theorem pay90_eq (iw pw : BitVec 32) (cc ss : Vec F S64x128 .f32) (e o : Vec F S1x64x2x128 .bf16) :
    (k0_pay90 (k0_pay77 (k0_pay70 (k0_pay14 iw k0_pay6 pw) (k0_pay15 iw k0_pay6 pw) (k0_pay17 iw laneIota k0_pay6 pw) (k0_pay18 iw laneIota k0_pay6 pw) cc ss e)) (k0_pay81 (k0_pay80 (k0_pay66 (k0_pay17 iw laneIota k0_pay6 pw) (k0_pay18 iw laneIota k0_pay6 pw) cc ss) (k0_pay71 (k0_pay14 iw k0_pay6 pw) (k0_pay15 iw k0_pay6 pw) cc ss e) (k0_pay72 e))) (k0_pay83 (k0_pay74 (k0_pay65 (k0_pay14 iw k0_pay6 pw) (k0_pay15 iw k0_pay6 pw) cc ss) (k0_pay66 (k0_pay17 iw laneIota k0_pay6 pw) (k0_pay18 iw laneIota k0_pay6 pw) cc ss) (k0_pay68 o))) (k0_pay86 (k0_pay75 (k0_pay65 (k0_pay14 iw k0_pay6 pw) (k0_pay15 iw k0_pay6 pw) cc ss) (k0_pay66 (k0_pay17 iw laneIota k0_pay6 pw) (k0_pay18 iw laneIota k0_pay6 pw) cc ss) (k0_pay69 o))) (FloatOps.ofBits FTy.f32 3271426048#32) (FloatOps.ofBits FTy.f32 0x42FE0000#32) : IVec S1x256x128 8)
      = kCodes iw pw cc ss e o := rfl

theorem pay137_eq (iw pw : BitVec 32) (cc ss : Vec F S64x128 .f32) (e o : Vec F S1x64x2x128 .bf16) :
    (k0_pay137 (k0_pay135 (k0_pay120 (k0_pay18 iw laneIota k0_pay6 pw) ss (k0_pay115 (k0_pay14 iw k0_pay6 pw) (k0_pay15 iw k0_pay6 pw) cc ss) (k0_pay116 (k0_pay17 iw laneIota k0_pay6 pw) cc) o) (k0_pay121 (k0_pay18 iw laneIota k0_pay6 pw) ss (k0_pay115 (k0_pay14 iw k0_pay6 pw) (k0_pay15 iw k0_pay6 pw) cc ss) (k0_pay116 (k0_pay17 iw laneIota k0_pay6 pw) cc) o) (k0_pay126 (k0_pay118 (k0_pay18 iw laneIota k0_pay6 pw) ss (k0_pay115 (k0_pay14 iw k0_pay6 pw) (k0_pay15 iw k0_pay6 pw) cc ss) (k0_pay116 (k0_pay17 iw laneIota k0_pay6 pw) cc) e) (k0_pay123 (k0_pay18 iw laneIota k0_pay6 pw) ss (k0_pay115 (k0_pay14 iw k0_pay6 pw) (k0_pay15 iw k0_pay6 pw) cc ss) (k0_pay116 (k0_pay17 iw laneIota k0_pay6 pw) cc) e) k0_pay124) (k0_pay128 (k0_pay119 (k0_pay18 iw laneIota k0_pay6 pw) ss (k0_pay115 (k0_pay14 iw k0_pay6 pw) (k0_pay15 iw k0_pay6 pw) cc ss) (k0_pay116 (k0_pay17 iw laneIota k0_pay6 pw) cc) e)) (k0_pay130 (k0_pay120 (k0_pay18 iw laneIota k0_pay6 pw) ss (k0_pay115 (k0_pay14 iw k0_pay6 pw) (k0_pay15 iw k0_pay6 pw) cc ss) (k0_pay116 (k0_pay17 iw laneIota k0_pay6 pw) cc) o)) (k0_pay131 (k0_pay120 (k0_pay18 iw laneIota k0_pay6 pw) ss (k0_pay115 (k0_pay14 iw k0_pay6 pw) (k0_pay15 iw k0_pay6 pw) cc ss) (k0_pay116 (k0_pay17 iw laneIota k0_pay6 pw) cc) o)) (FloatOps.ofBits FTy.f32 0x42FE0000#32)) : IVec S1x256x128 8)
      = kCodes iw pw cc ss e o := rfl

theorem pay185_eq (iw pw : BitVec 32) (cc ss : Vec F S64x128 .f32) (e o : Vec F S1x64x2x128 .bf16) :
    (k0_pay185 (k0_pay170 (k0_pay163 (k0_pay14 iw k0_pay6 pw) (k0_pay15 iw k0_pay6 pw) cc ss) (k0_pay164 (k0_pay17 iw laneIota k0_pay6 pw) (k0_pay18 iw laneIota k0_pay6 pw) cc ss) o) (k0_pay173 (k0_pay163 (k0_pay14 iw k0_pay6 pw) (k0_pay15 iw k0_pay6 pw) cc ss) (k0_pay164 (k0_pay17 iw laneIota k0_pay6 pw) (k0_pay18 iw laneIota k0_pay6 pw) cc ss) (k0_pay165 e)) (k0_pay177 (k0_pay168 (k0_pay163 (k0_pay14 iw k0_pay6 pw) (k0_pay15 iw k0_pay6 pw) cc ss) (k0_pay164 (k0_pay17 iw laneIota k0_pay6 pw) (k0_pay18 iw laneIota k0_pay6 pw) cc ss) (k0_pay166 e))) (k0_pay179 (k0_pay169 (k0_pay163 (k0_pay14 iw k0_pay6 pw) (k0_pay15 iw k0_pay6 pw) cc ss) (k0_pay164 (k0_pay17 iw laneIota k0_pay6 pw) (k0_pay18 iw laneIota k0_pay6 pw) cc ss) o)) : IVec S1x256x128 8)
      = kCodes iw pw cc ss e o := rfl

theorem pay39_eq (iw pw : BitVec 32) (cc ss : Vec F S64x128 .f32) (e o : Vec F S1x64x2x128 .bf16) :
    (k0_pay39 (k0_pay26 (k0_pay19 iw k0_pay6 pw cc ss) (k0_pay20 iw laneIota k0_pay6 pw cc ss) o) (k0_pay29 (k0_pay19 iw k0_pay6 pw cc ss) (k0_pay20 iw laneIota k0_pay6 pw cc ss) (k0_pay21 e)) (k0_pay31 (k0_pay24 (k0_pay19 iw k0_pay6 pw cc ss) (k0_pay20 iw laneIota k0_pay6 pw cc ss) (k0_pay22 e))) (k0_pay34 (k0_pay25 (k0_pay19 iw k0_pay6 pw cc ss) (k0_pay20 iw laneIota k0_pay6 pw cc ss) o)) : IVec S1x256x128 8)
      = kCodes iw pw cc ss e o := rfl

theorem pay89_eq (iw pw : BitVec 32) (cc ss : Vec F S64x128 .f32) (e o : Vec F S1x64x2x128 .bf16) :
    (k0_pay89 (k0_pay77 (k0_pay70 (k0_pay14 iw k0_pay6 pw) (k0_pay15 iw k0_pay6 pw) (k0_pay17 iw laneIota k0_pay6 pw) (k0_pay18 iw laneIota k0_pay6 pw) cc ss e)) (k0_pay81 (k0_pay80 (k0_pay66 (k0_pay17 iw laneIota k0_pay6 pw) (k0_pay18 iw laneIota k0_pay6 pw) cc ss) (k0_pay71 (k0_pay14 iw k0_pay6 pw) (k0_pay15 iw k0_pay6 pw) cc ss e) (k0_pay72 e))) (k0_pay83 (k0_pay74 (k0_pay65 (k0_pay14 iw k0_pay6 pw) (k0_pay15 iw k0_pay6 pw) cc ss) (k0_pay66 (k0_pay17 iw laneIota k0_pay6 pw) (k0_pay18 iw laneIota k0_pay6 pw) cc ss) (k0_pay68 o))) (k0_pay86 (k0_pay75 (k0_pay65 (k0_pay14 iw k0_pay6 pw) (k0_pay15 iw k0_pay6 pw) cc ss) (k0_pay66 (k0_pay17 iw laneIota k0_pay6 pw) (k0_pay18 iw laneIota k0_pay6 pw) cc ss) (k0_pay69 o))) (FloatOps.ofBits FTy.f32 3271426048#32) (FloatOps.ofBits FTy.f32 0x42FE0000#32) : IVec S1x256x128 8)
      = kCodes iw pw cc ss e o := rfl

theorem pay136_eq (iw pw : BitVec 32) (cc ss : Vec F S64x128 .f32) (e o : Vec F S1x64x2x128 .bf16) :
    (k0_pay136 (k0_pay120 (k0_pay18 iw laneIota k0_pay6 pw) ss (k0_pay115 (k0_pay14 iw k0_pay6 pw) (k0_pay15 iw k0_pay6 pw) cc ss) (k0_pay116 (k0_pay17 iw laneIota k0_pay6 pw) cc) o) (k0_pay121 (k0_pay18 iw laneIota k0_pay6 pw) ss (k0_pay115 (k0_pay14 iw k0_pay6 pw) (k0_pay15 iw k0_pay6 pw) cc ss) (k0_pay116 (k0_pay17 iw laneIota k0_pay6 pw) cc) o) (k0_pay126 (k0_pay118 (k0_pay18 iw laneIota k0_pay6 pw) ss (k0_pay115 (k0_pay14 iw k0_pay6 pw) (k0_pay15 iw k0_pay6 pw) cc ss) (k0_pay116 (k0_pay17 iw laneIota k0_pay6 pw) cc) e) (k0_pay123 (k0_pay18 iw laneIota k0_pay6 pw) ss (k0_pay115 (k0_pay14 iw k0_pay6 pw) (k0_pay15 iw k0_pay6 pw) cc ss) (k0_pay116 (k0_pay17 iw laneIota k0_pay6 pw) cc) e) k0_pay124) (k0_pay128 (k0_pay119 (k0_pay18 iw laneIota k0_pay6 pw) ss (k0_pay115 (k0_pay14 iw k0_pay6 pw) (k0_pay15 iw k0_pay6 pw) cc ss) (k0_pay116 (k0_pay17 iw laneIota k0_pay6 pw) cc) e)) (k0_pay130 (k0_pay120 (k0_pay18 iw laneIota k0_pay6 pw) ss (k0_pay115 (k0_pay14 iw k0_pay6 pw) (k0_pay15 iw k0_pay6 pw) cc ss) (k0_pay116 (k0_pay17 iw laneIota k0_pay6 pw) cc) o)) (k0_pay131 (k0_pay120 (k0_pay18 iw laneIota k0_pay6 pw) ss (k0_pay115 (k0_pay14 iw k0_pay6 pw) (k0_pay15 iw k0_pay6 pw) cc ss) (k0_pay116 (k0_pay17 iw laneIota k0_pay6 pw) cc) o)) (FloatOps.ofBits FTy.f32 0x42FE0000#32) : IVec S1x256x128 8)
      = kCodes iw pw cc ss e o := rfl

theorem pay184_eq (iw pw : BitVec 32) (cc ss : Vec F S64x128 .f32) (e o : Vec F S1x64x2x128 .bf16) :
    (k0_pay184 (k0_pay170 (k0_pay163 (k0_pay14 iw k0_pay6 pw) (k0_pay15 iw k0_pay6 pw) cc ss) (k0_pay164 (k0_pay17 iw laneIota k0_pay6 pw) (k0_pay18 iw laneIota k0_pay6 pw) cc ss) o) (k0_pay173 (k0_pay163 (k0_pay14 iw k0_pay6 pw) (k0_pay15 iw k0_pay6 pw) cc ss) (k0_pay164 (k0_pay17 iw laneIota k0_pay6 pw) (k0_pay18 iw laneIota k0_pay6 pw) cc ss) (k0_pay165 e)) (k0_pay177 (k0_pay168 (k0_pay163 (k0_pay14 iw k0_pay6 pw) (k0_pay15 iw k0_pay6 pw) cc ss) (k0_pay164 (k0_pay17 iw laneIota k0_pay6 pw) (k0_pay18 iw laneIota k0_pay6 pw) cc ss) (k0_pay166 e))) (k0_pay179 (k0_pay169 (k0_pay163 (k0_pay14 iw k0_pay6 pw) (k0_pay15 iw k0_pay6 pw) cc ss) (k0_pay164 (k0_pay17 iw laneIota k0_pay6 pw) (k0_pay18 iw laneIota k0_pay6 pw) cc ss) o)) : IVec S1x256x128 8)
      = kCodes iw pw cc ss e o := rfl

theorem pay62_eq (e o : Vec F S1x64x2x128 .bf16) :
    (k0_pay62 (k0_pay46 o) (k0_pay49 e) (k0_pay52 (k0_pay44 e)) (k0_pay55 (k0_pay45 o)) : IVec S1x256x128 8) = vCodes e o := rfl

theorem pay112_eq (e o : Vec F S1x64x2x128 .bf16) :
    (k0_pay112 (k0_pay98 (k0_pay93 e)) (k0_pay102 (k0_pay101 (k0_pay94 e)) (FloatOps.ofBits FTy.f32 3271426048#32)) (k0_pay104 (k0_pay95 o)) (k0_pay107 (k0_pay96 o)) (FloatOps.ofBits FTy.f32 0x42FE0000#32) k0_pay108 : IVec S1x256x128 8) = vCodes e o := rfl

theorem pay160_eq (e o : Vec F S1x64x2x128 .bf16) :
    (k0_pay160 (k0_pay158 (k0_pay142 o) (k0_pay143 o) (k0_pay148 (k0_pay140 e) (k0_pay145 e) (k0_pay146 e)) (k0_pay150 (k0_pay141 e)) (k0_pay152 (k0_pay142 o)) (k0_pay153 (k0_pay142 o)) k0_pay154) : IVec S1x256x128 8) = vCodes e o := rfl

theorem pay207_eq (e o : Vec F S1x64x2x128 .bf16) :
    (k0_pay207 (k0_pay191 o) (k0_pay194 e) (k0_pay198 (k0_pay189 e)) (k0_pay200 (k0_pay190 o)) (k0_pay202 (k0_pay191 o)) : IVec S1x256x128 8) = vCodes e o := rfl

theorem pay61_eq (e o : Vec F S1x64x2x128 .bf16) :
    (k0_pay61 (k0_pay46 o) (k0_pay49 e) (k0_pay52 (k0_pay44 e)) (k0_pay55 (k0_pay45 o)) : IVec S1x256x128 8) = vCodes e o := rfl

theorem pay111_eq (e o : Vec F S1x64x2x128 .bf16) :
    (k0_pay111 (k0_pay98 (k0_pay93 e)) (k0_pay102 (k0_pay101 (k0_pay94 e)) (FloatOps.ofBits FTy.f32 3271426048#32)) (k0_pay104 (k0_pay95 o)) (k0_pay107 (k0_pay96 o)) (FloatOps.ofBits FTy.f32 0x42FE0000#32) k0_pay108 : IVec S1x256x128 8) = vCodes e o := rfl

theorem pay159_eq (e o : Vec F S1x64x2x128 .bf16) :
    (k0_pay159 (k0_pay142 o) (k0_pay143 o) (k0_pay148 (k0_pay140 e) (k0_pay145 e) (k0_pay146 e)) (k0_pay150 (k0_pay141 e)) (k0_pay152 (k0_pay142 o)) (k0_pay153 (k0_pay142 o)) k0_pay154 : IVec S1x256x128 8) = vCodes e o := rfl

theorem pay206_eq (e o : Vec F S1x64x2x128 .bf16) :
    (k0_pay206 (k0_pay191 o) (k0_pay194 e) (k0_pay198 (k0_pay189 e)) (k0_pay200 (k0_pay190 o)) (k0_pay202 (k0_pay191 o)) : IVec S1x256x128 8) = vCodes e o := rfl

end Cert.KernelIdeal.Hand

end
-- ==== Proof.KernelIdeal.Touch.lean ====
/- The words a point reads from the tables, where its chunks land, and what the parts of its run share. -/
module

public import proofs.«01_k».proof.Proof.KernelIdeal.Blocks
public import proofs.«01_k».proof.Proof.KernelIdeal.ChunkEq
public import proofs.«01_k».proof.Proof.KernelIdeal.Offsets

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The word of a table of four that point `i` reads: its batch's. -/
def tblWord (i : grid0.Coords) (T : Memref sig .tc .smem S4 .i32) (x : T.view.ty.Contents (Elt F)) : BitVec 32 :=
  T.view.readAt (Elt F) (Rect.unit (s := S4) (k0_off3 i) S1.size (k0_off3_inb i)).toLoadRect x (Shape.Idx.first (numel1_S1.symm ▸ Nat.one_pos))

/-- The token row a point's block starts at within the touched pages, from its batch's past length. -/
def tokenRow (i : grid0.Coords) (w : BitVec 32) : Nat := w.toNat % 16 + 256 * (i 1).val

theorem off4_at (i : grid0.Coords) (v : BitVec 32) (hv : v.toNat ≤ 6144) (r : Fin 4) :
    k0_off4 i v (BitVec.ofNat 32 (64 * r.val)) = ![0, 4 * tokenRow i v + 256 * r.val, 0] := by
  rw [off4_eq i v hv r, show 4 * (v.toNat % 16 + 256 * (i 1).val + 64 * r.val) = 4 * tokenRow i v + 256 * r.val from by unfold tokenRow; omega]

theorem off5_at (i : grid0.Coords) (v : BitVec 32) (hv : v.toNat ≤ 6144) (r : Fin 4) :
    k0_off5 i v (BitVec.ofNat 32 (64 * r.val)) = ![0, tokenRow i v + 64 * r.val, 0] :=
  off5_eq i v hv r

theorem vCodes_congr {e e' o o' : Vec F S1x64x2x128 .bf16} (h : e = e') (h' : o = o') : vCodes e o = vCodes e' o' := by rw [h, h']

theorem vScales_congr {e e' o o' : Vec F S1x64x2x128 .bf16} (h : e = e') (h' : o = o') : vScales e o = vScales e' o' := by rw [h, h']

theorem kCodes_congr (iw pw : BitVec 32) {c c' s s' : Vec F S64x128 .f32} {e e' o o' : Vec F S1x64x2x128 .bf16}
    (hc : c = c') (hs : s = s') (h : e = e') (h' : o = o') : kCodes iw pw c s e o = kCodes iw pw c' s' e' o' := by rw [hc, hs, h, h']

theorem kScales_congr (iw pw : BitVec 32) {c c' s s' : Vec F S64x128 .f32} {e e' o o' : Vec F S1x64x2x128 .bf16}
    (hc : c = c') (hs : s = s') (h : e = e') (h' : o = o') : kScales iw pw c s e o = kScales iw pw c' s' e' o' := by rw [hc, hs, h, h']

/-- A load of a whole page reads it. -/
theorem load_page {a : Memref sig .tc .vmem S1x64x128 .i8} (ha : a.IsWhole) (x : IVec S1x64x128 8) (inb) :
    k0_pay1 (View.readAt (Elt F) a.view (Rect.unit (s := S1x64x128) ![0, 0, 0] S1x64x128.size inb).toLoadRect (ha.unread x)) = x := by
  unfold k0_pay1
  dsimp only
  rw [shapeCast_comp, shapeCast_id]
  funext j
  have e := ha.readAt_unread (Val := Elt F) x (Rect.unit ![0, 0, 0] _ inb).toLoadRect j
  refine e.trans (congrArg x ?_)
  funext b
  match b with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)

/-- The stores of a first and a last page lay them over what was there. -/
theorem read_endCodes {κ : Kind} {sp : Space} (v : View sig κ sp S1x8256x128 .i8) (f : v.ty.Contents (Elt F)) (a b : IVec S1x64x128 8) (y : IVec S1x8256x128 8)
    (hy : v.read (Elt F) f = y) {p0 p1 : IVec S1x64x128 8} (i0 i1) (h0 : p0 = a) (h1 : p1 = b) :
    v.read (Elt F) (v.writes (Elt F) f [⟨Rect.unit (s := S1x8256x128) ![0, 8192, 0] S1x64x128.size i1, p1⟩,
      ⟨Rect.unit (s := S1x8256x128) ![0, 0, 0] S1x64x128.size i0, p0⟩]) = endCodes a b y := by
  subst h0 h1 hy
  funext j
  have h1 : (j 1).val < 8256 := (j 1).isLt
  have hit (ob : Nat) (i) (p : IVec S1x64x128 8) (M) (hin : ob ≤ (j 1).val ∧ (j 1).val < ob + 64) :
      v.read (Elt F) (v.writes (Elt F) f (⟨Rect.unit (s := S1x8256x128) ![0, ob, 0] S1x64x128.size i, p⟩ :: M)) j
        = p (ix3 (0 : Fin 1) (⟨(j 1).val - ob, by omega⟩ : Fin 64) (j 2 : Fin 128)) :=
    View.read_writes_cons_hit_of_coords v f (Rect.unit (s := S1x8256x128) ![0, ob, 0] S1x64x128.size i) p M
      (ix3 (0 : Fin 1) (⟨(j 1).val - ob, by omega⟩ : Fin 64) (j 2 : Fin 128) : S1x64x128.Idx) j (fun a => by
      match a with
      | ⟨0, _⟩ => exact (show (j 0).val = 0 + 1 * 0 by have h : (j 0).val < 1 := (j 0).isLt; omega)
      | ⟨1, _⟩ => exact (show (j 1).val = ob + 1 * ((j 1).val - ob) by omega)
      | ⟨2, _⟩ => exact (show (j 2).val = 0 + 1 * (j 2).val by omega))
  have miss (ob : Nat) (i) (p) (M) (hin : (j 1).val < ob ∨ ob + 64 ≤ (j 1).val) :
      v.read (Elt F) (v.writes (Elt F) f (⟨Rect.unit (s := S1x8256x128) ![0, ob, 0] S1x64x128.size i, p⟩ :: M)) j
        = v.read (Elt F) (v.writes (Elt F) f M) j :=
    View.read_writes_cons_miss_of_axis v f _ _ _ (1 : Fin 3) ob 64 rfl rfl rfl hin
  unfold endCodes
  by_cases c0 : (j 1).val < 64
  · rw [dif_pos c0, miss _ _ _ _ (by omega)]
    exact hit 0 _ _ _ (by omega)
  rw [dif_neg c0]
  by_cases c1 : 8192 ≤ (j 1).val
  · rw [dif_pos c1]
    exact hit 8192 _ _ _ (by omega)
  rw [dif_neg c1, miss _ _ _ _ (by omega), miss _ _ _ _ (by omega)]
  rfl

/-- A load of a whole page reads it. -/
theorem load_spage {a : Memref sig .tc .vmem S1x16x4 .f32} (ha : a.IsWhole) (x : FVec F S1x16x4 .f32) (inb) :
    k0_pay5 (View.readAt (Elt F) a.view (Rect.unit (s := S1x16x4) ![0, 0, 0] S1x16x4.size inb).toLoadRect (ha.unread x)) = x := by
  unfold k0_pay5
  dsimp only
  rw [shapeCast_comp, shapeCast_id]
  funext j
  have e := ha.readAt_unread (Val := Elt F) x (Rect.unit ![0, 0, 0] _ inb).toLoadRect j
  refine e.trans (congrArg x ?_)
  funext b
  match b with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)

/-- The stores of a first and a last page lay them over what was there. -/
theorem read_endScales {κ : Kind} {sp : Space} (v : View sig κ sp S1x2064x4 .f32) (f : v.ty.Contents (Elt F)) (a b : FVec F S1x16x4 .f32) (y : FVec F S1x2064x4 .f32)
    (hy : v.read (Elt F) f = y) {p0 p1 : FVec F S1x16x4 .f32} (i0 i1) (h0 : p0 = a) (h1 : p1 = b) :
    v.read (Elt F) (v.writes (Elt F) f [⟨Rect.unit (s := S1x2064x4) ![0, 2048, 0] S1x16x4.size i1, p1⟩,
      ⟨Rect.unit (s := S1x2064x4) ![0, 0, 0] S1x16x4.size i0, p0⟩]) = endScales a b y := by
  subst h0 h1 hy
  funext j
  have h1 : (j 1).val < 2064 := (j 1).isLt
  have hit (ob : Nat) (i) (p : FVec F S1x16x4 .f32) (M) (hin : ob ≤ (j 1).val ∧ (j 1).val < ob + 16) :
      v.read (Elt F) (v.writes (Elt F) f (⟨Rect.unit (s := S1x2064x4) ![0, ob, 0] S1x16x4.size i, p⟩ :: M)) j
        = p (ix3 (0 : Fin 1) (⟨(j 1).val - ob, by omega⟩ : Fin 16) (j 2 : Fin 4)) :=
    View.read_writes_cons_hit_of_coords v f (Rect.unit (s := S1x2064x4) ![0, ob, 0] S1x16x4.size i) p M
      (ix3 (0 : Fin 1) (⟨(j 1).val - ob, by omega⟩ : Fin 16) (j 2 : Fin 4) : S1x16x4.Idx) j (fun a => by
      match a with
      | ⟨0, _⟩ => exact (show (j 0).val = 0 + 1 * 0 by have h : (j 0).val < 1 := (j 0).isLt; omega)
      | ⟨1, _⟩ => exact (show (j 1).val = ob + 1 * ((j 1).val - ob) by omega)
      | ⟨2, _⟩ => exact (show (j 2).val = 0 + 1 * (j 2).val by omega))
  have miss (ob : Nat) (i) (p) (M) (hin : (j 1).val < ob ∨ ob + 16 ≤ (j 1).val) :
      v.read (Elt F) (v.writes (Elt F) f (⟨Rect.unit (s := S1x2064x4) ![0, ob, 0] S1x16x4.size i, p⟩ :: M)) j
        = v.read (Elt F) (v.writes (Elt F) f M) j :=
    View.read_writes_cons_miss_of_axis v f _ _ _ (1 : Fin 3) ob 16 rfl rfl rfl hin
  unfold endScales
  by_cases c0 : (j 1).val < 16
  · rw [dif_pos c0, miss _ _ _ _ (by omega)]
    exact hit 0 _ _ _ (by omega)
  rw [dif_neg c0]
  by_cases c1 : 2048 ≤ (j 1).val
  · rw [dif_pos c1]
    exact hit 2048 _ _ _ (by omega)
  rw [dif_neg c1, miss _ _ _ _ (by omega), miss _ _ _ _ (by omega)]
  rfl

/-- The table of cosines that the first point fills. -/
def cosTab : FVec F S256x128 .f32 := k0_pay8

/-- The table of sines that the first point fills. -/
def sinTab : FVec F S256x128 .f32 := k0_pay9

/-- A store of a whole table leaves it. -/
theorem read_tab {κ : Kind} {sp : Space} (v : View sig κ sp S256x128 .f32) (f : v.ty.Contents (Elt F)) (p : FVec F S256x128 .f32) (i) :
    v.read (Elt F) (v.writes (Elt F) f [⟨Rect.unit (s := S256x128) ![0, 0] S256x128.size i, p⟩]) = p := by
  funext j
  refine View.read_writes_cons_hit_of_coords v f (Rect.unit (s := S256x128) ![0, 0] S256x128.size i) p [] j j fun a => ?_
  match a with
  | ⟨0, _⟩ => exact (show (j 0).val = 0 + 1 * (j 0).val by omega)
  | ⟨1, _⟩ => exact (show (j 1).val = 0 + 1 * (j 1).val by omega)

/-- A load of 64 rows of a table just stored. -/
theorem load_tab {κ : Kind} {sp : Space} (v : View sig κ sp S256x128 .f32) (p : FVec F S256x128 .f32) (i) (r : Fin 4) (inb) :
    v.readCov (Val := Elt F) [⟨Rect.unit (s := S256x128) ![0, 0] S256x128.size i, p⟩]
      (Rect.unit (s := S256x128) ![64 * r.val, 0] S64x128.size inb).toLoadRect = rows p r := by
  funext j
  refine (congrFun (read_tab v v.junk p i) _).trans (congrArg p ?_)
  funext a
  match a with
  | ⟨0, _⟩ => exact Fin.ext (show 64 * r.val + 1 * (j 0).val = _ by rw [Nat.one_mul]; rfl)
  | ⟨1, _⟩ => exact Fin.ext (show 0 + 1 * (j 1).val = _ by rw [Nat.one_mul, Nat.zero_add]; rfl)

end Cert.KernelIdeal.Hand

end
-- ==== Proof.KernelIdeal.RunVA.lean ====
/- What the body run at the first grid point (both conditionals taken) leaves in every buffer. -/
module

public import proofs.«01_k».proof.Proof.KernelIdeal.Touch

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at the first grid point (both conditionals taken): each output block is left as the inputs' blocks say, over what it held. -/
theorem kernelRunV_A (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (y10 : IVec S1x8256x128 8) (y11 : FVec F S1x2064x4 .f32) (y12 : IVec S1x8256x128 8) (y13 : FVec F S1x2064x4 .f32)
    (hw : (tblWord i tbM0_1 xt1).toNat ≤ 6144) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare y10 ∗ owns (c : Thread nD τ) arg16 fullShare y11 ∗ owns (c : Thread nD τ) arg17 fullShare y12 ∗ owns (c : Thread nD τ) arg18 fullShare y13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare (overCodes (4 * (tokenRow i (tblWord i tbM0_1 xt1))) (kcBlock (BitVec.ofNat 32 (i 1).val) (tblWord i tbM0_2 xt2) cosTab sinTab x0) (endCodes x2 x3 y10)) ∗ owns (c : Thread nD τ) arg16 fullShare (overScales (tokenRow i (tblWord i tbM0_1 xt1)) (ksBlock (BitVec.ofNat 32 (i 1).val) (tblWord i tbM0_2 xt2) cosTab sinTab x0) (endScales x4 x5 y11)) ∗ owns (c : Thread nD τ) arg17 fullShare (overCodes (4 * (tokenRow i (tblWord i tbM0_1 xt1))) (vcBlock x1) (endCodes x6 x7 y12)) ∗ owns (c : Thread nD τ) arg18 fullShare (overScales (tokenRow i (tblWord i tbM0_1 xt1)) (vsBlock x1) (endScales x8 x9 y13)) ∗ owns (c : Thread nD τ) arg19 fullShare (kcBlock (BitVec.ofNat 32 (i 1).val) (tblWord i tbM0_2 xt2) cosTab sinTab x0) ∗ owns (c : Thread nD τ) arg20 fullShare (ksBlock (BitVec.ofNat 32 (i 1).val) (tblWord i tbM0_2 xt2) cosTab sinTab x0) ∗ owns (c : Thread nD τ) arg21 fullShare (vcBlock x1) ∗ owns (c : Thread nD τ) arg22 fullShare (vsBlock x1) ∗ owns (c : Thread nD τ) arg23 fullShare cosTab ∗ owns (c : Thread nD τ) arg24 fullShare sinTab ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    have k0_hw1 := chk1_of i _ hw
    unfold tblWord at k0_hw1
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; swap; · iexact H10
      ipureintro
      exact read_overCodes _ _ (fun r => kCodes (BitVec.ofNat 32 (i 1).val) (tblWord i tbM0_2 xt2) (rows cosTab r) (rows sinTab r) (half x0 r 0) (half x0 r 1)) (4 * (tokenRow i (tblWord i tbM0_1 xt1))) _ _ (read_endCodes _ _ _ _ _ hf10 _ _ (load_page harg7 x2 _) (load_page harg8 x3 _)) _ _ _ _
        (off4_at i _ hw 0) (off4_at i _ hw 1) (off4_at i _ hw 2) (off4_at i _ hw 3)
        ((pay40_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 0 inb_S256x128_S64x128_0_0) (load_tab arg24.view sinTab inb_S256x128_S256x128_0_0 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay90_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 1 inb_S256x128_S64x128_64_0) (load_tab arg24.view sinTab inb_S256x128_S256x128_0_0 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay137_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 2 inb_S256x128_S64x128_128_0) (load_tab arg24.view sinTab inb_S256x128_S256x128_0_0 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay185_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 3 inb_S256x128_S64x128_192_0) (load_tab arg24.view sinTab inb_S256x128_S256x128_0_0 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H11]
    · iexists _; isplitr; swap; · iexact H11
      ipureintro
      exact read_overScales _ _ (fun r => kScales (BitVec.ofNat 32 (i 1).val) (tblWord i tbM0_2 xt2) (rows cosTab r) (rows sinTab r) (half x0 r 0) (half x0 r 1)) (tokenRow i (tblWord i tbM0_1 xt1)) _ _ (read_endScales _ _ _ _ _ hf11 _ _ (load_spage harg9 x4 _) (load_spage harg10 x5 _)) _ _ _ _
        (off5_at i _ hw 0) (off5_at i _ hw 1) (off5_at i _ hw 2) (off5_at i _ hw 3)
        (kScales_congr (BitVec.ofNat 32 (i 1).val) (tblWord i tbM0_2 xt2) (load_tab arg23.view cosTab inb_S256x128_S256x128_0_0 0 inb_S256x128_S64x128_0_0) (load_tab arg24.view sinTab inb_S256x128_S256x128_0_0 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_tab arg23.view cosTab inb_S256x128_S256x128_0_0 1 inb_S256x128_S64x128_64_0) (load_tab arg24.view sinTab inb_S256x128_S256x128_0_0 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_tab arg23.view cosTab inb_S256x128_S256x128_0_0 2 inb_S256x128_S64x128_128_0) (load_tab arg24.view sinTab inb_S256x128_S256x128_0_0 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_tab arg23.view cosTab inb_S256x128_S256x128_0_0 3 inb_S256x128_S64x128_192_0) (load_tab arg24.view sinTab inb_S256x128_S256x128_0_0 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H12]
    · iexists _; isplitr; swap; · iexact H12
      ipureintro
      exact read_overCodes _ _ (fun r => vCodes (half x1 r 0) (half x1 r 1)) (4 * (tokenRow i (tblWord i tbM0_1 xt1))) _ _ (read_endCodes _ _ _ _ _ hf12 _ _ (load_page harg11 x6 _) (load_page harg12 x7 _)) _ _ _ _
        (off4_at i _ hw 0) (off4_at i _ hw 1) (off4_at i _ hw 2) (off4_at i _ hw 3)
        ((pay62_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay112_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay160_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay207_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H13]
    · iexists _; isplitr; swap; · iexact H13
      ipureintro
      exact read_overScales _ _ (fun r => vScales (half x1 r 0) (half x1 r 1)) (tokenRow i (tblWord i tbM0_1 xt1)) _ _ (read_endScales _ _ _ _ _ hf13 _ _ (load_spage harg13 x8 _) (load_spage harg14 x9 _)) _ _ _ _
        (off5_at i _ hw 0) (off5_at i _ hw 1) (off5_at i _ hw 2) (off5_at i _ hw 3)
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [H14]
    · iexists _; isplitr; swap; · iexact H14
      ipureintro
      exact read_codeBlock _ _ (fun r => kCodes (BitVec.ofNat 32 (i 1).val) (tblWord i tbM0_2 xt2) (rows cosTab r) (rows sinTab r) (half x0 r 0) (half x0 r 1)) _ _ _ _
        ((pay39_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 0 inb_S256x128_S64x128_0_0) (load_tab arg24.view sinTab inb_S256x128_S256x128_0_0 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay89_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 1 inb_S256x128_S64x128_64_0) (load_tab arg24.view sinTab inb_S256x128_S256x128_0_0 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay136_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 2 inb_S256x128_S64x128_128_0) (load_tab arg24.view sinTab inb_S256x128_S256x128_0_0 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay184_eq (BitVec.ofNat 32 (i 1).val) (tblWord i tbM0_2 xt2) _ _ _ _).trans (kCodes_congr (BitVec.ofNat 32 (i 1).val) (tblWord i tbM0_2 xt2) (load_tab arg23.view cosTab inb_S256x128_S256x128_0_0 3 inb_S256x128_S64x128_192_0) (load_tab arg24.view sinTab inb_S256x128_S256x128_0_0 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H15]
    · iexists _; isplitr; swap; · iexact H15
      ipureintro
      exact read_scaleBlock _ _ (fun r => kScales (BitVec.ofNat 32 (i 1).val) (tblWord i tbM0_2 xt2) (rows cosTab r) (rows sinTab r) (half x0 r 0) (half x0 r 1)) _ _ _ _
        (kScales_congr (BitVec.ofNat 32 (i 1).val) (tblWord i tbM0_2 xt2) (load_tab arg23.view cosTab inb_S256x128_S256x128_0_0 0 inb_S256x128_S64x128_0_0) (load_tab arg24.view sinTab inb_S256x128_S256x128_0_0 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_tab arg23.view cosTab inb_S256x128_S256x128_0_0 1 inb_S256x128_S64x128_64_0) (load_tab arg24.view sinTab inb_S256x128_S256x128_0_0 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_tab arg23.view cosTab inb_S256x128_S256x128_0_0 2 inb_S256x128_S64x128_128_0) (load_tab arg24.view sinTab inb_S256x128_S256x128_0_0 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_tab arg23.view cosTab inb_S256x128_S256x128_0_0 3 inb_S256x128_S64x128_192_0) (load_tab arg24.view sinTab inb_S256x128_S256x128_0_0 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H16]
    · iexists _; isplitr; swap; · iexact H16
      ipureintro
      exact read_codeBlock _ _ (fun r => vCodes (half x1 r 0) (half x1 r 1)) _ _ _ _
        ((pay61_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay111_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay159_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay206_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H17]
    · iexists _; isplitr; swap; · iexact H17
      ipureintro
      exact read_scaleBlock _ _ (fun r => vScales (half x1 r 0) (half x1 r 1)) _ _ _ _
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [HS0]
    · iexists _; isplitr; swap; · iexact HS0
      ipureintro; exact read_tab _ _ _ _
    isplitl [HS1]
    · iexists _; isplitr; swap; · iexact HS1
      ipureintro; exact read_tab _ _ _ _
    isplitl [HT0]; · iexact HT0
    isplitl [HT1]; · iexact HT1
    iexact HT2

end Cert.KernelIdeal.Hand

end
-- ==== Proof.KernelIdeal.RunVB.lean ====
/- What the body run at a point that starts no batch (no conditional taken) leaves in every buffer. -/
module

public import proofs.«01_k».proof.Proof.KernelIdeal.Touch

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point that starts no batch (no conditional taken): each output block is left as the inputs' blocks say, over what it held. -/
theorem kernelRunV_B (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : ¬cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (y10 : IVec S1x8256x128 8) (y11 : FVec F S1x2064x4 .f32) (y12 : IVec S1x8256x128 8) (y13 : FVec F S1x2064x4 .f32) (s0 : Vec F S256x128 .f32) (s1 : Vec F S256x128 .f32)
    (hw : (tblWord i tbM0_1 xt1).toNat ≤ 6144) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare y10 ∗ owns (c : Thread nD τ) arg16 fullShare y11 ∗ owns (c : Thread nD τ) arg17 fullShare y12 ∗ owns (c : Thread nD τ) arg18 fullShare y13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare s0 ∗ owns (c : Thread nD τ) arg24 fullShare s1 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare (overCodes (4 * (tokenRow i (tblWord i tbM0_1 xt1))) (kcBlock (BitVec.ofNat 32 (i 1).val) (tblWord i tbM0_2 xt2) s0 s1 x0) y10) ∗ owns (c : Thread nD τ) arg16 fullShare (overScales (tokenRow i (tblWord i tbM0_1 xt1)) (ksBlock (BitVec.ofNat 32 (i 1).val) (tblWord i tbM0_2 xt2) s0 s1 x0) y11) ∗ owns (c : Thread nD τ) arg17 fullShare (overCodes (4 * (tokenRow i (tblWord i tbM0_1 xt1))) (vcBlock x1) y12) ∗ owns (c : Thread nD τ) arg18 fullShare (overScales (tokenRow i (tblWord i tbM0_1 xt1)) (vsBlock x1) y13) ∗ owns (c : Thread nD τ) arg19 fullShare (kcBlock (BitVec.ofNat 32 (i 1).val) (tblWord i tbM0_2 xt2) s0 s1 x0) ∗ owns (c : Thread nD τ) arg20 fullShare (ksBlock (BitVec.ofNat 32 (i 1).val) (tblWord i tbM0_2 xt2) s0 s1 x0) ∗ owns (c : Thread nD τ) arg21 fullShare (vcBlock x1) ∗ owns (c : Thread nD τ) arg22 fullShare (vsBlock x1) ∗ owns (c : Thread nD τ) arg23 fullShare s0 ∗ owns (c : Thread nD τ) arg24 fullShare s1 ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    obtain rfl := harg23.eq_unread hfs0; obtain rfl := harg24.eq_unread hfs1
    have k0_hw1 := chk1_of i _ hw
    unfold tblWord at k0_hw1
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; swap; · iexact H10
      ipureintro
      exact read_overCodes _ _ (fun r => kCodes (BitVec.ofNat 32 (i 1).val) (tblWord i tbM0_2 xt2) (rows s0 r) (rows s1 r) (half x0 r 0) (half x0 r 1)) (4 * (tokenRow i (tblWord i tbM0_1 xt1))) [] _ hf10 _ _ _ _
        (off4_at i _ hw 0) (off4_at i _ hw 1) (off4_at i _ hw 2) (off4_at i _ hw 3)
        ((pay40_eq (BitVec.ofNat 32 (i 1).val) (tblWord i tbM0_2 xt2) _ _ _ _).trans (kCodes_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay90_eq (BitVec.ofNat 32 (i 1).val) (tblWord i tbM0_2 xt2) _ _ _ _).trans (kCodes_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay137_eq (BitVec.ofNat 32 (i 1).val) (tblWord i tbM0_2 xt2) _ _ _ _).trans (kCodes_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay185_eq (BitVec.ofNat 32 (i 1).val) (tblWord i tbM0_2 xt2) _ _ _ _).trans (kCodes_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H11]
    · iexists _; isplitr; swap; · iexact H11
      ipureintro
      exact read_overScales _ _ (fun r => kScales (BitVec.ofNat 32 (i 1).val) (tblWord i tbM0_2 xt2) (rows s0 r) (rows s1 r) (half x0 r 0) (half x0 r 1)) (tokenRow i (tblWord i tbM0_1 xt1)) [] _ hf11 _ _ _ _
        (off5_at i _ hw 0) (off5_at i _ hw 1) (off5_at i _ hw 2) (off5_at i _ hw 3)
        (kScales_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H12]
    · iexists _; isplitr; swap; · iexact H12
      ipureintro
      exact read_overCodes _ _ (fun r => vCodes (half x1 r 0) (half x1 r 1)) (4 * (tokenRow i (tblWord i tbM0_1 xt1))) [] _ hf12 _ _ _ _
        (off4_at i _ hw 0) (off4_at i _ hw 1) (off4_at i _ hw 2) (off4_at i _ hw 3)
        ((pay62_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay112_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay160_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay207_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H13]
    · iexists _; isplitr; swap; · iexact H13
      ipureintro
      exact read_overScales _ _ (fun r => vScales (half x1 r 0) (half x1 r 1)) (tokenRow i (tblWord i tbM0_1 xt1)) [] _ hf13 _ _ _ _
        (off5_at i _ hw 0) (off5_at i _ hw 1) (off5_at i _ hw 2) (off5_at i _ hw 3)
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [H14]
    · iexists _; isplitr; swap; · iexact H14
      ipureintro
      exact read_codeBlock _ _ (fun r => kCodes (BitVec.ofNat 32 (i 1).val) (tblWord i tbM0_2 xt2) (rows s0 r) (rows s1 r) (half x0 r 0) (half x0 r 1)) _ _ _ _
        ((pay39_eq (BitVec.ofNat 32 (i 1).val) (tblWord i tbM0_2 xt2) _ _ _ _).trans (kCodes_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay89_eq (BitVec.ofNat 32 (i 1).val) (tblWord i tbM0_2 xt2) _ _ _ _).trans (kCodes_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay136_eq (BitVec.ofNat 32 (i 1).val) (tblWord i tbM0_2 xt2) _ _ _ _).trans (kCodes_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay184_eq (BitVec.ofNat 32 (i 1).val) (tblWord i tbM0_2 xt2) _ _ _ _).trans (kCodes_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H15]
    · iexists _; isplitr; swap; · iexact H15
      ipureintro
      exact read_scaleBlock _ _ (fun r => kScales (BitVec.ofNat 32 (i 1).val) (tblWord i tbM0_2 xt2) (rows s0 r) (rows s1 r) (half x0 r 0) (half x0 r 1)) _ _ _ _
        (kScales_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H16]
    · iexists _; isplitr; swap; · iexact H16
      ipureintro
      exact read_codeBlock _ _ (fun r => vCodes (half x1 r 0) (half x1 r 1)) _ _ _ _
        ((pay61_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay111_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay159_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay206_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H17]
    · iexists _; isplitr; swap; · iexact H17
      ipureintro
      exact read_scaleBlock _ _ (fun r => vScales (half x1 r 0) (half x1 r 1)) _ _ _ _
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [HS0]
    · iexists _; isplitr; swap; · iexact HS0
      ipureintro; exact harg23.read_unread _
    isplitl [HS1]
    · iexists _; isplitr; swap; · iexact HS1
      ipureintro; exact harg24.read_unread _
    isplitl [HT0]; · iexact HT0
    isplitl [HT1]; · iexact HT1
    iexact HT2

end Cert.KernelIdeal.Hand

end
-- ==== Proof.KernelIdeal.RunVC.lean ====
/- What the body run at a point that starts a batch after the first (the second conditional taken) leaves in every buffer. -/
module

public import proofs.«01_k».proof.Proof.KernelIdeal.Touch

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body run at a point that starts a batch after the first (the second conditional taken): each output block is left as the inputs' blocks say, over what it held. -/
theorem kernelRunV_C (c : Dev nD) (i : grid0.Coords) (arg5 : Memref sig .tc .vmem S1x1024x128 .bf16) (harg5 : arg5.IsWhole) (arg6 : Memref sig .tc .vmem S1x1024x128 .bf16) (harg6 : arg6.IsWhole) (arg7 : Memref sig .tc .vmem S1x64x128 .i8) (harg7 : arg7.IsWhole) (arg8 : Memref sig .tc .vmem S1x64x128 .i8) (harg8 : arg8.IsWhole) (arg9 : Memref sig .tc .vmem S1x16x4 .f32) (harg9 : arg9.IsWhole) (arg10 : Memref sig .tc .vmem S1x16x4 .f32) (harg10 : arg10.IsWhole) (arg11 : Memref sig .tc .vmem S1x64x128 .i8) (harg11 : arg11.IsWhole) (arg12 : Memref sig .tc .vmem S1x64x128 .i8) (harg12 : arg12.IsWhole) (arg13 : Memref sig .tc .vmem S1x16x4 .f32) (harg13 : arg13.IsWhole) (arg14 : Memref sig .tc .vmem S1x16x4 .f32) (harg14 : arg14.IsWhole) (arg15 : Memref sig .tc .vmem S1x8256x128 .i8) (harg15 : arg15.IsWhole) (arg16 : Memref sig .tc .vmem S1x2064x4 .f32) (harg16 : arg16.IsWhole) (arg17 : Memref sig .tc .vmem S1x8256x128 .i8) (harg17 : arg17.IsWhole) (arg18 : Memref sig .tc .vmem S1x2064x4 .f32) (harg18 : arg18.IsWhole) (arg19 : Memref sig .tc .vmem S1x1024x128 .i8) (harg19 : arg19.IsWhole) (arg20 : Memref sig .tc .vmem S1x256x4 .f32) (harg20 : arg20.IsWhole) (arg21 : Memref sig .tc .vmem S1x1024x128 .i8) (harg21 : arg21.IsWhole) (arg22 : Memref sig .tc .vmem S1x256x4 .f32) (harg22 : arg22.IsWhole) (arg23 : Memref sig .tc .vmem S256x128 .f32) (harg23 : arg23.IsWhole) (arg24 : Memref sig .tc .vmem S256x128 .f32) (harg24 : arg24.IsWhole) (hc0 : ¬cond0_0 i) (hc1 : cond0_1 i)
    (x0 : Vec F S1x1024x128 .bf16) (x1 : Vec F S1x1024x128 .bf16) (x2 : Vec F S1x64x128 .i8) (x3 : Vec F S1x64x128 .i8) (x4 : Vec F S1x16x4 .f32) (x5 : Vec F S1x16x4 .f32) (x6 : Vec F S1x64x128 .i8) (x7 : Vec F S1x64x128 .i8) (x8 : Vec F S1x16x4 .f32) (x9 : Vec F S1x16x4 .f32) (xt0 : TbBuf0 (F := F) c tbM0_0) (xt1 : TbBuf0 (F := F) c tbM0_1) (xt2 : TbBuf0 (F := F) c tbM0_2) (y10 : IVec S1x8256x128 8) (y11 : FVec F S1x2064x4 .f32) (y12 : IVec S1x8256x128 8) (y13 : FVec F S1x2064x4 .f32) (s0 : Vec F S256x128 .f32) (s1 : Vec F S256x128 .f32)
    (hw : (tblWord i tbM0_1 xt1).toNat ≤ 6144) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare y10 ∗ owns (c : Thread nD τ) arg16 fullShare y11 ∗ owns (c : Thread nD τ) arg17 fullShare y12 ∗ owns (c : Thread nD τ) arg18 fullShare y13 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare s0 ∗ owns (c : Thread nD τ) arg24 fullShare s1 ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare (overCodes (4 * (tokenRow i (tblWord i tbM0_1 xt1))) (kcBlock (BitVec.ofNat 32 (i 1).val) (tblWord i tbM0_2 xt2) s0 s1 x0) (endCodes x2 x3 y10)) ∗ owns (c : Thread nD τ) arg16 fullShare (overScales (tokenRow i (tblWord i tbM0_1 xt1)) (ksBlock (BitVec.ofNat 32 (i 1).val) (tblWord i tbM0_2 xt2) s0 s1 x0) (endScales x4 x5 y11)) ∗ owns (c : Thread nD τ) arg17 fullShare (overCodes (4 * (tokenRow i (tblWord i tbM0_1 xt1))) (vcBlock x1) (endCodes x6 x7 y12)) ∗ owns (c : Thread nD τ) arg18 fullShare (overScales (tokenRow i (tblWord i tbM0_1 xt1)) (vsBlock x1) (endScales x8 x9 y13)) ∗ owns (c : Thread nD τ) arg19 fullShare (kcBlock (BitVec.ofNat 32 (i 1).val) (tblWord i tbM0_2 xt2) s0 s1 x0) ∗ owns (c : Thread nD τ) arg20 fullShare (ksBlock (BitVec.ofNat 32 (i 1).val) (tblWord i tbM0_2 xt2) s0 s1 x0) ∗ owns (c : Thread nD τ) arg21 fullShare (vcBlock x1) ∗ owns (c : Thread nD τ) arg22 fullShare (vsBlock x1) ∗ owns (c : Thread nD τ) arg23 fullShare s0 ∗ owns (c : Thread nD τ) arg24 fullShare s1 ∗ tbPt0 c tbM0_0 xt0 ∗ tbPt0 c tbM0_1 xt1 ∗ tbPt0 c tbM0_2 xt2) -∗ K ⟨⟩))
          ⊢ wp frame (wpE (defs₀ (F := F)) Variants.none c none) E (cc0_paged_kv_write i tbM0_0 htbM0_0 tbM0_1 htbM0_1 tbM0_2 htbM0_2 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
    intro E K
    simp only [cc0_paged_kv_write_eq_skeleton]; unfold cc0_paged_kv_write_skel
    simp only [k0_part2_eq_skeleton, k0_part3_eq_skeleton, k0_part1_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9
    obtain rfl := harg23.eq_unread hfs0; obtain rfl := harg24.eq_unread hfs1
    have k0_hw1 := chk1_of i _ hw
    unfold tblWord at k0_hw1
    sl_exec (disch := first | sl_exact hc0 | sl_exact hc1 | sl_exact k0_hw1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [H10]
    · iexists _; isplitr; swap; · iexact H10
      ipureintro
      exact read_overCodes _ _ (fun r => kCodes (BitVec.ofNat 32 (i 1).val) (tblWord i tbM0_2 xt2) (rows s0 r) (rows s1 r) (half x0 r 0) (half x0 r 1)) (4 * (tokenRow i (tblWord i tbM0_1 xt1))) _ _ (read_endCodes _ _ _ _ _ hf10 _ _ (load_page harg7 x2 _) (load_page harg8 x3 _)) _ _ _ _
        (off4_at i _ hw 0) (off4_at i _ hw 1) (off4_at i _ hw 2) (off4_at i _ hw 3)
        ((pay40_eq (BitVec.ofNat 32 (i 1).val) (tblWord i tbM0_2 xt2) _ _ _ _).trans (kCodes_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay90_eq (BitVec.ofNat 32 (i 1).val) (tblWord i tbM0_2 xt2) _ _ _ _).trans (kCodes_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay137_eq (BitVec.ofNat 32 (i 1).val) (tblWord i tbM0_2 xt2) _ _ _ _).trans (kCodes_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay185_eq (BitVec.ofNat 32 (i 1).val) (tblWord i tbM0_2 xt2) _ _ _ _).trans (kCodes_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H11]
    · iexists _; isplitr; swap; · iexact H11
      ipureintro
      exact read_overScales _ _ (fun r => kScales (BitVec.ofNat 32 (i 1).val) (tblWord i tbM0_2 xt2) (rows s0 r) (rows s1 r) (half x0 r 0) (half x0 r 1)) (tokenRow i (tblWord i tbM0_1 xt1)) _ _ (read_endScales _ _ _ _ _ hf11 _ _ (load_spage harg9 x4 _) (load_spage harg10 x5 _)) _ _ _ _
        (off5_at i _ hw 0) (off5_at i _ hw 1) (off5_at i _ hw 2) (off5_at i _ hw 3)
        (kScales_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H12]
    · iexists _; isplitr; swap; · iexact H12
      ipureintro
      exact read_overCodes _ _ (fun r => vCodes (half x1 r 0) (half x1 r 1)) (4 * (tokenRow i (tblWord i tbM0_1 xt1))) _ _ (read_endCodes _ _ _ _ _ hf12 _ _ (load_page harg11 x6 _) (load_page harg12 x7 _)) _ _ _ _
        (off4_at i _ hw 0) (off4_at i _ hw 1) (off4_at i _ hw 2) (off4_at i _ hw 3)
        ((pay62_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay112_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay160_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay207_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H13]
    · iexists _; isplitr; swap; · iexact H13
      ipureintro
      exact read_overScales _ _ (fun r => vScales (half x1 r 0) (half x1 r 1)) (tokenRow i (tblWord i tbM0_1 xt1)) _ _ (read_endScales _ _ _ _ _ hf13 _ _ (load_spage harg13 x8 _) (load_spage harg14 x9 _)) _ _ _ _
        (off5_at i _ hw 0) (off5_at i _ hw 1) (off5_at i _ hw 2) (off5_at i _ hw 3)
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [H14]
    · iexists _; isplitr; swap; · iexact H14
      ipureintro
      exact read_codeBlock _ _ (fun r => kCodes (BitVec.ofNat 32 (i 1).val) (tblWord i tbM0_2 xt2) (rows s0 r) (rows s1 r) (half x0 r 0) (half x0 r 1)) _ _ _ _
        ((pay39_eq (BitVec.ofNat 32 (i 1).val) (tblWord i tbM0_2 xt2) _ _ _ _).trans (kCodes_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1)))
        ((pay89_eq (BitVec.ofNat 32 (i 1).val) (tblWord i tbM0_2 xt2) _ _ _ _).trans (kCodes_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1)))
        ((pay136_eq (BitVec.ofNat 32 (i 1).val) (tblWord i tbM0_2 xt2) _ _ _ _).trans (kCodes_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1)))
        ((pay184_eq (BitVec.ofNat 32 (i 1).val) (tblWord i tbM0_2 xt2) _ _ _ _).trans (kCodes_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1)))
    isplitl [H15]
    · iexists _; isplitr; swap; · iexact H15
      ipureintro
      exact read_scaleBlock _ _ (fun r => kScales (BitVec.ofNat 32 (i 1).val) (tblWord i tbM0_2 xt2) (rows s0 r) (rows s1 r) (half x0 r 0) (half x0 r 1)) _ _ _ _
        (kScales_congr (BitVec.ofNat 32 (i 1).val) (tblWord i tbM0_2 xt2) (load_rows harg23 s0 0 inb_S256x128_S64x128_0_0) (load_rows harg24 s1 0 inb_S256x128_S64x128_0_0) (load_half harg5 x0 reshapes_S1x1024x128_S1x512x2x128.1 reshapes_S1x1024x128_S1x512x2x128.2 harg5.contiguous 0 0 inb_S1x512x2x128_S1x64x2x128_0_0_0_0_s_1_2_1_1) (load_half harg5 x0 reshapes_S1x1024x128_S1x512x2x128.1 reshapes_S1x1024x128_S1x512x2x128.2 harg5.contiguous 0 1 inb_S1x512x2x128_S1x64x2x128_0_1_0_0_s_1_2_1_1))
        (kScales_congr (BitVec.ofNat 32 (i 1).val) (tblWord i tbM0_2 xt2) (load_rows harg23 s0 1 inb_S256x128_S64x128_64_0) (load_rows harg24 s1 1 inb_S256x128_S64x128_64_0) (load_half harg5 x0 reshapes_S1x1024x128_S1x512x2x128.1 reshapes_S1x1024x128_S1x512x2x128.2 harg5.contiguous 1 0 inb_S1x512x2x128_S1x64x2x128_0_128_0_0_s_1_2_1_1) (load_half harg5 x0 reshapes_S1x1024x128_S1x512x2x128.1 reshapes_S1x1024x128_S1x512x2x128.2 harg5.contiguous 1 1 inb_S1x512x2x128_S1x64x2x128_0_129_0_0_s_1_2_1_1))
        (kScales_congr (BitVec.ofNat 32 (i 1).val) (tblWord i tbM0_2 xt2) (load_rows harg23 s0 2 inb_S256x128_S64x128_128_0) (load_rows harg24 s1 2 inb_S256x128_S64x128_128_0) (load_half harg5 x0 reshapes_S1x1024x128_S1x512x2x128.1 reshapes_S1x1024x128_S1x512x2x128.2 harg5.contiguous 2 0 inb_S1x512x2x128_S1x64x2x128_0_256_0_0_s_1_2_1_1) (load_half harg5 x0 reshapes_S1x1024x128_S1x512x2x128.1 reshapes_S1x1024x128_S1x512x2x128.2 harg5.contiguous 2 1 inb_S1x512x2x128_S1x64x2x128_0_257_0_0_s_1_2_1_1))
        (kScales_congr (BitVec.ofNat 32 (i 1).val) (tblWord i tbM0_2 xt2) (load_rows harg23 s0 3 inb_S256x128_S64x128_192_0) (load_rows harg24 s1 3 inb_S256x128_S64x128_192_0) (load_half harg5 x0 reshapes_S1x1024x128_S1x512x2x128.1 reshapes_S1x1024x128_S1x512x2x128.2 harg5.contiguous 3 0 inb_S1x512x2x128_S1x64x2x128_0_384_0_0_s_1_2_1_1) (load_half harg5 x0 reshapes_S1x1024x128_S1x512x2x128.1 reshapes_S1x1024x128_S1x512x2x128.2 harg5.contiguous 3 1 inb_S1x512x2x128_S1x64x2x128_0_385_0_0_s_1_2_1_1))
    isplitl [H16]
    · iexists _; isplitr; swap; · iexact H16
      ipureintro
      exact read_codeBlock _ _ (fun r => vCodes (half x1 r 0) (half x1 r 1)) _ _ _ _
        ((pay61_eq _ _).trans (vCodes_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1)))
        ((pay111_eq _ _).trans (vCodes_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1)))
        ((pay159_eq _ _).trans (vCodes_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1)))
        ((pay206_eq _ _).trans (vCodes_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1)))
    isplitl [H17]
    · iexists _; isplitr; swap; · iexact H17
      ipureintro
      exact read_scaleBlock _ _ (fun r => vScales (half x1 r 0) (half x1 r 1)) _ _ _ _
        (vScales_congr (load_half harg6 x1 reshapes_S1x1024x128_S1x512x2x128.1 reshapes_S1x1024x128_S1x512x2x128.2 harg6.contiguous 0 0 inb_S1x512x2x128_S1x64x2x128_0_0_0_0_s_1_2_1_1) (load_half harg6 x1 reshapes_S1x1024x128_S1x512x2x128.1 reshapes_S1x1024x128_S1x512x2x128.2 harg6.contiguous 0 1 inb_S1x512x2x128_S1x64x2x128_0_1_0_0_s_1_2_1_1))
        (vScales_congr (load_half harg6 x1 reshapes_S1x1024x128_S1x512x2x128.1 reshapes_S1x1024x128_S1x512x2x128.2 harg6.contiguous 1 0 inb_S1x512x2x128_S1x64x2x128_0_128_0_0_s_1_2_1_1) (load_half harg6 x1 reshapes_S1x1024x128_S1x512x2x128.1 reshapes_S1x1024x128_S1x512x2x128.2 harg6.contiguous 1 1 inb_S1x512x2x128_S1x64x2x128_0_129_0_0_s_1_2_1_1))
        (vScales_congr (load_half harg6 x1 reshapes_S1x1024x128_S1x512x2x128.1 reshapes_S1x1024x128_S1x512x2x128.2 harg6.contiguous 2 0 inb_S1x512x2x128_S1x64x2x128_0_256_0_0_s_1_2_1_1) (load_half harg6 x1 reshapes_S1x1024x128_S1x512x2x128.1 reshapes_S1x1024x128_S1x512x2x128.2 harg6.contiguous 2 1 inb_S1x512x2x128_S1x64x2x128_0_257_0_0_s_1_2_1_1))
        (vScales_congr (load_half harg6 x1 reshapes_S1x1024x128_S1x512x2x128.1 reshapes_S1x1024x128_S1x512x2x128.2 harg6.contiguous 3 0 inb_S1x512x2x128_S1x64x2x128_0_384_0_0_s_1_2_1_1) (load_half harg6 x1 reshapes_S1x1024x128_S1x512x2x128.1 reshapes_S1x1024x128_S1x512x2x128.2 harg6.contiguous 3 1 inb_S1x512x2x128_S1x64x2x128_0_385_0_0_s_1_2_1_1))
    isplitl [HS0]
    · iexists _; isplitr; swap; · iexact HS0
      ipureintro; exact harg23.read_unread _
    isplitl [HS1]
    · iexists _; isplitr; swap; · iexact HS1
      ipureintro; exact harg24.read_unread _
    isplitl [HT0]; · iexact HT0
    isplitl [HT1]; · iexact HT1
    iexact HT2

end Cert.KernelIdeal.Hand

end
-- ==== Proof.KernelIdeal.FrameV.lean ====
/- The values the kernel leaves: proof data that name what each output block holds after every point, the body
   obligation at every point, and the launch. The four blocks that a batch revisits are held to a relation, since what a
   batch's first point finds there is unknown until its last point has covered it. -/
module

public import proofs.«01_k».proof.Proof.KernelIdeal.RunVA
public import proofs.«01_k».proof.Proof.KernelIdeal.RunVB
public import proofs.«01_k».proof.Proof.KernelIdeal.RunVC
public import Idealize.ShloMosaic.Lib.Pipeline.DatRel
public import Idealize.ShloMosaic.Lib.Claim

@[expose] public section

-- the staging memrefs' shapes are read through the table of windows, one step per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a batch's points lay into the blocks it revisits -/

/-- What a revisited block holds after point `n`, when its batch found `y` there: the ends at the batch's first point, and every
    point's block over what was there. -/
def laid {N : Nat} {Y B : Type} (over : Nat → B → Y → Y) (o : Fin N → Nat) (p : Fin N → B) (e : Fin N → Y → Y) (y : Y) : (n : Nat) → n < N → Y
  | 0, h => over (o ⟨0, h⟩) (p ⟨0, h⟩) (e ⟨0, h⟩ y)
  | n + 1, h => if (n + 1) % 8 = 0 then over (o ⟨n + 1, h⟩) (p ⟨n + 1, h⟩) (e ⟨n + 1, h⟩ y)
      else over (o ⟨n + 1, h⟩) (p ⟨n + 1, h⟩) (laid over o p e y n (by omega))

section
variable {N : Nat} {Y B : Type} (over : Nat → B → Y → Y) (o : Fin N → Nat) (p : Fin N → B) (e : Fin N → Y → Y) (y : Y)

theorem laid_first (n : Nat) (h : n < N) (hn : n % 8 = 0) : laid over o p e y n h = over (o ⟨n, h⟩) (p ⟨n, h⟩) (e ⟨n, h⟩ y) := by
  cases n with
  | zero => rfl
  | succ n => exact if_pos hn

theorem laid_next (n : Nat) (h : n < N) (h' : n - 1 < N) (hn : n % 8 ≠ 0) :
    laid over o p e y n h = over (o ⟨n, h⟩) (p ⟨n, h⟩) (laid over o p e y (n - 1) h') := by
  cases n with
  | zero => exact absurd rfl hn
  | succ n => exact if_neg hn
end

/-! ## The blocks of a point -/

/-- The row of the touched tokens that point `t`'s block starts at. -/
def rowAt (hO : Ok m) (c : Dev nD) (t : Fin (cfgM m hO).N) : Nat := tokenRow (grid0.coords t) (tblWord (F := F) (grid0.coords t) tbM0_1 (tbl m 1))

/-- The key codes of point `t`. -/
def kcAt (hO : Ok m) (c : Dev nD) (t : Fin (cfgM m hO).N) : IVec S1x1024x128 8 :=
  kcBlock (BitVec.ofNat 32 (grid0.coords t 1).val) (tblWord (F := F) (grid0.coords t) tbM0_2 (tbl m 2)) cosTab sinTab (iblk m hO c 0 t)

/-- The key scales of point `t`. -/
def ksAt (hO : Ok m) (c : Dev nD) (t : Fin (cfgM m hO).N) : FVec F S1x256x4 .f32 :=
  ksBlock (BitVec.ofNat 32 (grid0.coords t 1).val) (tblWord (F := F) (grid0.coords t) tbM0_2 (tbl m 2)) cosTab sinTab (iblk m hO c 0 t)

/-- The value codes of point `t`. -/
def vcAt (hO : Ok m) (c : Dev nD) (t : Fin (cfgM m hO).N) : IVec S1x1024x128 8 := vcBlock (iblk m hO c 1 t)

/-- The value scales of point `t`. -/
def vsAt (hO : Ok m) (c : Dev nD) (t : Fin (cfgM m hO).N) : FVec F S1x256x4 .f32 := vsBlock (iblk m hO c 1 t)

/-- The touched key codes after point `t`, over what its batch found. -/
def tkAt (hO : Ok m) (c : Dev nD) (y : IVec S1x8256x128 8) (n : Nat) (h : n < (cfgM m hO).N) : IVec S1x8256x128 8 :=
  laid overCodes (fun t => 4 * rowAt m hO c t) (kcAt m hO c) (fun t => endCodes (iblk m hO c 2 t) (iblk m hO c 3 t)) y n h

/-- The touched key scales after point `t`, over what its batch found. -/
def tksAt (hO : Ok m) (c : Dev nD) (y : FVec F S1x2064x4 .f32) (n : Nat) (h : n < (cfgM m hO).N) : FVec F S1x2064x4 .f32 :=
  laid overScales (rowAt m hO c) (ksAt m hO c) (fun t => endScales (iblk m hO c 4 t) (iblk m hO c 5 t)) y n h

/-- The touched value codes after point `t`, over what its batch found. -/
def tvAt (hO : Ok m) (c : Dev nD) (y : IVec S1x8256x128 8) (n : Nat) (h : n < (cfgM m hO).N) : IVec S1x8256x128 8 :=
  laid overCodes (fun t => 4 * rowAt m hO c t) (vcAt m hO c) (fun t => endCodes (iblk m hO c 6 t) (iblk m hO c 7 t)) y n h

/-- The touched value scales after point `t`, over what its batch found. -/
def tvsAt (hO : Ok m) (c : Dev nD) (y : FVec F S1x2064x4 .f32) (n : Nat) (h : n < (cfgM m hO).N) : FVec F S1x2064x4 .f32 :=
  laid overScales (rowAt m hO c) (vsAt m hO c) (fun t => endScales (iblk m hO c 8 t) (iblk m hO c 9 t)) y n h

/-! ## The pipeline's proof data -/

/-- The windows held to a relation: the four blocks that a batch revisits. -/
def revisited : Fin 18 → Bool := fun w => w.val == 10 || w.val == 11 || w.val == 12 || w.val == 13

/-- The relation: what the block holds after point `t` is what the points of its batch laid over something. -/
def relV (hO : Ok m) (c : Dev nD) (w : Fin (cfgM m hO).W) (t : Fin (cfgM m hO).N) : ((((cfgM m hO).win w).block).Idx → Elt F ((cfgM m hO).win w).elt) → Prop :=
  match w with
  | ⟨10, _⟩ => fun X => ∃ y, X = tkAt m hO c y t.val t.isLt
  | ⟨11, _⟩ => fun X => ∃ y, X = tksAt m hO c y t.val t.isLt
  | ⟨12, _⟩ => fun X => ∃ y, X = tvAt m hO c y t.val t.isLt
  | ⟨13, _⟩ => fun X => ∃ y, X = tvsAt m hO c y t.val t.isLt
  | _ => fun _ => True

/-- The invariant between points: the tables in scratch hold anything before the first point and the cosines and sines after it. -/
def scratchAt (c : Dev nD) (n : Nat) : sProp 𝕄 :=
  if n = 0 then iprop((∃ d, owns (c : Thread nD τ) scM0_0 fullShare d) ∗ (∃ d, owns (c : Thread nD τ) scM0_1 fullShare d))
  else iprop(owns (c : Thread nD τ) scM0_0 fullShare (cosTab : FVec F S256x128 .f32) ∗ owns (c : Thread nD τ) scM0_1 fullShare (sinTab : FVec F S256x128 .f32))

/-- The proof data of the one pipeline on core `c`: the arrays as the region finds them (`V`); after the body at point `t` each
    input's buffer at its block, the codes and scales of the point in the blocks written once, and nothing named in the revisited ones
    (`relV`). -/
def datV (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, _⟩ => kcAt m hO c t
    | ⟨15, _⟩ => ksAt m hO c t
    | ⟨16, _⟩ => vcAt m hO c t
    | ⟨17, _⟩ => vsAt m hO c t
    | ⟨_ + 18, h⟩ => absurd h (Nat.not_lt.2 (Nat.le_add_left _ _))
  Φ t := iprop((scratchAt c t.val ∗ (∃ r, prngReg c r)) ∗ Pipeline.ΦT pre0 (tbl m) c)
  q w := Pipeline.shareOf spec0 w
  owed _ := 0

/-- The proof data with the revisited blocks held to their relation. -/
def rdatV (hO : Ok m) (c : Dev nD) : RDat τ (Elt F) Unit ℕ (UR sig nD τ) ℕ (cfgM m hO) c := (datV m hO c).toRRel revisited (relV m hO c)

/-- The proof data's arrays are the region-entry contents. -/
theorem A_eqV (hO : Ok m) (c : Dev nD) (w : Fin (cfgM m hO).W) : (datV m hO c).A w = V m c (Pipeline.arrRef spec0 w) := by
  dsimp only [datV]

/-- What the body leaves, window by window. -/
theorem afterV_0 (hO : Ok m) (c : Dev nD) (t : Fin (cfgM m hO).N) : (datV m hO c).after 0 t = iblk m hO c 0 t := by dsimp only [datV]; try rfl
theorem afterV_1 (hO : Ok m) (c : Dev nD) (t : Fin (cfgM m hO).N) : (datV m hO c).after 1 t = iblk m hO c 1 t := by dsimp only [datV]; try rfl
theorem afterV_2 (hO : Ok m) (c : Dev nD) (t : Fin (cfgM m hO).N) : (datV m hO c).after 2 t = iblk m hO c 2 t := by dsimp only [datV]; try rfl
theorem afterV_3 (hO : Ok m) (c : Dev nD) (t : Fin (cfgM m hO).N) : (datV m hO c).after 3 t = iblk m hO c 3 t := by dsimp only [datV]; try rfl
theorem afterV_4 (hO : Ok m) (c : Dev nD) (t : Fin (cfgM m hO).N) : (datV m hO c).after 4 t = iblk m hO c 4 t := by dsimp only [datV]; try rfl
theorem afterV_5 (hO : Ok m) (c : Dev nD) (t : Fin (cfgM m hO).N) : (datV m hO c).after 5 t = iblk m hO c 5 t := by dsimp only [datV]; try rfl
theorem afterV_6 (hO : Ok m) (c : Dev nD) (t : Fin (cfgM m hO).N) : (datV m hO c).after 6 t = iblk m hO c 6 t := by dsimp only [datV]; try rfl
theorem afterV_7 (hO : Ok m) (c : Dev nD) (t : Fin (cfgM m hO).N) : (datV m hO c).after 7 t = iblk m hO c 7 t := by dsimp only [datV]; try rfl
theorem afterV_8 (hO : Ok m) (c : Dev nD) (t : Fin (cfgM m hO).N) : (datV m hO c).after 8 t = iblk m hO c 8 t := by dsimp only [datV]; try rfl
theorem afterV_9 (hO : Ok m) (c : Dev nD) (t : Fin (cfgM m hO).N) : (datV m hO c).after 9 t = iblk m hO c 9 t := by dsimp only [datV]; try rfl
theorem afterV_14 (hO : Ok m) (c : Dev nD) (t : Fin (cfgM m hO).N) : (datV m hO c).after 14 t = kcAt m hO c t := by dsimp only [datV]; try rfl
theorem afterV_15 (hO : Ok m) (c : Dev nD) (t : Fin (cfgM m hO).N) : (datV m hO c).after 15 t = ksAt m hO c t := by dsimp only [datV]; try rfl
theorem afterV_16 (hO : Ok m) (c : Dev nD) (t : Fin (cfgM m hO).N) : (datV m hO c).after 16 t = vcAt m hO c t := by dsimp only [datV]; try rfl
theorem afterV_17 (hO : Ok m) (c : Dev nD) (t : Fin (cfgM m hO).N) : (datV m hO c).after 17 t = vsAt m hO c t := by dsimp only [datV]; try rfl

/-- Each input's current staging buffer holds its block at every point, fetched there or not. -/
theorem beforeV_0 (hO : Ok m) (c : Dev nD) (t : Fin (cfgM m hO).N) (d) : (datV m hO c).before 0 t d = iblk m hO c 0 t :=
  before0_0_of m hO (datV m hO c) (A_eqV m hO c 0) (afterV_0 m hO c) t d
theorem beforeV_1 (hO : Ok m) (c : Dev nD) (t : Fin (cfgM m hO).N) (d) : (datV m hO c).before 1 t d = iblk m hO c 1 t :=
  before0_1_of m hO (datV m hO c) (A_eqV m hO c 1) (afterV_1 m hO c) t d
theorem beforeV_2 (hO : Ok m) (c : Dev nD) (t : Fin (cfgM m hO).N) (d) : (datV m hO c).before 2 t d = iblk m hO c 2 t :=
  before0_2_of m hO (datV m hO c) (A_eqV m hO c 2) (afterV_2 m hO c) t d
theorem beforeV_3 (hO : Ok m) (c : Dev nD) (t : Fin (cfgM m hO).N) (d) : (datV m hO c).before 3 t d = iblk m hO c 3 t :=
  before0_3_of m hO (datV m hO c) (A_eqV m hO c 3) (afterV_3 m hO c) t d
theorem beforeV_4 (hO : Ok m) (c : Dev nD) (t : Fin (cfgM m hO).N) (d) : (datV m hO c).before 4 t d = iblk m hO c 4 t :=
  before0_4_of m hO (datV m hO c) (A_eqV m hO c 4) (afterV_4 m hO c) t d
theorem beforeV_5 (hO : Ok m) (c : Dev nD) (t : Fin (cfgM m hO).N) (d) : (datV m hO c).before 5 t d = iblk m hO c 5 t :=
  before0_5_of m hO (datV m hO c) (A_eqV m hO c 5) (afterV_5 m hO c) t d
theorem beforeV_6 (hO : Ok m) (c : Dev nD) (t : Fin (cfgM m hO).N) (d) : (datV m hO c).before 6 t d = iblk m hO c 6 t :=
  before0_6_of m hO (datV m hO c) (A_eqV m hO c 6) (afterV_6 m hO c) t d
theorem beforeV_7 (hO : Ok m) (c : Dev nD) (t : Fin (cfgM m hO).N) (d) : (datV m hO c).before 7 t d = iblk m hO c 7 t :=
  before0_7_of m hO (datV m hO c) (A_eqV m hO c 7) (afterV_7 m hO c) t d
theorem beforeV_8 (hO : Ok m) (c : Dev nD) (t : Fin (cfgM m hO).N) (d) : (datV m hO c).before 8 t d = iblk m hO c 8 t :=
  before0_8_of m hO (datV m hO c) (A_eqV m hO c 8) (afterV_8 m hO c) t d
theorem beforeV_9 (hO : Ok m) (c : Dev nD) (t : Fin (cfgM m hO).N) (d) : (datV m hO c).before 9 t d = iblk m hO c 9 t :=
  before0_9_of m hO (datV m hO c) (A_eqV m hO c 9) (afterV_9 m hO c) t d

/-- Within a batch the body finds in a revisited block what the point before left. -/
theorem rel_of_finds (hO : Ok m) (c : Dev nD) (w : Fin (cfgM m hO).W) (hw : revisited w = true) (ho : ((cfgM m hO).win w).isOut = true)
    (hfl : ∀ t : Fin (cfgM m hO).N, ((cfgM m hO).win w).flush t = true ↔ t.val % 8 = 7) (t : Fin (cfgM m hO).N) (ht : t.val % 8 ≠ 0)
    (Y) (h : (rdatV m hO c).Finds w t Y) : relV m hO c w ⟨t.val - 1, Nat.lt_of_le_of_lt (Nat.sub_le _ _) t.isLt⟩ Y := by
  rcases ((rdatV m hO c).finds_of_pos (((cfgM m hO).win w).fetch_out ho t) (fun h0 => ht (by rw [h0])) Y).mp h with h | h
  · have := (hfl _).mp h
    dsimp only at this
    omega
  · exact (datV m hO c).toRRel_leaves hw h

/-! ## The body obligation, at a generic point -/

/-- What the body is called with at point `t`, the windows one by one, -/
def bodyPreV (hO : Ok m) (c : Dev nD) (t : Fin (cfgM m hO).N) : sProp 𝕄 :=
  iprop((datV m hO c).Φ t.castSucc ∗ (datV m hO c).owesAt () t.castSucc
    ∗ (∃ d, owns (c : Thread nD τ) (ms0_0 m hO t) fullShare ((datV m hO c).before 0 t d))
    ∗ (∃ d, owns (c : Thread nD τ) (ms0_1 m hO t) fullShare ((datV m hO c).before 1 t d))
    ∗ (∃ d, owns (c : Thread nD τ) (ms0_2 m hO t) fullShare ((datV m hO c).before 2 t d))
    ∗ (∃ d, owns (c : Thread nD τ) (ms0_3 m hO t) fullShare ((datV m hO c).before 3 t d))
    ∗ (∃ d, owns (c : Thread nD τ) (ms0_4 m hO t) fullShare ((datV m hO c).before 4 t d))
    ∗ (∃ d, owns (c : Thread nD τ) (ms0_5 m hO t) fullShare ((datV m hO c).before 5 t d))
    ∗ (∃ d, owns (c : Thread nD τ) (ms0_6 m hO t) fullShare ((datV m hO c).before 6 t d))
    ∗ (∃ d, owns (c : Thread nD τ) (ms0_7 m hO t) fullShare ((datV m hO c).before 7 t d))
    ∗ (∃ d, owns (c : Thread nD τ) (ms0_8 m hO t) fullShare ((datV m hO c).before 8 t d))
    ∗ (∃ d, owns (c : Thread nD τ) (ms0_9 m hO t) fullShare ((datV m hO c).before 9 t d))
    ∗ (∃ Y, ⌜(rdatV m hO c).Finds 10 t Y⌝ ∗ owns (c : Thread nD τ) (ms0_10 m hO t) fullShare Y)
    ∗ (∃ Y, ⌜(rdatV m hO c).Finds 11 t Y⌝ ∗ owns (c : Thread nD τ) (ms0_11 m hO t) fullShare Y)
    ∗ (∃ Y, ⌜(rdatV m hO c).Finds 12 t Y⌝ ∗ owns (c : Thread nD τ) (ms0_12 m hO t) fullShare Y)
    ∗ (∃ Y, ⌜(rdatV m hO c).Finds 13 t Y⌝ ∗ owns (c : Thread nD τ) (ms0_13 m hO t) fullShare Y)
    ∗ (∃ d, owns (c : Thread nD τ) (ms0_14 m hO t) fullShare ((datV m hO c).before 14 t d))
    ∗ (∃ d, owns (c : Thread nD τ) (ms0_15 m hO t) fullShare ((datV m hO c).before 15 t d))
    ∗ (∃ d, owns (c : Thread nD τ) (ms0_16 m hO t) fullShare ((datV m hO c).before 16 t d))
    ∗ (∃ d, owns (c : Thread nD τ) (ms0_17 m hO t) fullShare ((datV m hO c).before 17 t d)))

/-- and what it returns. -/
def bodyPostV (hO : Ok m) (c : Dev nD) (t : Fin (cfgM m hO).N) : sProp 𝕄 :=
  iprop((datV m hO c).Φ t.succ ∗ (datV m hO c).owesAt () t.succ
    ∗ owns (c : Thread nD τ) (ms0_0 m hO t) fullShare ((datV m hO c).after 0 t)
    ∗ owns (c : Thread nD τ) (ms0_1 m hO t) fullShare ((datV m hO c).after 1 t)
    ∗ owns (c : Thread nD τ) (ms0_2 m hO t) fullShare ((datV m hO c).after 2 t)
    ∗ owns (c : Thread nD τ) (ms0_3 m hO t) fullShare ((datV m hO c).after 3 t)
    ∗ owns (c : Thread nD τ) (ms0_4 m hO t) fullShare ((datV m hO c).after 4 t)
    ∗ owns (c : Thread nD τ) (ms0_5 m hO t) fullShare ((datV m hO c).after 5 t)
    ∗ owns (c : Thread nD τ) (ms0_6 m hO t) fullShare ((datV m hO c).after 6 t)
    ∗ owns (c : Thread nD τ) (ms0_7 m hO t) fullShare ((datV m hO c).after 7 t)
    ∗ owns (c : Thread nD τ) (ms0_8 m hO t) fullShare ((datV m hO c).after 8 t)
    ∗ owns (c : Thread nD τ) (ms0_9 m hO t) fullShare ((datV m hO c).after 9 t)
    ∗ (∃ X, ⌜relV m hO c 10 t X⌝ ∗ owns (c : Thread nD τ) (ms0_10 m hO t) fullShare X)
    ∗ (∃ X, ⌜relV m hO c 11 t X⌝ ∗ owns (c : Thread nD τ) (ms0_11 m hO t) fullShare X)
    ∗ (∃ X, ⌜relV m hO c 12 t X⌝ ∗ owns (c : Thread nD τ) (ms0_12 m hO t) fullShare X)
    ∗ (∃ X, ⌜relV m hO c 13 t X⌝ ∗ owns (c : Thread nD τ) (ms0_13 m hO t) fullShare X)
    ∗ owns (c : Thread nD τ) (ms0_14 m hO t) fullShare ((datV m hO c).after 14 t)
    ∗ owns (c : Thread nD τ) (ms0_15 m hO t) fullShare ((datV m hO c).after 15 t)
    ∗ owns (c : Thread nD τ) (ms0_16 m hO t) fullShare ((datV m hO c).after 16 t)
    ∗ owns (c : Thread nD τ) (ms0_17 m hO t) fullShare ((datV m hO c).after 17 t))

set_option maxHeartbeats 6000000 in
/-- The body at any point: the inputs' memrefs hold their blocks, so the run of the case the point is in applies; the scratch holds the
    tables from the first point on; and the revisited blocks continue what the point before left, or begin a batch over what is there. -/
theorem sound_bodyV (hO : Ok m) (c : Dev nD) (hw : ∀ t : Fin (cfgM m hO).N, (tblWord (F := F) (grid0.coords t) tbM0_1 (tbl m 1)).toNat ≤ 6144) (t : Fin (cfgM m hO).N) :
    bodyPreV m hO c t ⊢ wp frame (wpE (defs₀ (F := F)) Variants.none c none) Set.univ (bodyAt0 (adm m hO) t) (fun _ => bodyPostV m hO c t) := by
  unfold bodyPreV bodyPostV bodyAt0
  simp only [beforeV_0, beforeV_1, beforeV_2, beforeV_3, beforeV_4, beforeV_5, beforeV_6, beforeV_7, beforeV_8, beforeV_9]
  rw [show (datV m hO c).owesAt () t.succ = (datV m hO c).owesAt () t.castSucc from rfl,
    afterV_0, afterV_1, afterV_2, afterV_3, afterV_4, afterV_5, afterV_6, afterV_7, afterV_8, afterV_9, afterV_14, afterV_15, afterV_16, afterV_17]
  rw [show (datV m hO c).Φ t.castSucc = iprop((scratchAt c t.val ∗ (∃ r, prngReg c r)) ∗ Pipeline.ΦT pre0 (tbl m) c) from rfl,
    show (datV m hO c).Φ t.succ = iprop((scratchAt c (t.val + 1) ∗ (∃ r, prngReg c r)) ∗ Pipeline.ΦT pre0 (tbl m) c) from rfl, PhiT0_eq,
    show scratchAt (F := F) c (t.val + 1) = _ from if_neg (Nat.succ_ne_zero _)]
  have hN : t.val < 32 := lt_of_lt_of_eq t.isLt (show (cfgM m hO).N = 32 from N_0)
  by_cases h0 : t.val % 32 = 0
  · have h1 : t.val % 8 = 0 := by omega
    rw [show scratchAt (F := F) c t.val = _ from if_pos (by omega)]
    iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %e10, H10⟩, ⟨%d11, %e11, H11⟩, ⟨%d12, %e12, H12⟩, ⟨%d13, %e13, H13⟩, ⟨%d14, H14⟩, ⟨%d15, H15⟩, ⟨%d16, H16⟩, ⟨%d17, H17⟩⟩
    iapply ((kernelRunV_A c (grid0.coords t) _ _ _ _ _ _ _ _ _ _ _ _ _ _ _ _ _ _ _ _ _ _ _ _ _ _ _ _ _ _ _ _ _ _ _ _ _ _ _ _ ((hcond0_0 t).mpr h0) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) d10 d11 d12 d13 (hw t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [HS0]; · iexact HS0
    isplitl [HS1]; · iexact HS1
    isplitl [HT0]; · iexact HT0
    isplitl [HT1]; · iexact HT1
    isplitl [HT2]; · iexact HT2
    iintro ⟨H0, H1, H2, H3, H4, H5, H6, H7, H8, H9, H10, H11, H12, H13, H14, H15, H16, H17, HS0, HS1, HT0, HT1, HT2⟩
    isplitl [HS0 HS1 Hg HT0 HT1 HT2]
    · isplitl [HS0 HS1 Hg]
      · isplitl [HS0 HS1]
        · isplitl [HS0]
          · iexact HS0
          iexact HS1
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitr; · ipureintro; exact ⟨d10, (laid_first _ _ _ _ _ t.val t.isLt h1).symm⟩
      iexact H10
    isplitl [H11]
    · iexists _; isplitr; · ipureintro; exact ⟨d11, (laid_first _ _ _ _ _ t.val t.isLt h1).symm⟩
      iexact H11
    isplitl [H12]
    · iexists _; isplitr; · ipureintro; exact ⟨d12, (laid_first _ _ _ _ _ t.val t.isLt h1).symm⟩
      iexact H12
    isplitl [H13]
    · iexists _; isplitr; · ipureintro; exact ⟨d13, (laid_first _ _ _ _ _ t.val t.isLt h1).symm⟩
      iexact H13
    isplitl [H14]; · iexact H14
    isplitl [H15]; · iexact H15
    isplitl [H16]; · iexact H16
    iexact H17
  · by_cases h1 : t.val % 8 = 0
    · rw [show scratchAt (F := F) c t.val = _ from if_neg (by omega)]
      iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %e10, H10⟩, ⟨%d11, %e11, H11⟩, ⟨%d12, %e12, H12⟩, ⟨%d13, %e13, H13⟩, ⟨%d14, H14⟩, ⟨%d15, H15⟩, ⟨%d16, H16⟩, ⟨%d17, H17⟩⟩
      iapply ((kernelRunV_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) d10 d11 d12 d13 cosTab sinTab (hw t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; · ipureintro; exact ⟨d10, (laid_first _ _ _ _ _ t.val t.isLt h1).symm⟩
        iexact H10
      isplitl [H11]
      · iexists _; isplitr; · ipureintro; exact ⟨d11, (laid_first _ _ _ _ _ t.val t.isLt h1).symm⟩
        iexact H11
      isplitl [H12]
      · iexists _; isplitr; · ipureintro; exact ⟨d12, (laid_first _ _ _ _ _ t.val t.isLt h1).symm⟩
        iexact H12
      isplitl [H13]
      · iexists _; isplitr; · ipureintro; exact ⟨d13, (laid_first _ _ _ _ _ t.val t.isLt h1).symm⟩
        iexact H13
      isplitl [H14]; · iexact H14
      isplitl [H15]; · iexact H15
      isplitl [H16]; · iexact H16
      iexact H17
    · rw [show scratchAt (F := F) c t.val = _ from if_neg (by omega)]
      iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, %e10, H10⟩, ⟨%d11, %e11, H11⟩, ⟨%d12, %e12, H12⟩, ⟨%d13, %e13, H13⟩, ⟨%d14, H14⟩, ⟨%d15, H15⟩, ⟨%d16, H16⟩, ⟨%d17, H17⟩⟩
      obtain ⟨y10, hy10⟩ := rel_of_finds m hO c 10 rfl rfl (flush0_10 (adm m hO)) t h1 _ e10
      obtain ⟨y11, hy11⟩ := rel_of_finds m hO c 11 rfl rfl (flush0_11 (adm m hO)) t h1 _ e11
      obtain ⟨y12, hy12⟩ := rel_of_finds m hO c 12 rfl rfl (flush0_12 (adm m hO)) t h1 _ e12
      obtain ⟨y13, hy13⟩ := rel_of_finds m hO c 13 rfl rfl (flush0_13 (adm m hO)) t h1 _ e13
      iapply ((kernelRunV_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (tbl m 0) (tbl m 1) (tbl m 2) d10 d11 d12 d13 cosTab sinTab (hw t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HT0]; · iexact HT0
      isplitl [HT1]; · iexact HT1
      isplitl [HT2]; · iexact HT2
      iintro ⟨H0, H1, H2, H3, H4, H5, H6, H7, H8, H9, H10, H11, H12, H13, H14, H15, H16, H17, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; · ipureintro; exact ⟨y10, (congrArg (overCodes _ _) hy10).trans (laid_next _ _ _ _ _ t.val t.isLt _ h1).symm⟩
        iexact H10
      isplitl [H11]
      · iexists _; isplitr; · ipureintro; exact ⟨y11, (congrArg (overScales _ _) hy11).trans (laid_next _ _ _ _ _ t.val t.isLt _ h1).symm⟩
        iexact H11
      isplitl [H12]
      · iexists _; isplitr; · ipureintro; exact ⟨y12, (congrArg (overCodes _ _) hy12).trans (laid_next _ _ _ _ _ t.val t.isLt _ h1).symm⟩
        iexact H12
      isplitl [H13]
      · iexists _; isplitr; · ipureintro; exact ⟨y13, (congrArg (overScales _ _) hy13).trans (laid_next _ _ _ _ _ t.val t.isLt _ h1).symm⟩
        iexact H13
      isplitl [H14]; · iexact H14
      isplitl [H15]; · iexact H15
      isplitl [H16]; · iexact H16
      iexact H17

/-- The body table's row at point `t`'s slots is the body as `bodyAt0` spells it. -/
theorem defs₀_rowV (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligationV (hO : Ok m) (c : Dev nD) (hw : ∀ t : Fin (cfgM m hO).N, (tblWord (F := F) (grid0.coords t) tbM0_1 (tbl m 1)).toNat ≤ 6144) :
    BodyObligationRel (datV (F := F) m hO c) (defs₀ (F := F)) Variants.none () Set.univ revisited (relV m hO c) := fun t => by
  rw [bigSep_W0, bigSep_W0, defs₀_rowV m hO]
  exact triple_restated (sound_bodyV m hO c hw t) rfl .rfl fun _ => .rfl

/-! ## The launch -/

set_option backward.isDefEq.respectTransparency.types false in
/-- Every weakly fair execution terminates, with every array at what the proof data leave in it. -/
theorem run_mainV (hO : Ok m) (hw : ∀ t : Fin (cfgM m hO).N, (tblWord (F := F) (grid0.coords t) tbM0_1 (tbl m 1)).toNat ≤ 6144) :
    θ_run defs (onTc (τ := τ) (main (F := F))) (s₀ m ρ) (Pipeline.RDat.FramePost ((Pipeline.pin pcfgs fun _ => adm m hO) 0) (rdatV m hO) (V m)) :=
  Pipeline.RDat.θ_run_frameP_track_shared (Q' := _) pcfgs (fun _ => adm m hO) (0 : Fin 1) launch₀0 defs₀ Variants.none (rdatV m hO) m ρ main
    (hbody := fun c => (body_obligationV m hO c hw).toRRel) (hq := fun _ _ _ => rfl)
    (howed := fun _ _ => rfl) (V := V m) (hmain := hmain m Variants.none) (hA := A_eqV m hO) (hpf := V_pre m)
    (hin := fun c => by
      show iprop(Pipeline.ΦA spec0 c ∗ Pipeline.ΦT pre0 (tbl m) c) ⊢ iprop((scratchAt c 0 ∗ (∃ r, prngReg c r)) ∗ Pipeline.ΦT pre0 (tbl m) c)
      rw [PhiA0_eq, show scratchAt (F := F) c 0 = _ from if_pos rfl])
    (hout := fun c => by
      show iprop((scratchAt c (cfgM m hO).N ∗ (∃ r, prngReg c r)) ∗ Pipeline.ΦT pre0 (tbl m) c) ⊢ Pipeline.ΦA spec0 c
      rw [PhiA0_eq, show scratchAt (F := F) c (cfgM m hO).N = _ from if_neg (by rw [show (cfgM m hO).N = 32 from N_0]; decide)]
      iintro ⟨⟨⟨HS0, HS1⟩, Hg⟩, -⟩
      isplitl [HS0 HS1]
      · isplitl [HS0]
        · iexists _; iexact HS0
        iexists _; iexact HS1
      iexact Hg)

end Cert.KernelIdeal.Hand

end
-- ==== Proof.KernelIdeal.FinalV.lean ====
/- What the launch leaves in each result array, read at an index. The four arrays of new codes and new scales are tiled by
   the points' blocks; the four touched arrays hold what a batch's last point leaves in its block. -/
module

public import proofs.«01_k».proof.Proof.KernelIdeal.FrameV
public import Idealize.ShloMosaic.Lib.Pipeline.ArrRel
public import Idealize.ShloMosaic.Lib.Pipeline.Value

@[expose] public section

-- the staging memrefs' shapes are read through the table of windows, one step per coordinate of the long axes
set_option maxRecDepth 16384

noncomputable section

namespace Cert.KernelIdeal.Hand

open Cert.KernelIdeal.Gen

open Idealize.ShloMosaic Idealize.ShloMosaic.TcCoe Idealize.ShloMosaic.Tactic
open Idealize.ShloMosaic.Pipeline (Dat RDat Cfg Window)

variable {F : FTy → Type} [FloatOps F] [Named F]

variable (m : (ℓ : Loc nD τ sig) → Buf (Elt F) ℓ)

/-- A point's batch. -/
theorem coord0 (t : Fin grid0.N) : (grid0.coords t 0).val = t.val / 8 := by
  have e0 : (grid0.coords t 0).val = t.val / 8 % 4 := Pipeline.Grid.coords_val t 0 (by decide) rfl
  have := t.isLt
  have hN : grid0.N = 32 := by decide
  omega

/-- A point's chunk. -/
theorem coord1 (t : Fin grid0.N) : (grid0.coords t 1).val = t.val % 8 := by
  have e1 : (grid0.coords t 1).val = t.val / 1 % 8 := Pipeline.Grid.coords_val t 1 (by decide) rfl
  omega

/-- The point of batch `b` and chunk `i`. -/
def point (b : Fin 4) (i : Nat) (hi : i < 8) : Fin grid0.N :=
  ⟨8 * b.val + i, (by have := b.isLt; omega : 8 * b.val + i < 32)⟩

/-- The whole of an array tiled by the points' blocks of `k` rows: row `q` of batch `b` is in chunk `q / k`. -/
def tiled {α : Type} {k d : Nat} (X : Fin grid0.N → (⟨3, ![1, k, d]⟩ : Shape).Idx → α) (hk : 0 < k) :
    (⟨3, ![4, 8 * k, d]⟩ : Shape).Idx → α :=
  fun j => X (point (j 0) ((j 1).val / k) ((Nat.div_lt_iff_lt_mul hk).2 (j 1).isLt)) (ValueIdx.ix3 0 ⟨(j 1).val % k, Nat.mod_lt _ hk⟩ (j 2))

/-- Read where the block of a point sits it is the point's block. -/
theorem tiled_block {α : Type} {k d : Nat} (X : Fin grid0.N → (⟨3, ![1, k, d]⟩ : Shape).Idx → α) (hk : 0 < k)
    (t : Fin grid0.N) (y : (⟨3, ![1, k, d]⟩ : Shape).Idx) (j : (⟨3, ![4, 8 * k, d]⟩ : Shape).Idx)
    (h0 : (j 0).val = t.val / 8) (h1 : (j 1).val = t.val % 8 * k + (y 1).val) (h2 : (j 2).val = (y 2).val) :
    tiled X hk j = X t y := by
  have hy : (y 1).val < k := (y 1).isLt
  have hy0 : (y 0).val < 1 := (y 0).isLt
  have hd : (j 1).val / k = t.val % 8 := by
    rw [h1, Nat.mul_comm, Nat.mul_add_div hk, Nat.div_eq_of_lt hy, Nat.add_zero]
  have hm : (j 1).val % k = (y 1).val := by
    rw [h1, Nat.mul_comm, Nat.mul_add_mod, Nat.mod_eq_of_lt hy]
  unfold tiled
  congr 1
  · apply Fin.ext
    show 8 * (j 0).val + (j 1).val / k = t.val
    omega
  · funext a
    apply Fin.ext
    match a with
    | ⟨0, _⟩ => show 0 = (y 0).val; omega
    | ⟨1, _⟩ => exact hm
    | ⟨2, _⟩ => exact h2

section

variable (hO : Ok m) (c : Dev nD)

/-- Where a block of key codes sits in its array. -/
theorem emb14 (t : Fin (cfgM m hO).N) (y : S1x1024x128.Idx) (j : S4x8192x128.Idx) (hj : (((cfgM m hO).win 14).blk t).view.emb y = j) :
    (j 0).val = t.val / 8 ∧ (j 1).val = t.val % 8 * 1024 + (y 1).val ∧ (j 2).val = (y 2).val := by
  subst hj
  have ht : t.val < 32 := t.isLt
  refine ⟨?_, ?_, ?_⟩
  · refine (Window.rect_emb_val ((cfgM m hO).win 14) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 14) t y (1 : Fin 3)).trans ?_
    have e := coord1 t
    show (BitVec.ofNat 32 (grid0.coords t 1).val).toNat * 1024 + (y 1).val = _
    rw [BitVec.toNat_ofNat]
    omega
  · refine (Window.rect_emb_val ((cfgM m hO).win 14) t y (2 : Fin 3)).trans ?_
    show 0 * _ + (y 2).val = _
    rw [Nat.zero_mul, Nat.zero_add]

/-- A point's block of key codes covers the rows of its chunk. -/
theorem mem14 (j : S4x8192x128.Idx) (t : Fin (cfgM m hO).N) (h0 : (j 0).val = t.val / 8) (h1 : (j 1).val / 1024 = t.val % 8) :
    j ∈ (((cfgM m hO).win 14).blk t).view.set := by
  let y : S1x1024x128.Idx := ValueIdx.ix3 (0 : Fin 1) (⟨(j 1).val % 1024, Nat.mod_lt _ (by decide)⟩ : Fin 1024) (j 2)
  have hm := View.emb_mem_set (((cfgM m hO).win 14).blk t).view y
  generalize hi : (((cfgM m hO).win 14).blk t).view.emb y = i at hm
  obtain ⟨e0, e1, e2⟩ := emb14 m hO t y i hi
  have hy : (y 1).val = (j 1).val % 1024 := rfl
  have e : i = j := by
    refine funext fun a : Fin 3 => Fin.ext ?_
    match a with
    | ⟨0, _⟩ => exact e0.trans h0.symm
    | ⟨1, _⟩ => refine e1.trans ?_; rw [hy, ← h1]; show _ = (j 1).val; omega
    | ⟨2, _⟩ => exact e2
  rw [← e]
  exact hm

/-- What a point writes back of key codes, read from the tiled array. -/
theorem flushed14 (after : (w' : Fin (cfgM m hO).W) → Fin (cfgM m hO).N → ((cfgM m hO).win w').block.Idx → Elt F ((cfgM m hO).win w').elt)
    (X : Fin grid0.N → S1x1024x128.Idx → Elt F .i8) (h : ∀ t, after 14 t = X t) (t : Fin (cfgM m hO).N) :
    ((rdatV m hO c).withAfter after).flushed 14 t
      = (((cfgM m hO).win 14).blk t).view.read (Elt F) (tiled (k := 1024) (d := 128) X (by decide) : S4x8192x128.Idx → Elt F .i8) := by
  funext y
  obtain ⟨h0, h1, h2⟩ := emb14 m hO t y _ rfl
  refine Eq.trans ?_ (tiled_block (k := 1024) (d := 128) X (by decide) t y _ h0 h1 h2).symm
  exact congrFun (h t) y

/-- The array of key codes after the launch, from what every point leaves in its block. -/
theorem arr14 (after : (w' : Fin (cfgM m hO).W) → Fin (cfgM m hO).N → ((cfgM m hO).win w').block.Idx → Elt F ((cfgM m hO).win w').elt)
    (X : Fin grid0.N → S1x1024x128.Idx → Elt F .i8) (h : ∀ t, after 14 t = X t) (j : S4x8192x128.Idx) :
    ((rdatV m hO c).withAfter after).arrAt 14 (cfgM m hO).N j = (tiled (k := 1024) (d := 128) X (by decide) : S4x8192x128.Idx → Elt F .i8) j := by
  have h0 : (j 0).val < 4 := (j 0).isLt
  have h1 : (j 1).val < 8 * 1024 := (j 1).isLt
  have hv : (j 1).val / 1024 < 8 := by omega
  have ht : (point (j 0) ((j 1).val / 1024) hv).val = 8 * (j 0).val + (j 1).val / 1024 := rfl
  exact Dat.arrAt_apply_of_mem _ 14 _ (fun t _ => flushed14 m hO c after X h t) (cfgM m hO).N
    (point (j 0) ((j 1).val / 1024) hv) j (Fin.isLt _) (flush0_14 _ _) (mem14 m hO j _ (by rw [ht]; omega) (by rw [ht]; omega))

/-- Where a block of key scales sits in its array. -/
theorem emb15 (t : Fin (cfgM m hO).N) (y : S1x256x4.Idx) (j : S4x2048x4.Idx) (hj : (((cfgM m hO).win 15).blk t).view.emb y = j) :
    (j 0).val = t.val / 8 ∧ (j 1).val = t.val % 8 * 256 + (y 1).val ∧ (j 2).val = (y 2).val := by
  subst hj
  have ht : t.val < 32 := t.isLt
  refine ⟨?_, ?_, ?_⟩
  · refine (Window.rect_emb_val ((cfgM m hO).win 15) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 15) t y (1 : Fin 3)).trans ?_
    have e := coord1 t
    show (BitVec.ofNat 32 (grid0.coords t 1).val).toNat * 256 + (y 1).val = _
    rw [BitVec.toNat_ofNat]
    omega
  · refine (Window.rect_emb_val ((cfgM m hO).win 15) t y (2 : Fin 3)).trans ?_
    show 0 * _ + (y 2).val = _
    rw [Nat.zero_mul, Nat.zero_add]

/-- A point's block of key scales covers the rows of its chunk. -/
theorem mem15 (j : S4x2048x4.Idx) (t : Fin (cfgM m hO).N) (h0 : (j 0).val = t.val / 8) (h1 : (j 1).val / 256 = t.val % 8) :
    j ∈ (((cfgM m hO).win 15).blk t).view.set := by
  let y : S1x256x4.Idx := ValueIdx.ix3 (0 : Fin 1) (⟨(j 1).val % 256, Nat.mod_lt _ (by decide)⟩ : Fin 256) (j 2)
  have hm := View.emb_mem_set (((cfgM m hO).win 15).blk t).view y
  generalize hi : (((cfgM m hO).win 15).blk t).view.emb y = i at hm
  obtain ⟨e0, e1, e2⟩ := emb15 m hO t y i hi
  have hy : (y 1).val = (j 1).val % 256 := rfl
  have e : i = j := by
    refine funext fun a : Fin 3 => Fin.ext ?_
    match a with
    | ⟨0, _⟩ => exact e0.trans h0.symm
    | ⟨1, _⟩ => refine e1.trans ?_; rw [hy, ← h1]; show _ = (j 1).val; omega
    | ⟨2, _⟩ => exact e2
  rw [← e]
  exact hm

/-- What a point writes back of key scales, read from the tiled array. -/
theorem flushed15 (after : (w' : Fin (cfgM m hO).W) → Fin (cfgM m hO).N → ((cfgM m hO).win w').block.Idx → Elt F ((cfgM m hO).win w').elt)
    (X : Fin grid0.N → S1x256x4.Idx → Elt F .f32) (h : ∀ t, after 15 t = X t) (t : Fin (cfgM m hO).N) :
    ((rdatV m hO c).withAfter after).flushed 15 t
      = (((cfgM m hO).win 15).blk t).view.read (Elt F) (tiled (k := 256) (d := 4) X (by decide) : S4x2048x4.Idx → Elt F .f32) := by
  funext y
  obtain ⟨h0, h1, h2⟩ := emb15 m hO t y _ rfl
  refine Eq.trans ?_ (tiled_block (k := 256) (d := 4) X (by decide) t y _ h0 h1 h2).symm
  exact congrFun (h t) y

/-- The array of key scales after the launch, from what every point leaves in its block. -/
theorem arr15 (after : (w' : Fin (cfgM m hO).W) → Fin (cfgM m hO).N → ((cfgM m hO).win w').block.Idx → Elt F ((cfgM m hO).win w').elt)
    (X : Fin grid0.N → S1x256x4.Idx → Elt F .f32) (h : ∀ t, after 15 t = X t) (j : S4x2048x4.Idx) :
    ((rdatV m hO c).withAfter after).arrAt 15 (cfgM m hO).N j = (tiled (k := 256) (d := 4) X (by decide) : S4x2048x4.Idx → Elt F .f32) j := by
  have h0 : (j 0).val < 4 := (j 0).isLt
  have h1 : (j 1).val < 8 * 256 := (j 1).isLt
  have hv : (j 1).val / 256 < 8 := by omega
  have ht : (point (j 0) ((j 1).val / 256) hv).val = 8 * (j 0).val + (j 1).val / 256 := rfl
  exact Dat.arrAt_apply_of_mem _ 15 _ (fun t _ => flushed15 m hO c after X h t) (cfgM m hO).N
    (point (j 0) ((j 1).val / 256) hv) j (Fin.isLt _) (flush0_15 _ _) (mem15 m hO j _ (by rw [ht]; omega) (by rw [ht]; omega))

/-- Where a block of value codes sits in its array. -/
theorem emb16 (t : Fin (cfgM m hO).N) (y : S1x1024x128.Idx) (j : S4x8192x128.Idx) (hj : (((cfgM m hO).win 16).blk t).view.emb y = j) :
    (j 0).val = t.val / 8 ∧ (j 1).val = t.val % 8 * 1024 + (y 1).val ∧ (j 2).val = (y 2).val := by
  subst hj
  have ht : t.val < 32 := t.isLt
  refine ⟨?_, ?_, ?_⟩
  · refine (Window.rect_emb_val ((cfgM m hO).win 16) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 16) t y (1 : Fin 3)).trans ?_
    have e := coord1 t
    show (BitVec.ofNat 32 (grid0.coords t 1).val).toNat * 1024 + (y 1).val = _
    rw [BitVec.toNat_ofNat]
    omega
  · refine (Window.rect_emb_val ((cfgM m hO).win 16) t y (2 : Fin 3)).trans ?_
    show 0 * _ + (y 2).val = _
    rw [Nat.zero_mul, Nat.zero_add]

/-- A point's block of value codes covers the rows of its chunk. -/
theorem mem16 (j : S4x8192x128.Idx) (t : Fin (cfgM m hO).N) (h0 : (j 0).val = t.val / 8) (h1 : (j 1).val / 1024 = t.val % 8) :
    j ∈ (((cfgM m hO).win 16).blk t).view.set := by
  let y : S1x1024x128.Idx := ValueIdx.ix3 (0 : Fin 1) (⟨(j 1).val % 1024, Nat.mod_lt _ (by decide)⟩ : Fin 1024) (j 2)
  have hm := View.emb_mem_set (((cfgM m hO).win 16).blk t).view y
  generalize hi : (((cfgM m hO).win 16).blk t).view.emb y = i at hm
  obtain ⟨e0, e1, e2⟩ := emb16 m hO t y i hi
  have hy : (y 1).val = (j 1).val % 1024 := rfl
  have e : i = j := by
    refine funext fun a : Fin 3 => Fin.ext ?_
    match a with
    | ⟨0, _⟩ => exact e0.trans h0.symm
    | ⟨1, _⟩ => refine e1.trans ?_; rw [hy, ← h1]; show _ = (j 1).val; omega
    | ⟨2, _⟩ => exact e2
  rw [← e]
  exact hm

/-- What a point writes back of value codes, read from the tiled array. -/
theorem flushed16 (after : (w' : Fin (cfgM m hO).W) → Fin (cfgM m hO).N → ((cfgM m hO).win w').block.Idx → Elt F ((cfgM m hO).win w').elt)
    (X : Fin grid0.N → S1x1024x128.Idx → Elt F .i8) (h : ∀ t, after 16 t = X t) (t : Fin (cfgM m hO).N) :
    ((rdatV m hO c).withAfter after).flushed 16 t
      = (((cfgM m hO).win 16).blk t).view.read (Elt F) (tiled (k := 1024) (d := 128) X (by decide) : S4x8192x128.Idx → Elt F .i8) := by
  funext y
  obtain ⟨h0, h1, h2⟩ := emb16 m hO t y _ rfl
  refine Eq.trans ?_ (tiled_block (k := 1024) (d := 128) X (by decide) t y _ h0 h1 h2).symm
  exact congrFun (h t) y

/-- The array of value codes after the launch, from what every point leaves in its block. -/
theorem arr16 (after : (w' : Fin (cfgM m hO).W) → Fin (cfgM m hO).N → ((cfgM m hO).win w').block.Idx → Elt F ((cfgM m hO).win w').elt)
    (X : Fin grid0.N → S1x1024x128.Idx → Elt F .i8) (h : ∀ t, after 16 t = X t) (j : S4x8192x128.Idx) :
    ((rdatV m hO c).withAfter after).arrAt 16 (cfgM m hO).N j = (tiled (k := 1024) (d := 128) X (by decide) : S4x8192x128.Idx → Elt F .i8) j := by
  have h0 : (j 0).val < 4 := (j 0).isLt
  have h1 : (j 1).val < 8 * 1024 := (j 1).isLt
  have hv : (j 1).val / 1024 < 8 := by omega
  have ht : (point (j 0) ((j 1).val / 1024) hv).val = 8 * (j 0).val + (j 1).val / 1024 := rfl
  exact Dat.arrAt_apply_of_mem _ 16 _ (fun t _ => flushed16 m hO c after X h t) (cfgM m hO).N
    (point (j 0) ((j 1).val / 1024) hv) j (Fin.isLt _) (flush0_16 _ _) (mem16 m hO j _ (by rw [ht]; omega) (by rw [ht]; omega))

/-- Where a block of value scales sits in its array. -/
theorem emb17 (t : Fin (cfgM m hO).N) (y : S1x256x4.Idx) (j : S4x2048x4.Idx) (hj : (((cfgM m hO).win 17).blk t).view.emb y = j) :
    (j 0).val = t.val / 8 ∧ (j 1).val = t.val % 8 * 256 + (y 1).val ∧ (j 2).val = (y 2).val := by
  subst hj
  have ht : t.val < 32 := t.isLt
  refine ⟨?_, ?_, ?_⟩
  · refine (Window.rect_emb_val ((cfgM m hO).win 17) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 17) t y (1 : Fin 3)).trans ?_
    have e := coord1 t
    show (BitVec.ofNat 32 (grid0.coords t 1).val).toNat * 256 + (y 1).val = _
    rw [BitVec.toNat_ofNat]
    omega
  · refine (Window.rect_emb_val ((cfgM m hO).win 17) t y (2 : Fin 3)).trans ?_
    show 0 * _ + (y 2).val = _
    rw [Nat.zero_mul, Nat.zero_add]

/-- A point's block of value scales covers the rows of its chunk. -/
theorem mem17 (j : S4x2048x4.Idx) (t : Fin (cfgM m hO).N) (h0 : (j 0).val = t.val / 8) (h1 : (j 1).val / 256 = t.val % 8) :
    j ∈ (((cfgM m hO).win 17).blk t).view.set := by
  let y : S1x256x4.Idx := ValueIdx.ix3 (0 : Fin 1) (⟨(j 1).val % 256, Nat.mod_lt _ (by decide)⟩ : Fin 256) (j 2)
  have hm := View.emb_mem_set (((cfgM m hO).win 17).blk t).view y
  generalize hi : (((cfgM m hO).win 17).blk t).view.emb y = i at hm
  obtain ⟨e0, e1, e2⟩ := emb17 m hO t y i hi
  have hy : (y 1).val = (j 1).val % 256 := rfl
  have e : i = j := by
    refine funext fun a : Fin 3 => Fin.ext ?_
    match a with
    | ⟨0, _⟩ => exact e0.trans h0.symm
    | ⟨1, _⟩ => refine e1.trans ?_; rw [hy, ← h1]; show _ = (j 1).val; omega
    | ⟨2, _⟩ => exact e2
  rw [← e]
  exact hm

/-- What a point writes back of value scales, read from the tiled array. -/
theorem flushed17 (after : (w' : Fin (cfgM m hO).W) → Fin (cfgM m hO).N → ((cfgM m hO).win w').block.Idx → Elt F ((cfgM m hO).win w').elt)
    (X : Fin grid0.N → S1x256x4.Idx → Elt F .f32) (h : ∀ t, after 17 t = X t) (t : Fin (cfgM m hO).N) :
    ((rdatV m hO c).withAfter after).flushed 17 t
      = (((cfgM m hO).win 17).blk t).view.read (Elt F) (tiled (k := 256) (d := 4) X (by decide) : S4x2048x4.Idx → Elt F .f32) := by
  funext y
  obtain ⟨h0, h1, h2⟩ := emb17 m hO t y _ rfl
  refine Eq.trans ?_ (tiled_block (k := 256) (d := 4) X (by decide) t y _ h0 h1 h2).symm
  exact congrFun (h t) y

/-- The array of value scales after the launch, from what every point leaves in its block. -/
theorem arr17 (after : (w' : Fin (cfgM m hO).W) → Fin (cfgM m hO).N → ((cfgM m hO).win w').block.Idx → Elt F ((cfgM m hO).win w').elt)
    (X : Fin grid0.N → S1x256x4.Idx → Elt F .f32) (h : ∀ t, after 17 t = X t) (j : S4x2048x4.Idx) :
    ((rdatV m hO c).withAfter after).arrAt 17 (cfgM m hO).N j = (tiled (k := 256) (d := 4) X (by decide) : S4x2048x4.Idx → Elt F .f32) j := by
  have h0 : (j 0).val < 4 := (j 0).isLt
  have h1 : (j 1).val < 8 * 256 := (j 1).isLt
  have hv : (j 1).val / 256 < 8 := by omega
  have ht : (point (j 0) ((j 1).val / 256) hv).val = 8 * (j 0).val + (j 1).val / 256 := rfl
  exact Dat.arrAt_apply_of_mem _ 17 _ (fun t _ => flushed17 m hO c after X h t) (cfgM m hO).N
    (point (j 0) ((j 1).val / 256) hv) j (Fin.isLt _) (flush0_17 _ _) (mem17 m hO j _ (by rw [ht]; omega) (by rw [ht]; omega))

/-- Where a block of new keys sits in its array. -/
theorem emb0 (t : Fin (cfgM m hO).N) (y : S1x1024x128.Idx) (j : S4x8192x128.Idx) (hj : (((cfgM m hO).win 0).blk t).view.emb y = j) :
    (j 0).val = t.val / 8 ∧ (j 1).val = t.val % 8 * 1024 + (y 1).val ∧ (j 2).val = (y 2).val := by
  subst hj
  have ht : t.val < 32 := t.isLt
  refine ⟨?_, ?_, ?_⟩
  · refine (Window.rect_emb_val ((cfgM m hO).win 0) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 0) t y (1 : Fin 3)).trans ?_
    have e := coord1 t
    show (BitVec.ofNat 32 (grid0.coords t 1).val).toNat * 1024 + (y 1).val = _
    rw [BitVec.toNat_ofNat]
    omega
  · refine (Window.rect_emb_val ((cfgM m hO).win 0) t y (2 : Fin 3)).trans ?_
    show 0 * _ + (y 2).val = _
    rw [Nat.zero_mul, Nat.zero_add]

/-- Where a block of new values sits in its array. -/
theorem emb1 (t : Fin (cfgM m hO).N) (y : S1x1024x128.Idx) (j : S4x8192x128.Idx) (hj : (((cfgM m hO).win 1).blk t).view.emb y = j) :
    (j 0).val = t.val / 8 ∧ (j 1).val = t.val % 8 * 1024 + (y 1).val ∧ (j 2).val = (y 2).val := by
  subst hj
  have ht : t.val < 32 := t.isLt
  refine ⟨?_, ?_, ?_⟩
  · refine (Window.rect_emb_val ((cfgM m hO).win 1) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 1) t y (1 : Fin 3)).trans ?_
    have e := coord1 t
    show (BitVec.ofNat 32 (grid0.coords t 1).val).toNat * 1024 + (y 1).val = _
    rw [BitVec.toNat_ofNat]
    omega
  · refine (Window.rect_emb_val ((cfgM m hO).win 1) t y (2 : Fin 3)).trans ?_
    show 0 * _ + (y 2).val = _
    rw [Nat.zero_mul, Nat.zero_add]

/-- What a point may leave in a block that is not revisited is what the proof data name. -/
theorem leaves_exact {w : Fin (cfgM m hO).W} (hw : revisited w = false) {t : Fin (cfgM m hO).N} (hf : ((cfgM m hO).win w).flush t = true)
    {X : ((cfgM m hO).win w).block.Idx → Elt F ((cfgM m hO).win w).elt} (h : (rdatV m hO c).Leaves w t X) :
    ((cfgM m hO).win w).cut ((cfgM m hO).grid.coords t) X = (datV m hO c).flushed w t := by
  obtain ⟨Y, hY, hX⟩ := h
  have e : (rdatV m hO c).after w = (datV m hO c).toR.after w := (datV m hO c).toRRel_after_of_eq_false hw
  rw [e] at hX
  exact Dat.Leaves.cut_eq (datV m hO c) hX hf

/-- The array of key codes after the launch. -/
theorem final14 {r : PUnit × MemSt nD τ sig (Elt F)}
    (h : Pipeline.RDat.FramePost ((Pipeline.pin pcfgs fun _ => adm m hO) 0) (rdatV m hO) (V m) r) (j : S4x8192x128.Idx) :
    r.2.mem ((c.tc : Thread nD τ).loc main_v13_4) j = (tiled (k := 1024) (d := 128) (fun t => kcAt m hO c t) (by decide) : S4x8192x128.Idx → _) j := by
  obtain ⟨after, hL, hA⟩ := Pipeline.RDat.FramePost.exists_exact h c
  have e := congrFun (hA 14) j
  have X : ∀ t, after 14 t = kcAt m hO c t := fun t =>
    (leaves_exact m hO c (w := 14) rfl (flush0_14 _ t) (hL 14 t (flush0_14 _ t))).trans (afterV_14 m hO c t)
  exact e.trans (arr14 m hO c after (fun t => kcAt m hO c t) X j)

/-- The array of key scales after the launch. -/
theorem final15 {r : PUnit × MemSt nD τ sig (Elt F)}
    (h : Pipeline.RDat.FramePost ((Pipeline.pin pcfgs fun _ => adm m hO) 0) (rdatV m hO) (V m) r) (j : S4x2048x4.Idx) :
    r.2.mem ((c.tc : Thread nD τ).loc main_v13_5) j = (tiled (k := 256) (d := 4) (fun t => ksAt m hO c t) (by decide) : S4x2048x4.Idx → _) j := by
  obtain ⟨after, hL, hA⟩ := Pipeline.RDat.FramePost.exists_exact h c
  have e := congrFun (hA 15) j
  have X : ∀ t, after 15 t = ksAt m hO c t := fun t =>
    (leaves_exact m hO c (w := 15) rfl (flush0_15 _ t) (hL 15 t (flush0_15 _ t))).trans (afterV_15 m hO c t)
  exact e.trans (arr15 m hO c after (fun t => ksAt m hO c t) X j)

/-- The array of value codes after the launch. -/
theorem final16 {r : PUnit × MemSt nD τ sig (Elt F)}
    (h : Pipeline.RDat.FramePost ((Pipeline.pin pcfgs fun _ => adm m hO) 0) (rdatV m hO) (V m) r) (j : S4x8192x128.Idx) :
    r.2.mem ((c.tc : Thread nD τ).loc main_v13_6) j = (tiled (k := 1024) (d := 128) (fun t => vcAt m hO c t) (by decide) : S4x8192x128.Idx → _) j := by
  obtain ⟨after, hL, hA⟩ := Pipeline.RDat.FramePost.exists_exact h c
  have e := congrFun (hA 16) j
  have X : ∀ t, after 16 t = vcAt m hO c t := fun t =>
    (leaves_exact m hO c (w := 16) rfl (flush0_16 _ t) (hL 16 t (flush0_16 _ t))).trans (afterV_16 m hO c t)
  exact e.trans (arr16 m hO c after (fun t => vcAt m hO c t) X j)

/-- The array of value scales after the launch. -/
theorem final17 {r : PUnit × MemSt nD τ sig (Elt F)}
    (h : Pipeline.RDat.FramePost ((Pipeline.pin pcfgs fun _ => adm m hO) 0) (rdatV m hO) (V m) r) (j : S4x2048x4.Idx) :
    r.2.mem ((c.tc : Thread nD τ).loc main_v13_7) j = (tiled (k := 256) (d := 4) (fun t => vsAt m hO c t) (by decide) : S4x2048x4.Idx → _) j := by
  obtain ⟨after, hL, hA⟩ := Pipeline.RDat.FramePost.exists_exact h c
  have e := congrFun (hA 17) j
  have X : ∀ t, after 17 t = vsAt m hO c t := fun t =>
    (leaves_exact m hO c (w := 17) rfl (flush0_17 _ t) (hL 17 t (flush0_17 _ t))).trans (afterV_17 m hO c t)
  exact e.trans (arr17 m hO c after (fun t => vsAt m hO c t) X j)

end

end Cert.KernelIdeal.Hand
-- ==== Proof.KernelIdeal.Quant.lean ====
/- The quantiser over the exact reals: the scale and the codes of one head of one token, as functions of the head's 128
   numbers, and the kernel's chunks and blocks of codes and scales entry by entry. -/
module

public import proofs.«01_k».proof.Proof.KernelIdeal.Blocks
public import Idealize.ShloMosaic.Lib.Pointwise
public import Idealize.ShloMosaic.Lib.BitcastFour
public import Idealize.ShloMosaic.PureOps.Ideal.Laws

@[expose] public section

set_option maxRecDepth 16384

noncomputable section

namespace Cert.KernelIdeal.Hand

open Cert.KernelIdeal.Gen
open Idealize.ShloMosaic

/-! ## The quantiser -/

/-- The greatest magnitude of a head. -/
def headMax (x : Fin 128 → Ideal .f32) : Ideal .f32 :=
  Finset.univ.fold max (Ideal.ofBits .f32 0xFF800000#32) fun k => FloatOps.absf (x k)

/-- A head's scale: its greatest magnitude over 127, or 1 for a head of zeros. -/
def headScale (x : Fin 128 → Ideal .f32) : Ideal .f32 :=
  if 0 < headMax x then Ideal.div (headMax x) (Ideal.ofBits .f32 0x42FE0000#32) else 1

/-- A head's codes: each number over the scale, rounded to the nearest integer, ties to even, and clipped to ±127. -/
def headCode (x : Fin 128 → Ideal .f32) (d : Fin 128) : BitVec 32 :=
  FloatOps.fptosi 32 (min (Ideal.ofBits .f32 0x42FE0000#32) (max (Ideal.ofBits .f32 0xC2FE0000#32)
    (FloatOps.roundeven (Ideal.div (x d) (headScale x)))))

/-! ## The chunk's payloads -/

/-- Row `4 t + h` of four rows a word is byte `h` of word row `t`. -/
theorem bytes_apply (x : IVec S64x128 32) (h : S64x128.Bitcasts 32 S256x128 8) (t : Fin 64) (q : Fin 4) (d : Fin 128) :
    bitcast S256x128 8 x h (ix2 (⟨4 * t.val + q.val, by omega⟩ : Fin 256) d) = (x (ix2 t d)).extractLsb' (8 * q.val) 8 := by
  apply BitVec.eq_of_getLsbD_eq
  intro i hi
  rw [bitcast_getLsbD x h _ i hi (by decide), BitVec.getLsbD_extractLsb']
  have e1 : ((4 * t.val + q.val) * 8 + i) / 32 = t.val := by omega
  have e2 : ((4 * t.val + q.val) * 8 + i) % 32 = 8 * q.val + i := by omega
  have er : S256x128.row (ix2 (⟨4 * t.val + q.val, by omega⟩ : Fin 256) d) = 4 * t.val + q.val := rfl
  have : decide (i < 8) = true := decide_eq_true hi
  rw [this, Bool.true_and]
  have es : ∀ (n : Nat) (hn), n = t.val → h.srcIdx (ix2 (⟨4 * t.val + q.val, by omega⟩ : Fin 256) d) n hn = ix2 t d := fun n hn e => by
    subst e
    funext a
    match a with
    | ⟨0, _⟩ => rfl
    | ⟨1, _⟩ => rfl
  rw [es _ _ (by rw [er]; exact e1), er, e2]

/-- The bytes of four bytes joined, the first lowest. -/
theorem byte_of_four (c : Fin 4 → BitVec 8) (h : Fin 4) : (c 3 ++ c 2 ++ c 1 ++ c 0).extractLsb' (8 * h.val) 8 = c h := by
  apply BitVec.eq_of_getLsbD_eq
  intro i hi
  have d : decide (i < 8) = true := decide_eq_true hi
  rw [BitVec.getLsbD_extractLsb', d, Bool.true_and]
  simp only [BitVec.getLsbD_append]
  fin_cases h
  · simp [hi]
  · simp [hi, show ¬ 8 + i < 8 by omega]
  · simp [hi, show ¬ 16 + i < 8 by omega, show ¬ 16 + i - 8 < 8 by omega, show 16 + i - 8 - 8 = i by omega]
  · simp [hi, show ¬ 24 + i < 8 by omega, show ¬ 24 + i - 8 < 8 by omega, show ¬ 24 + i - 8 - 8 < 8 by omega, show 24 + i - 8 - 8 - 8 = i by omega]

theorem pay51_apply (x : FVec Ideal S64x128 .f32) (t : Fin 64) : k0_pay51 x (ix2 t (0 : Fin 1)) = headScale fun k => x (ix2 t k) := by
  unfold k0_pay51 headScale headMax
  dsimp only
  pointwise

theorem pay54_apply (x : FVec Ideal S64x128 .f32) (t : Fin 64) : k0_pay54 x (ix2 t (0 : Fin 1)) = headScale fun k => x (ix2 t k) := by
  unfold k0_pay54 headScale headMax
  dsimp only
  pointwise

theorem pay58_apply (x : FVec Ideal S64x128 .f32) (t : Fin 64) : k0_pay58 x (ix2 t (0 : Fin 1)) = headScale fun k => x (ix2 t k) := by
  unfold k0_pay58 headScale headMax
  dsimp only
  pointwise

theorem pay52_apply (x : FVec Ideal S64x128 .f32) (t : Fin 64) (d : Fin 128) : k0_pay52 x (ix2 t d) = headCode (fun k => x (ix2 t k)) d := by
  unfold k0_pay52 headCode
  dsimp only
  pointwise
  simp only [pay51_apply]

/-- The head `h` of four. -/
def headOf (x0 x1 x2 x3 : FVec Ideal S64x128 .f32) (h : Fin 4) (t : Fin 64) : Fin 128 → Ideal .f32 := fun k => ![x0, x1, x2, x3] h (ix2 t k)

theorem scales4_apply (x0 x1 x2 x3 : FVec Ideal S64x128 .f32) (t : Fin 64) (h : Fin 4) :
    scales4 x0 x1 x2 x3 (ix3 (0 : Fin 1) t h) = headScale (headOf x0 x1 x2 x3 h t) := by
  unfold scales4 k0_pay64 k0_pay59 k0_pay53 k0_pay56 k0_pay57 k0_pay47 k0_pay50 headIota
  dsimp only
  pointwise
  rw [pay58_apply, pay54_apply, pay51_apply, pay58_apply]
  fin_cases h <;> rfl

theorem codes4_apply (x0 x1 x2 x3 : FVec Ideal S64x128 .f32) (t : Fin 64) (h : Fin 4) (d : Fin 128) :
    codes4 x0 x1 x2 x3 (ix3 (0 : Fin 1) (⟨4 * t.val + h.val, by omega⟩ : Fin 256) d) = (headCode (headOf x0 x1 x2 x3 h t) d).setWidth 8 := by
  unfold codes4 k0_pay61 k0_pay60
  dsimp only
  rw [show (shapeCast S1x256x128 _ _ : IVec S1x256x128 8) (ix3 (0 : Fin 1) (⟨4 * t.val + h.val, by omega⟩ : Fin 256) d) = _ from
    shapeCast_apply _ shapeCasts_S256x128_S1x256x128 _ (ix2 (⟨4 * t.val + h.val, by omega⟩ : Fin 256) d) (by
      rw [Shape.rowMajor_val_two, Shape.rowMajor_val_three]; show (4 * t.val + h.val) * 128 + d.val = (0 * 256 + (4 * t.val + h.val)) * 128 + d.val; omega)]
  rw [bytes_apply, packElementwiseInt8_apply, pay52_apply, pay52_apply, pay52_apply]
  have e3 : (fptosi 32 (minimumf (broadcast S64x128 (Scalar.ofBits .f32 0x42FE0000#32)) (maximumf (broadcast S64x128 (Scalar.ofBits .f32 0xC2FE0000#32)) (roundeven (divf x3 (broadcastTo S64x128 (k0_pay58 x3) broadcasts_S64x1_S64x128))))) : IVec S64x128 32) (ix2 t d) = headCode (fun k => x3 (ix2 t k)) d := by
    unfold headCode
    pointwise
    simp only [pay58_apply]
  rw [e3]
  refine (byte_of_four ![(headCode (fun k => x0 (ix2 t k)) d).setWidth 8, (headCode (fun k => x1 (ix2 t k)) d).setWidth 8, (headCode (fun k => x2 (ix2 t k)) d).setWidth 8, (headCode (fun k => x3 (ix2 t k)) d).setWidth 8] h).trans ?_
  fin_cases h <;> rfl

/-! ## The heads of a block -/

/-- Widened, a number stays itself. -/
theorem lo_apply (x : Vec Ideal S1x64x2x128 .bf16) (t : Fin 64) (d : Fin 128) : lo x (ix2 t d) = (x (ix4 (0 : Fin 1) t (0 : Fin 2) d) : Ideal .bf16) := by
  unfold lo k0_pay43
  pointwise

theorem hi_apply (x : Vec Ideal S1x64x2x128 .bf16) (t : Fin 64) (d : Fin 128) : hi x (ix2 t d) = (x (ix4 (0 : Fin 1) t (1 : Fin 2) d) : Ideal .bf16) := by
  unfold hi k0_pay44
  pointwise

/-- The numbers of head `h` of token `s` of batch `b`. -/
def newHead (x : FVec Ideal S4x2048x4x128 .bf16) (b : Fin 4) (s : Fin 2048) (h : Fin 4) : Fin 128 → Ideal .f32 := fun k =>
  (x (ix4 b s h k) : Ideal .bf16)

/-- The numbers of head `h` of token `n` of a block. -/
def blockHead (x : Vec Ideal S1x1024x128 .bf16) (n : Fin 256) (h : Fin 4) : Fin 128 → Ideal .f32 := fun k =>
  (x (ix3 (0 : Fin 1) (⟨4 * n.val + h.val, by omega⟩ : Fin 1024) k) : Ideal .bf16)

theorem headOf_half (x : Vec Ideal S1x1024x128 .bf16) (r : Fin 4) (t : Fin 64) (h : Fin 4) :
    headOf (lo (half x r 0)) (hi (half x r 0)) (lo (half x r 1)) (hi (half x r 1)) h t = blockHead x ⟨64 * r.val + t.val, by omega⟩ h := by
  funext k
  unfold headOf blockHead
  fin_cases h
  · refine (lo_apply _ t k).trans (congrArg x ?_)
    exact congrArg (fun n => (ix3 (0 : Fin 1) n k : S1x1024x128.Idx)) (Fin.ext (by show 256 * r.val + 4 * t.val + 2 * 0 + 0 = 4 * (64 * r.val + t.val) + 0; omega))
  · refine (hi_apply _ t k).trans (congrArg x ?_)
    exact congrArg (fun n => (ix3 (0 : Fin 1) n k : S1x1024x128.Idx)) (Fin.ext (by show 256 * r.val + 4 * t.val + 2 * 0 + 1 = 4 * (64 * r.val + t.val) + 1; omega))
  · refine (lo_apply _ t k).trans (congrArg x ?_)
    exact congrArg (fun n => (ix3 (0 : Fin 1) n k : S1x1024x128.Idx)) (Fin.ext (by show 256 * r.val + 4 * t.val + 2 * 1 + 0 = 4 * (64 * r.val + t.val) + 2; omega))
  · refine (hi_apply _ t k).trans (congrArg x ?_)
    exact congrArg (fun n => (ix3 (0 : Fin 1) n k : S1x1024x128.Idx)) (Fin.ext (by show 256 * r.val + 4 * t.val + 2 * 1 + 1 = 4 * (64 * r.val + t.val) + 3; omega))

/-- Four chunks of scales, each that of its heads, read at a token. -/
theorem scaleBlock_apply (g : Fin 256 → Fin 4 → Ideal .f32) (p : Fin 4 → FVec Ideal S1x64x4 .f32)
    (hp : ∀ (r : Fin 4) (t : Fin 64) (h : Fin 4), p r (ix3 (0 : Fin 1) t h) = g ⟨64 * r.val + t.val, by omega⟩ h) (n : Fin 256) (h : Fin 4) :
    scaleBlock p (ix3 (0 : Fin 1) n h) = g n h := by
  refine (hp ⟨n.val / 64, by omega⟩ ⟨n.val % 64, by omega⟩ h).trans (congrArg (fun k => g k h) (Fin.ext ?_))
  show 64 * (n.val / 64) + n.val % 64 = n.val
  omega

/-- Four chunks of codes, each that of its heads, read at a token's row. -/
theorem codeBlock_apply (g : Fin 256 → Fin 4 → Fin 128 → BitVec 8) (p : Fin 4 → IVec S1x256x128 8)
    (hp : ∀ (r : Fin 4) (t : Fin 64) (h : Fin 4) (d : Fin 128), p r (ix3 (0 : Fin 1) (⟨4 * t.val + h.val, by omega⟩ : Fin 256) d) = g ⟨64 * r.val + t.val, by omega⟩ h d)
    (n : Fin 1024) (d : Fin 128) :
    codeBlock p (ix3 (0 : Fin 1) n d) = g ⟨n.val / 4, by omega⟩ ⟨n.val % 4, by omega⟩ d := by
  have e := hp ⟨n.val / 256, by omega⟩ ⟨n.val % 256 / 4, by omega⟩ ⟨n.val % 4, by omega⟩ d
  refine (congrArg (p ⟨n.val / 256, by omega⟩) (congrArg (fun k => (ix3 (0 : Fin 1) k d : S1x256x128.Idx)) (Fin.ext ?_))).trans (e.trans (congrArg (fun k => g k ⟨n.val % 4, by omega⟩ d) (Fin.ext ?_)))
  · show n.val % 256 = 4 * (n.val % 256 / 4) + n.val % 4
    omega
  · show 64 * (n.val / 256) + n.val % 256 / 4 = n.val / 4
    omega

/-- The value scales of a point, token by token. -/
theorem vsBlock_apply (x : Vec Ideal S1x1024x128 .bf16) (n : Fin 256) (h : Fin 4) : vsBlock x (ix3 (0 : Fin 1) n h) = headScale (blockHead x n h) :=
  scaleBlock_apply (fun n h => headScale (blockHead x n h)) _ (fun r t h => by
    rw [← headOf_half]; exact scales4_apply _ _ _ _ t h) n h

/-- The value codes of a point, row by row. -/
theorem vcBlock_apply (x : Vec Ideal S1x1024x128 .bf16) (n : Fin 1024) (d : Fin 128) :
    vcBlock x (ix3 (0 : Fin 1) n d) = (headCode (blockHead x ⟨n.val / 4, by omega⟩ ⟨n.val % 4, by omega⟩) d).setWidth 8 :=
  codeBlock_apply (fun n h d => (headCode (blockHead x n h) d).setWidth 8) _ (fun r t h d => by
    rw [← headOf_half]; exact codes4_apply _ _ _ _ t h d) n d

end Cert.KernelIdeal.Hand

end
-- ==== Proof.KernelIdeal.New.lean ====
/- The new keys and values the points read: a point's block holds its chunk of the batch's tokens. -/
module

public import proofs.«01_k».proof.Proof.KernelIdeal.FinalV
public import proofs.«01_k».proof.Proof.KernelIdeal.Quant
public import Idealize.ShloMosaic.Lib.StableHlo.ReadAt

@[expose] public section

set_option maxRecDepth 16384

noncomputable section

namespace Cert.KernelIdeal.Hand

open Cert.KernelIdeal.Gen

open Idealize.ShloMosaic Idealize.ShloMosaic.TcCoe Idealize.ShloMosaic.Tactic
open Idealize.ShloMosaic.Pipeline (Dat RDat Cfg Window)

section

variable {F : FTy → Type} [FloatOps F] [Named F]

variable (m : (ℓ : Loc nD τ sig) → Buf (Elt F) ℓ)

/-- The launch reads the new keys with the tokens and heads of a batch in one axis. -/
theorem keys_eq : V m (0 : Dev nD) main_v11 = shapeCast S4x8192x128 (m (((0 : Dev nD) : Thread nD τ).loc main_arg0)) shapeCasts_S4x2048x4x128_S4x8192x128 := by
  unfold_abbrev_sides
  after_reads_simp
  rfl

/-- The launch reads the new values with the tokens and heads of a batch in one axis. -/
theorem values_eq : V m (0 : Dev nD) main_v12 = shapeCast S4x8192x128 (m (((0 : Dev nD) : Thread nD τ).loc main_arg1)) shapeCasts_S4x2048x4x128_S4x8192x128 := by
  unfold_abbrev_sides
  after_reads_simp
  rfl

/-- The joined axis is the tokens and heads in row-major order. -/
theorem joined_apply {α : Type} (x : S4x2048x4x128.Idx → α) (b : Fin 4) (s : Fin 2048) (h : Fin 4) (k : Fin 128) (j : S4x8192x128.Idx)
    (h0 : (j 0).val = b.val) (h1 : (j 1).val = 4 * s.val + h.val) (h2 : (j 2).val = k.val) :
    shapeCast S4x8192x128 x shapeCasts_S4x2048x4x128_S4x8192x128 j = x (ix4 b s h k) := by
  refine shapeCast_apply x _ j _ ?_
  rw [Shape.rowMajor_val_four, Shape.rowMajor_val_three]
  show ((b.val * 2048 + s.val) * 4 + h.val) * 128 + k.val = ((j 0).val * 8192 + (j 1).val) * 128 + (j 2).val
  omega

end

variable (m : (ℓ : Loc nD τ sig) → Buf (Elt Ideal) ℓ) (hO : Ok m)

/-- A head of a token of a point's block of new keys. -/
theorem blockHead_keys (b : Fin 4) (i : Nat) (hi : i < 8) (n : Fin 256) (h : Fin 4) :
    blockHead (iblk m hO 0 0 (point b i hi)) n h
      = newHead (m (((0 : Dev nD) : Thread nD τ).loc main_arg0)) b ⟨256 * i + n.val, by omega⟩ h := by
  funext k
  have hp : (point b i hi).val = 8 * b.val + i := rfl
  obtain ⟨e0, e1, e2⟩ := emb0 m hO (point b i hi) (ix3 (0 : Fin 1) (⟨4 * n.val + h.val, by omega⟩ : Fin 1024) k) _ rfl
  refine (congrFun (keys_eq m) _).trans (joined_apply _ b ⟨256 * i + n.val, by omega⟩ h k _ (e0.trans ?_) (e1.trans ?_) e2)
  · rw [hp]; omega
  · rw [hp]; show _ + (4 * n.val + h.val) = 4 * (256 * i + n.val) + h.val; omega

/-- A head of a token of a point's block of new values. -/
theorem blockHead_values (b : Fin 4) (i : Nat) (hi : i < 8) (n : Fin 256) (h : Fin 4) :
    blockHead (iblk m hO 0 1 (point b i hi)) n h
      = newHead (m (((0 : Dev nD) : Thread nD τ).loc main_arg1)) b ⟨256 * i + n.val, by omega⟩ h := by
  funext k
  have hp : (point b i hi).val = 8 * b.val + i := rfl
  obtain ⟨e0, e1, e2⟩ := emb1 m hO (point b i hi) (ix3 (0 : Fin 1) (⟨4 * n.val + h.val, by omega⟩ : Fin 1024) k) _ rfl
  refine (congrFun (values_eq m) _).trans (joined_apply _ b ⟨256 * i + n.val, by omega⟩ h k _ (e0.trans ?_) (e1.trans ?_) e2)
  · rw [hp]; omega
  · rw [hp]; show _ + (4 * n.val + h.val) = 4 * (256 * i + n.val) + h.val; omega

/-- A point's value scales are the scales of its tokens. -/
theorem vsAt_apply (b : Fin 4) (i : Nat) (hi : i < 8) (n : Fin 256) (h : Fin 4) :
    vsAt m hO 0 (point b i hi) (ix3 (0 : Fin 1) n h)
      = headScale (newHead (m (((0 : Dev nD) : Thread nD τ).loc main_arg1)) b ⟨256 * i + n.val, by omega⟩ h) :=
  (vsBlock_apply _ n h).trans (congrArg headScale (blockHead_values m hO b i hi n h))

/-- A point's value codes are the codes of its tokens. -/
theorem vcAt_apply (b : Fin 4) (i : Nat) (hi : i < 8) (n : Fin 1024) (d : Fin 128) :
    vcAt m hO 0 (point b i hi) (ix3 (0 : Fin 1) n d)
      = (headCode (newHead (m (((0 : Dev nD) : Thread nD τ).loc main_arg1)) b ⟨256 * i + n.val / 4, by omega⟩ ⟨n.val % 4, by omega⟩) d).setWidth 8 :=
  (vcBlock_apply _ n d).trans (congrArg (fun x => (headCode x d).setWidth 8) (blockHead_values m hO b i hi ⟨n.val / 4, by omega⟩ ⟨n.val % 4, by omega⟩))

end Cert.KernelIdeal.Hand

end
-- ==== Proof.ReferenceIdeal.Quant.lean ====
/- What the reference computes of the values: each token's and head's scale and codes are the quantiser's. -/
module

public import proofs.«01_k».proof.Proof.KernelIdeal.Quant
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (headMax headScale headCode newHead)

theorem v53_apply (x) (b : Fin 4) (s : Fin 2048) (h : Fin 4) : val_main_v53 (F := Ideal) x (ix3 b s h) = headMax (newHead x b s h) := by
  unfold val_main_v53 headMax
  pointwise
  rfl

theorem v58_apply (x) (b : Fin 4) (s : Fin 2048) (h : Fin 4) : val_main_v58 (F := Ideal) x (ix3 b s h) = headScale (newHead x b s h) := by
  rw [val_main_v58_apply, val_main_v55_apply, val_main_v57_apply, v53_apply, val_main_v54_apply, val_main_v56_apply, val_main_call3_v0_apply,
    val_main_cst_9_apply, val_main_cst_10_apply, val_main_cst_11_apply]
  unfold headScale
  pointwise

theorem v65_apply (x) (b : Fin 4) (s : Fin 2048) (h : Fin 4) (d : Fin 128) :
    val_main_v65 (F := Ideal) x (ix4 b s h d) = (headCode (newHead x b s h) d).setWidth 8 := by
  rw [val_main_v65_apply, val_main_v64_apply, val_main_v63_apply, val_main_call5_v4_apply, val_main_call5_v2_apply, val_main_call5_v1_apply, val_main_v62_apply, val_main_v61_apply,
    val_main_v60_apply, val_main_v59_apply, val_main_v51_apply]
  rw [show idx_main_v59 (idx_main_v60 (ix4 b s h d)) = ix3 b s h from by funext a; match a with | ⟨0, _⟩ => rfl | ⟨1, _⟩ => rfl | ⟨2, _⟩ => rfl, v58_apply]
  unfold headCode
  rfl

end Cert.ReferenceIdeal.Hand

end
-- ==== Proof.Agree.lean ====
/- The kernel's results are the reference's, element by element. -/
module

public import proofs.«01_k».proof.Proof.KernelIdeal.New
public import proofs.«01_k».proof.Proof.ReferenceIdeal.Quant

@[expose] public section

set_option maxRecDepth 16384

noncomputable section

namespace Cert.Agree

open Cert.KernelIdeal Cert.KernelIdeal.Gen Cert.KernelIdeal.Hand
open Idealize.ShloMosaic Idealize.ShloMosaic.TcCoe

variable (m : (ℓ : Loc nD τ sig) → Buf (Elt Ideal) ℓ) (hO : Ok m)

/-- The value scales are the reference's. -/
theorem value_scales (b : Fin 4) (s : Fin 2048) (h : Fin 4) :
    (tiled (k := 256) (d := 4) (fun t => vsAt m hO 0 t) (by decide) : S4x2048x4.Idx → _) (ix3 b s h)
      = Cert.ReferenceIdeal.Read.val_main_v58 (F := Ideal) (m (((0 : Dev nD) : Thread nD τ).loc main_arg1)) (ix3 b s h) := by
  have hs : s.val / 256 < 8 := by have := s.isLt; omega
  rw [Cert.ReferenceIdeal.Hand.v58_apply]
  refine (vsAt_apply m hO b (s.val / 256) hs ⟨s.val % 256, Nat.mod_lt _ (by decide)⟩ h).trans ?_
  exact congrArg (fun s => headScale (newHead _ b s h)) (Fin.ext (Nat.div_add_mod s.val 256))

/-- The value codes are the reference's. -/
theorem value_codes (b : Fin 4) (q : Fin 8192) (d : Fin 128) :
    (tiled (k := 1024) (d := 128) (fun t => vcAt m hO 0 t) (by decide) : S4x8192x128.Idx → _) (ix3 b q d)
      = Cert.ReferenceIdeal.Read.val_main_v173 (F := Ideal) (m (((0 : Dev nD) : Thread nD τ).loc main_arg1)) (ix3 b q d) := by
  have hq : q.val / 1024 < 8 := by have := q.isLt; omega
  have e : Cert.ReferenceIdeal.Read.idx_main_v173 (ix3 b q d) = ix4 b (⟨q.val / 4, by have := q.isLt; omega⟩ : Fin 2048) (⟨q.val % 4, by omega⟩ : Fin 4) d := by
    have hb := b.isLt
    have hq := q.isLt
    have hd := d.isLt
    funext a
    match a with
    | ⟨0, _⟩ => exact Fin.ext (by show ((b.val * 8192 + q.val) * 128 + d.val) / 1048576 = b.val; omega)
    | ⟨1, _⟩ => exact Fin.ext (by show ((b.val * 8192 + q.val) * 128 + d.val) / 512 % 2048 = q.val / 4; omega)
    | ⟨2, _⟩ => exact Fin.ext (by show ((b.val * 8192 + q.val) * 128 + d.val) / 128 % 4 = q.val % 4; omega)
    | ⟨3, _⟩ => exact Fin.ext (by show ((b.val * 8192 + q.val) * 128 + d.val) % 128 = d.val; omega)
  rw [Cert.ReferenceIdeal.Read.val_main_v173_apply, e, Cert.ReferenceIdeal.Hand.v65_apply]
  refine (vcAt_apply m hO b (q.val / 1024) hq ⟨q.val % 1024, Nat.mod_lt _ (by decide)⟩ d).trans ?_
  have e1 : (⟨256 * (q.val / 1024) + q.val % 1024 / 4, by omega⟩ : Fin 2048) = ⟨q.val / 4, by omega⟩ := Fin.ext (by show 256 * (q.val / 1024) + q.val % 1024 / 4 = q.val / 4; omega)
  have e2 : (⟨q.val % 1024 % 4, by omega⟩ : Fin 4) = ⟨q.val % 4, by omega⟩ := Fin.ext (by show q.val % 1024 % 4 = q.val % 4; omega)
  show (headCode (newHead _ b ⟨256 * (q.val / 1024) + q.val % 1024 / 4, _⟩ ⟨q.val % 1024 % 4, _⟩) d).setWidth 8 = _
  rw [e1, e2]

/-- The value scales are the reference's, at any index. -/
theorem value_scales_at (j : S4x2048x4.Idx) :
    (tiled (k := 256) (d := 4) (fun t => vsAt m hO 0 t) (by decide) : S4x2048x4.Idx → _) j
      = Cert.ReferenceIdeal.Read.val_main_v58 (F := Ideal) (m (((0 : Dev nD) : Thread nD τ).loc main_arg1)) j := by
  have e : j = (ix3 (j 0) (j 1) (j 2) : S4x2048x4.Idx) := by funext a; match a with | ⟨0, _⟩ => rfl | ⟨1, _⟩ => rfl | ⟨2, _⟩ => rfl
  rw [e]
  exact value_scales m hO (j 0) (j 1) (j 2)

/-- The value codes are the reference's, at any index. -/
theorem value_codes_at (j : S4x8192x128.Idx) :
    (tiled (k := 1024) (d := 128) (fun t => vcAt m hO 0 t) (by decide) : S4x8192x128.Idx → _) j
      = Cert.ReferenceIdeal.Read.val_main_v173 (F := Ideal) (m (((0 : Dev nD) : Thread nD τ).loc main_arg1)) j := by
  have e : j = (ix3 (j 0) (j 1) (j 2) : S4x8192x128.Idx) := by funext a; match a with | ⟨0, _⟩ => rfl | ⟨1, _⟩ => rfl | ⟨2, _⟩ => rfl
  rw [e]
  exact value_codes m hO (j 0) (j 1) (j 2)

end Cert.Agree

end
-- ==== Proof.KernelIdeal.Angle.lean ====
/- The rotation over the exact reals: the angle of a position and a lane, the tables of cosines and sines, and a head
   rotated by its token's angles. -/
module

public import proofs.«01_k».proof.Proof.KernelIdeal.Quant
public import proofs.«01_k».proof.Proof.KernelIdeal.Touch
public import Mathlib.Analysis.SpecialFunctions.Trigonometric.Basic

@[expose] public section

set_option maxRecDepth 16384

noncomputable section

namespace Cert.KernelIdeal.Hand

open Cert.KernelIdeal.Gen
open Idealize.ShloMosaic

/-- The angle a lane turns by per position: `10000 ^ (-2 j / 128)` at lane `j` of a half. -/
def freq (d : Fin 128) : ℝ := Real.exp (((d.val % 64 : ℕ) : ℝ) * ((-1 / 64) * Real.log 10000))

/-- A lane's word over 64, its remainder, as the kernel computes it. -/
theorem lane_word : ∀ d : Fin 128,
    Scalar.select
      (IntOp.andi
        (IntOp.xori
          (IntOp.cmpi CmpIPredicate.slt (IntOp.remsi ArithUnit.vector (BitVec.ofNat 32 d.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 d.val) (Scalar.select (Scalar.cmpi CmpIPredicate.eq 64#32 0#32) 1#32 64#32)) 0#32))
      (IntOp.addi (IntOp.remsi ArithUnit.vector (BitVec.ofNat 32 d.val) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 d.val) (Scalar.select (Scalar.cmpi CmpIPredicate.eq 64#32 0#32) 1#32 64#32))
      = BitVec.ofNat 32 (d.val % 64) := by
  decide +kernel

/-- A small number's word reads back as the number. -/
theorem toInt_small (n : Nat) (h : n < 2048) : (BitVec.ofNat 32 n).toInt = (n : Int) := by
  rw [BitVec.toInt_eq_toNat_of_lt] <;> rw [BitVec.toNat_ofNat, Nat.mod_eq_of_lt (by omega)]
  omega

theorem pay6_apply (d : Fin 128) : k0_pay6 (F := Ideal) (ix2 (0 : Fin 1) d) = ((freq d : ℝ) : EReal) := by
  unfold k0_pay6
  dsimp only
  pointwise
  rw [lane_word]
  have e : (Named.named κ "log_base" 0xBE135D8E#32 : Ideal .f32) = (((-1 / 64) * (Real.log 10000) : ℝ) : EReal) :=
    IdealRules.named_const.ideal_named_scalar κ "log_base" (φ := .f32) 0xBE135D8E#32 (((-1 / 64) * (Real.log 10000) : ℝ) : EReal) rfl
  rw [e]
  show Ideal.exp ((((BitVec.ofNat 32 (d.val % 64)).toInt : ℝ) : EReal) * _) = _
  rw [toInt_small _ (by omega), ← EReal.coe_mul]
  rfl

theorem pay7_apply (t : Fin 256) (d : Fin 128) : k0_pay7 (F := Ideal) (ix2 t d) = ((t.val * freq d : ℝ) : EReal) := by
  unfold k0_pay7
  dsimp only
  pointwise
  rw [pay6_apply]
  show (((BitVec.ofNat 32 t.val).toInt : ℝ) : EReal) * _ = _
  rw [toInt_small _ (by omega), ← EReal.coe_mul]
  rfl

theorem cosTab_apply (t : Fin 256) (d : Fin 128) : cosTab (F := Ideal) (ix2 t d) = ((Real.cos (t.val * freq d) : ℝ) : EReal) := by
  unfold cosTab k0_pay8
  pointwise
  rw [pay7_apply]
  rfl

theorem sinTab_apply (t : Fin 256) (d : Fin 128) : sinTab (F := Ideal) (ix2 t d) = ((Real.sin (t.val * freq d) : ℝ) : EReal) := by
  unfold sinTab k0_pay9
  pointwise
  rw [pay7_apply]
  rfl

theorem pay13_apply (iw pw : BitVec 32) (d : Fin 128) :
    k0_pay13 (F := Ideal) iw k0_pay6 pw (ix2 (0 : Fin 1) d) = (((pw + iw * 256#32).toInt * freq d : ℝ) : EReal) := by
  unfold k0_pay13
  pointwise
  rw [pay6_apply]
  show (((pw + iw * 256#32).toInt : ℝ) : EReal) * _ = _
  rw [← EReal.coe_mul]

/-- The sign of a lane: the first half's lanes subtract the second half's numbers. -/
def laneSign (d : Fin 128) : ℝ := if d.val < 64 then -1 else 1

theorem lane_lt : ∀ d : Fin 128, IntOp.cmpi CmpIPredicate.slt (BitVec.ofNat 32 d.val) 64#32 = if d.val < 64 then 1#1 else 0#1 := by
  decide +kernel

theorem minus_one : Ideal.ofBits .f32 0xBF800000#32 = ((-1 : ℝ) : EReal) := by
  simp [Ideal.ofBits, Ideal.ieee, -EReal.coe_mul]
  norm_num

theorem pay16_apply (d : Fin 128) : k0_pay16 (F := Ideal) laneIota (ix2 (0 : Fin 1) d) = ((laneSign d : ℝ) : EReal) := by
  unfold k0_pay16 laneIota laneSign
  dsimp only
  pointwise
  rw [lane_lt, minus_one]
  split
  · rfl
  · rfl

/-- The lane half a head away. -/
def other (d : Fin 128) : Fin 128 := ⟨(d.val + 64) % 128, Nat.mod_lt _ (by decide)⟩

theorem rot_apply (c s x : FVec Ideal S64x128 .f32) (t : Fin 64) (d : Fin 128) :
    rot c s x (ix2 t d) = x (ix2 t d) * c (ix2 t d) + x (ix2 t (other d)) * s (ix2 t d) := by
  unfold rot k0_pay24
  dsimp only
  pointwise
  exact congrArg (fun e => x (ix2 t d) * c (ix2 t d) + x (ix2 t e) * s (ix2 t d)) (Fin.ext (by show (d.val + 128 - 64) % 128 = (d.val + 64) % 128; omega))

/-- The cosines of a chunk's angles, position by position. -/
theorem cosT_apply (iw pw : BitVec 32) (c s : Vec Ideal S64x128 .f32) (n : Nat) (t : Fin 64) (d : Fin 128)
    (hc : c (ix2 t d) = ((Real.cos (n * freq d) : ℝ) : EReal)) (hs : s (ix2 t d) = ((Real.sin (n * freq d) : ℝ) : EReal)) :
    cosT iw pw c s (ix2 t d) = ((Real.cos (((pw + iw * 256#32).toInt + n) * freq d) : ℝ) : EReal) := by
  unfold cosT k0_pay19 k0_pay14 k0_pay15
  dsimp only
  pointwise
  rw [pay13_apply, hc, hs, add_mul, Real.cos_add, EReal.coe_sub, EReal.coe_mul, EReal.coe_mul]
  rfl

/-- The signed sines of a chunk's angles, position by position. -/
theorem sinT_apply (iw pw : BitVec 32) (c s : Vec Ideal S64x128 .f32) (n : Nat) (t : Fin 64) (d : Fin 128)
    (hc : c (ix2 t d) = ((Real.cos (n * freq d) : ℝ) : EReal)) (hs : s (ix2 t d) = ((Real.sin (n * freq d) : ℝ) : EReal)) :
    sinT iw pw c s (ix2 t d) = ((laneSign d * Real.sin (((pw + iw * 256#32).toInt + n) * freq d) : ℝ) : EReal) := by
  unfold sinT k0_pay20 k0_pay17 k0_pay18 k0_pay14 k0_pay15
  dsimp only
  pointwise
  rw [pay13_apply, hc, hs, pay16_apply, add_mul, Real.sin_add]
  show ((Real.sin _ : ℝ) : EReal) * ((laneSign d : ℝ) : EReal) * ((Real.cos _ : ℝ) : EReal) + ((Real.cos _ : ℝ) : EReal) * ((laneSign d : ℝ) : EReal) * ((Real.sin _ : ℝ) : EReal) = _
  rw [← EReal.coe_mul, ← EReal.coe_mul, ← EReal.coe_mul, ← EReal.coe_mul, ← EReal.coe_add]
  exact congrArg _ (by ring)

/-- A head rotated by its token's angles, at position `p`. -/
def rotHead (p : Int) (x : Fin 128 → Ideal .f32) : Fin 128 → Ideal .f32 := fun d =>
  (x d * ((Real.cos (p * freq d) : ℝ) : EReal) + x (other d) * ((laneSign d * Real.sin (p * freq d) : ℝ) : EReal) : EReal)

/-- The position of token `n` of a point. -/
def posAt (iw pw : BitVec 32) (n : Nat) : Int := (pw + iw * 256#32).toInt + n

theorem headOf_rot (iw pw : BitVec 32) (x : Vec Ideal S1x1024x128 .bf16) (r : Fin 4) (t : Fin 64) (h : Fin 4) :
    headOf (rot (cosT iw pw (rows (cosTab (F := Ideal)) r) (rows (sinTab (F := Ideal)) r)) (sinT iw pw (rows (cosTab (F := Ideal)) r) (rows (sinTab (F := Ideal)) r)) (lo (half x r 0)))
      (rot (cosT iw pw (rows (cosTab (F := Ideal)) r) (rows (sinTab (F := Ideal)) r)) (sinT iw pw (rows (cosTab (F := Ideal)) r) (rows (sinTab (F := Ideal)) r)) (hi (half x r 0)))
      (rot (cosT iw pw (rows (cosTab (F := Ideal)) r) (rows (sinTab (F := Ideal)) r)) (sinT iw pw (rows (cosTab (F := Ideal)) r) (rows (sinTab (F := Ideal)) r)) (lo (half x r 1)))
      (rot (cosT iw pw (rows (cosTab (F := Ideal)) r) (rows (sinTab (F := Ideal)) r)) (sinT iw pw (rows (cosTab (F := Ideal)) r) (rows (sinTab (F := Ideal)) r)) (hi (half x r 1))) h t
      = rotHead (posAt iw pw (64 * r.val + t.val)) (blockHead x ⟨64 * r.val + t.val, by omega⟩ h) := by
  rw [← headOf_half x r t h]
  funext d
  have hc : (rows (F := Ideal) (cosTab (F := Ideal)) r (ix2 t d) : Ideal .f32) = ((Real.cos ((64 * r.val + t.val : ℕ) * freq d) : ℝ) : EReal) := cosTab_apply ⟨64 * r.val + t.val, by omega⟩ d
  have hs : (rows (F := Ideal) (sinTab (F := Ideal)) r (ix2 t d) : Ideal .f32) = ((Real.sin ((64 * r.val + t.val : ℕ) * freq d) : ℝ) : EReal) := sinTab_apply ⟨64 * r.val + t.val, by omega⟩ d
  have key : ∀ y : FVec Ideal S64x128 .f32,
      rot (cosT iw pw (rows (cosTab (F := Ideal)) r) (rows (sinTab (F := Ideal)) r)) (sinT iw pw (rows (cosTab (F := Ideal)) r) (rows (sinTab (F := Ideal)) r)) y (ix2 t d)
        = rotHead (posAt iw pw (64 * r.val + t.val)) (fun k => y (ix2 t k)) d := fun y => by
    rw [rot_apply, cosT_apply iw pw _ _ _ t d hc hs, sinT_apply iw pw _ _ _ t d hc hs]
    unfold rotHead posAt
    push_cast
    rfl
  unfold headOf
  fin_cases h
  · exact key _
  · exact key _
  · exact key _
  · exact key _

/-- The key scales of a point, token by token. -/
theorem ksBlock_apply (iw pw : BitVec 32) (x : Vec Ideal S1x1024x128 .bf16) (n : Fin 256) (h : Fin 4) :
    ksBlock iw pw cosTab sinTab x (ix3 (0 : Fin 1) n h) = headScale (rotHead (posAt iw pw n.val) (blockHead x n h)) :=
  scaleBlock_apply (fun n h => headScale (rotHead (posAt iw pw n.val) (blockHead x n h))) _ (fun r t h => by
    rw [← headOf_rot]; exact scales4_apply _ _ _ _ t h) n h

/-- The key codes of a point, row by row. -/
theorem kcBlock_apply (iw pw : BitVec 32) (x : Vec Ideal S1x1024x128 .bf16) (n : Fin 1024) (d : Fin 128) :
    kcBlock iw pw cosTab sinTab x (ix3 (0 : Fin 1) n d)
      = (headCode (rotHead (posAt iw pw (n.val / 4)) (blockHead x ⟨n.val / 4, by omega⟩ ⟨n.val % 4, by omega⟩)) d).setWidth 8 :=
  codeBlock_apply (fun n h d => (headCode (rotHead (posAt iw pw n.val) (blockHead x n h)) d).setWidth 8) _ (fun r t h d => by
    rw [← headOf_rot]; exact codes4_apply _ _ _ _ t h d) n d

end Cert.KernelIdeal.Hand

end
-- ==== Proof.KernelIdeal.NewKeys.lean ====
/- The codes and scales a point writes of its new keys: each token's heads rotated by its position. -/
module

public import proofs.«01_k».proof.Proof.KernelIdeal.New
public import proofs.«01_k».proof.Proof.KernelIdeal.Angle
public import proofs.«01_k».proof.Proof.KernelIdeal.Side
public import proofs.«01_k».proof.Proof.Request

@[expose] public section

set_option maxRecDepth 16384

noncomputable section

namespace Cert.KernelIdeal.Hand

open Cert.KernelIdeal.Gen Cert.Request

open Idealize.ShloMosaic Idealize.ShloMosaic.TcCoe Idealize.ShloMosaic.Tactic
open Idealize.ShloMosaic.Pipeline (Dat RDat Cfg Window)

section

variable {F : FTy → Type} [FloatOps F] [Named F]

theorem off3_word : ∀ b : Fin 4, (Scalar.indexCast (BitVec.ofNat 32 b.val) : Index).toNat = b.val := by
  decide +kernel

theorem off3_at (i : grid0.Coords) (b : Fin 4) (hb : (i 0).val = b.val) (a : Fin 1) : k0_off3 i a = b.val := by
  match a with
  | ⟨0, _⟩ =>
    show (Scalar.indexCast (BitVec.ofNat 32 (i 0).val) : Index).toNat = b.val
    rw [hb]
    exact off3_word b

/-- The word a point reads of a table of four is its batch's. -/
theorem tblWord_one (i : grid0.Coords) (b : Fin 4) (hb : (i 0).val = b.val) (x : IVec S4 32) : tblWord (F := F) i tbM0_1 x = x (ix1 b) := by
  refine congrArg x ?_
  funext a
  match a with
  | ⟨0, _⟩ =>
    refine Fin.ext (Eq.trans ?_ (off3_at i b hb 0))
    show k0_off3 i 0 + _ = k0_off3 i 0
    exact Nat.add_zero _

theorem tblWord_two (i : grid0.Coords) (b : Fin 4) (hb : (i 0).val = b.val) (x : IVec S4 32) : tblWord (F := F) i tbM0_2 x = x (ix1 b) :=
  tblWord_one i b hb x

end

/-- A start position and a token's place in its batch add up without overflow. -/
theorem posAt_eq (w : BitVec 32) (hw : w.toInt ≤ 2147481599) (i n : Nat) (hi : i < 8) (hn : n < 256) (hp : -2147483648 ≤ w.toInt) :
    posAt (BitVec.ofNat 32 i) w n = (w + BitVec.ofNat 32 (256 * i + n)).toInt := by
  unfold posAt
  have e1 : BitVec.ofNat 32 i * 256#32 = BitVec.ofNat 32 (256 * i) := by
    apply BitVec.eq_of_toNat_eq
    rw [BitVec.toNat_mul, BitVec.toNat_ofNat, BitVec.toNat_ofNat, BitVec.toNat_ofNat]
    omega
  rw [e1, BitVec.toInt_add, BitVec.toInt_add, toInt_small _ (by omega), toInt_small _ (by omega), Int.bmod_eq_of_le (by push_cast; omega) (by push_cast; omega),
    Int.bmod_eq_of_le (by push_cast; omega) (by push_cast; omega)]
  push_cast
  omega

variable (m : (ℓ : Loc nD τ sig) → Buf (Elt Ideal) ℓ) (hO : Ok m)

/-- The start position of a batch. -/
def startOf (b : Fin 4) : BitVec 32 := m (((0 : Dev nD) : Thread nD τ).loc main_arg8) (ix1 b)

/-- The position word of a point's batch. -/
theorem start_word (b : Fin 4) (i : Nat) (hi : i < 8) :
    tblWord (F := Ideal) (grid0.coords (point b i hi)) tbM0_2 (tbl m 2) = startOf m b := by
  have e : tbl m 2 = m (((0 : Dev nD) : Thread nD τ).loc main_arg8) := V_main_arg8 m 0
  rw [e]
  exact tblWord_two _ b ((coord0 _).trans (by show (8 * b.val + i) / 8 = b.val; omega)) _

theorem chunk_word (b : Fin 4) (i : Nat) (hi : i < 8) : (grid0.coords (point b i hi) 1).val = i :=
  (coord1 _).trans (by show (8 * b.val + i) % 8 = i; omega)

variable (v : Valid (m (((0 : Dev nD) : Thread nD τ).loc main_arg6)) (m (((0 : Dev nD) : Thread nD τ).loc main_arg7)) (m (((0 : Dev nD) : Thread nD τ).loc main_arg8)))

include v

/-- A point's key scales are the scales of its rotated heads. -/
theorem ksAt_apply (b : Fin 4) (i : Nat) (hi : i < 8) (n : Fin 256) (h : Fin 4) :
    ksAt m hO 0 (point b i hi) (ix3 (0 : Fin 1) n h)
      = headScale (rotHead ((startOf m b + BitVec.ofNat 32 (256 * i + n.val)).toInt)
          (newHead (m (((0 : Dev nD) : Thread nD τ).loc main_arg0)) b ⟨256 * i + n.val, by omega⟩ h)) := by
  refine (ksBlock_apply _ _ _ n h).trans ?_
  rw [chunk_word, start_word, posAt_eq (startOf m b) (v.pos (ix1 b)) i n.val hi n.isLt (by have := BitVec.le_toInt (startOf m b); omega)]
  exact congrArg (fun x => headScale (rotHead _ x)) (blockHead_keys m hO b i hi n h)

/-- A point's key codes are the codes of its rotated heads. -/
theorem kcAt_apply (b : Fin 4) (i : Nat) (hi : i < 8) (n : Fin 1024) (d : Fin 128) :
    kcAt m hO 0 (point b i hi) (ix3 (0 : Fin 1) n d)
      = (headCode (rotHead ((startOf m b + BitVec.ofNat 32 (256 * i + n.val / 4)).toInt)
          (newHead (m (((0 : Dev nD) : Thread nD τ).loc main_arg0)) b ⟨256 * i + n.val / 4, by omega⟩ ⟨n.val % 4, by omega⟩)) d).setWidth 8 := by
  refine (kcBlock_apply _ _ _ n d).trans ?_
  rw [chunk_word, start_word, posAt_eq (startOf m b) (v.pos (ix1 b)) i (n.val / 4) hi (by omega) (by have := BitVec.le_toInt (startOf m b); omega)]
  exact congrArg (fun x => (headCode (rotHead _ x) d).setWidth 8) (blockHead_keys m hO b i hi ⟨n.val / 4, by omega⟩ ⟨n.val % 4, by omega⟩)

end Cert.KernelIdeal.Hand

end
-- ==== Proof.ReferenceIdeal.Rotary.lean ====
/- What the reference computes of the keys: each head is rotated by its token's angles and quantised. -/
module

public import proofs.«01_k».proof.Proof.KernelIdeal.Angle
public import proofs.«01_k».proof.Proof.ReferenceIdeal.Quant

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (headMax headScale headCode newHead freq other laneSign rotHead toInt_small)

/-- The position of token `s` of batch `b`. -/
def posOf (x8 : IVec S4 32) (b : Fin 4) (s : Fin 2048) : Int := (x8 (ix1 b) + BitVec.ofNat 32 s.val).toInt

theorem minus_two : Ideal.ofBits .f32 0xC0000000#32 = ((-2 : ℝ) : EReal) := by
  simp [Ideal.ofBits, Ideal.ieee, -EReal.coe_mul]
  norm_num

theorem lanes : Ideal.ofBits .f32 0x43000000#32 = ((128 : ℝ) : EReal) := by
  simp [Ideal.ofBits, Ideal.ieee, -EReal.coe_mul]
  norm_num

theorem log_base : Ideal.ofBits .f32 0x461C4000#32 = ((10000 : ℝ) : EReal) := by
  simp [Ideal.ofBits, Ideal.ieee, -EReal.coe_mul]
  norm_num

/-- The frequency of a pair of lanes is a power of ten thousand. -/
theorem v13_apply (k : Fin 64) : val_main_v13 (F := Ideal) (ix1 k) = ((freq ⟨k.val, by omega⟩ : ℝ) : EReal) := by
  have e7 : val_main_v7 (F := Ideal) (ix1 k) = ((k.val : ℝ) : EReal) := by
    show (((BitVec.ofNat 32 k.val).toInt : ℝ) : EReal) = _
    rw [toInt_small _ (by omega)]
    rfl
  rw [val_main_v13_apply, val_main_v12_apply, val_main_v11_apply, val_main_v10_apply, val_main_v9_apply, val_main_v8_apply, e7, val_main_cst_apply,
    val_main_cst_0_apply, val_main_cst_1_apply]
  show Ideal.pow (Ideal.ofBits .f32 0x461C4000#32) (Ideal.div (Ideal.ofBits .f32 0xC0000000#32 * _) (Ideal.ofBits .f32 0x43000000#32)) = _
  rw [minus_two, lanes, log_base, ← EReal.coe_mul, Ideal.div_coe (by norm_num), ← EReal.coe_mul]
  show ((Real.rpow 10000 (-2 * k.val * (1 / 128)) : ℝ) : EReal) = _
  refine congrArg _ ?_
  unfold freq
  show (10000 : ℝ) ^ ((-2 * k.val * (1 / 128) : ℝ)) = _
  rw [Real.rpow_def_of_pos (by norm_num), Nat.mod_eq_of_lt (show k.val < 64 from k.isLt)]
  exact congrArg _ (by ring)

/-- The angle of a token and a pair of lanes. -/
theorem v19_apply (x8) (b : Fin 4) (s : Fin 2048) (k : Fin 64) :
    val_main_v19 (F := Ideal) x8 (ix3 b s k) = ((posOf x8 b s * freq ⟨k.val, by omega⟩ : ℝ) : EReal) := by
  rw [val_main_v19_apply, val_main_v17_apply, val_main_v15_apply, val_main_v14_apply, val_main_v5_apply, val_main_v3_apply, val_main_v1_apply, val_main_v4_apply,
    val_main_v2_apply, val_main_v0_apply, val_main_v18_apply, val_main_v16_apply]
  rw [show idx_main_v16 (idx_main_v18 (ix3 b s k)) = ix1 k from by funext a; match a with | ⟨0, _⟩ => rfl, v13_apply,
    show idx_main_v1 (idx_main_v3 (idx_main_v15 (idx_main_v17 (ix3 b s k)))) = ix1 b from by funext a; match a with | ⟨0, _⟩ => rfl]
  show (((x8 (ix1 b) + BitVec.ofNat 32 s.val).toInt : ℝ) : EReal) * _ = _
  rw [← EReal.coe_mul]
  rfl

theorem v21_apply (x8) (j : S4x2048x1x64.Idx) (b : Fin 4) (s : Fin 2048) (k : Fin 64) (e : idx_main_v21 j = ix3 b s k) :
    val_main_v21 (F := Ideal) x8 j = ((Real.cos (posOf x8 b s * freq ⟨k.val, by omega⟩) : ℝ) : EReal) := by
  rw [val_main_v21_apply, e, val_main_v20_apply, v19_apply]
  rfl

theorem v23_apply (x8) (j : S4x2048x1x64.Idx) (b : Fin 4) (s : Fin 2048) (k : Fin 64) (e : idx_main_v23 j = ix3 b s k) :
    val_main_v23 (F := Ideal) x8 j = ((Real.sin (posOf x8 b s * freq ⟨k.val, by omega⟩) : ℝ) : EReal) := by
  rw [val_main_v23_apply, e, val_main_v22_apply, v19_apply]
  rfl

theorem v24_apply (x0) (b : Fin 4) (s : Fin 2048) (h : Fin 4) (k : Fin 64) :
    val_main_v24 (F := Ideal) x0 (ix4 b s h k) = newHead x0 b s h ⟨k.val, by omega⟩ := by
  rw [val_main_v24_apply, val_main_v6_apply,
    show idx_main_v24 (ix4 b s h k) = ix4 b s h (⟨k.val, by omega⟩ : Fin 128) from by funext a; match a with | ⟨0, _⟩ => rfl | ⟨1, _⟩ => rfl | ⟨2, _⟩ => rfl | ⟨3, _⟩ => rfl]
  rfl

theorem v25_apply (x0) (b : Fin 4) (s : Fin 2048) (h : Fin 4) (k : Fin 64) :
    val_main_v25 (F := Ideal) x0 (ix4 b s h k) = newHead x0 b s h ⟨64 + k.val, by omega⟩ := by
  rw [val_main_v25_apply, val_main_v6_apply,
    show idx_main_v25 (ix4 b s h k) = ix4 b s h (⟨64 + k.val, by omega⟩ : Fin 128) from by
      funext a; match a with | ⟨0, _⟩ => rfl | ⟨1, _⟩ => rfl | ⟨2, _⟩ => rfl | ⟨3, _⟩ => first | rfl | exact Fin.ext (by show _ + _ = _ + _; omega)]
  rfl

/-- The first half of a rotated head. -/
theorem v30_apply (x0 x8) (b : Fin 4) (s : Fin 2048) (h : Fin 4) (k : Fin 64) :
    val_main_v30 (F := Ideal) x0 x8 (ix4 b s h k) = rotHead (posOf x8 b s) (newHead x0 b s h) ⟨k.val, by omega⟩ := by
  have ek : k.val < 64 := k.isLt
  have eo : other ⟨k.val, by omega⟩ = ⟨64 + k.val, by omega⟩ := Fin.ext (by show (k.val + 64) % 128 = 64 + k.val; omega)
  rw [val_main_v30_apply, val_main_v27_apply, val_main_v29_apply, val_main_v26_apply, val_main_v28_apply, v24_apply, v25_apply,
    v21_apply x8 _ b s k (by funext a; match a with | ⟨0, _⟩ => rfl | ⟨1, _⟩ => rfl | ⟨2, _⟩ => rfl),
    v23_apply x8 _ b s k (by funext a; match a with | ⟨0, _⟩ => rfl | ⟨1, _⟩ => rfl | ⟨2, _⟩ => rfl)]
  unfold rotHead
  rw [eo, show laneSign ⟨k.val, by omega⟩ = -1 from if_pos ek]
  rw [neg_one_mul, EReal.coe_neg, mul_neg]
  exact sub_eq_add_neg (G := EReal) _ _

/-- The second half of a rotated head. -/
theorem v35_apply (x0 x8) (b : Fin 4) (s : Fin 2048) (h : Fin 4) (k : Fin 64) :
    val_main_v35 (F := Ideal) x0 x8 (ix4 b s h k) = rotHead (posOf x8 b s) (newHead x0 b s h) ⟨64 + k.val, by omega⟩ := by
  have ek : k.val < 64 := k.isLt
  have eo : other ⟨64 + k.val, by omega⟩ = ⟨k.val, by omega⟩ := Fin.ext (by show (64 + k.val + 64) % 128 = k.val; omega)
  have ef : freq ⟨64 + k.val, by omega⟩ = freq ⟨k.val, by omega⟩ := by
    unfold freq
    show Real.exp ((((64 + k.val) % 64 : ℕ) : ℝ) * _) = Real.exp (((k.val % 64 : ℕ) : ℝ) * _)
    rw [show (64 + k.val) % 64 = k.val % 64 by omega]
  rw [val_main_v35_apply, val_main_v32_apply, val_main_v34_apply, val_main_v31_apply, val_main_v33_apply, v24_apply, v25_apply,
    v21_apply x8 _ b s k (by funext a; match a with | ⟨0, _⟩ => rfl | ⟨1, _⟩ => rfl | ⟨2, _⟩ => rfl),
    v23_apply x8 _ b s k (by funext a; match a with | ⟨0, _⟩ => rfl | ⟨1, _⟩ => rfl | ⟨2, _⟩ => rfl)]
  unfold rotHead
  rw [eo, ef, show laneSign ⟨64 + k.val, by omega⟩ = 1 from if_neg (by show ¬ (64 + k.val < 64); omega), one_mul]
  rfl

/-- The rotated keys. -/
theorem v36_apply (x0 x8) (b : Fin 4) (s : Fin 2048) (h : Fin 4) (d : Fin 128) :
    val_main_v36 (F := Ideal) x0 x8 (ix4 b s h d) = rotHead (posOf x8 b s) (newHead x0 b s h) d := by
  unfold val_main_v36
  have h1 := v30_apply x0 x8 b s h
  have h2 := v35_apply x0 x8 b s h
  generalize val_main_v30 (F := Ideal) x0 x8 = y1 at h1 ⊢
  generalize val_main_v35 (F := Ideal) x0 x8 = y2 at h2 ⊢
  pointwise
  by_cases hd : d.val < 64
  · rw [dif_pos hd]
    exact h1 ⟨d.val, hd⟩
  · rw [dif_neg hd]
    refine (h2 ⟨d.val - 64, by omega⟩).trans (congrArg _ (Fin.ext ?_))
    show 64 + (d.val - 64) = d.val
    omega

theorem v38_apply (x0 x8) (b : Fin 4) (s : Fin 2048) (h : Fin 4) :
    val_main_v38 (F := Ideal) x0 x8 (ix3 b s h) = headMax (rotHead (posOf x8 b s) (newHead x0 b s h)) := by
  have e : ∀ d, val_main_v37 (F := Ideal) x0 x8 (ix4 b s h d) = FloatOps.absf (rotHead (posOf x8 b s) (newHead x0 b s h) d) := fun d => by
    rw [val_main_v37_apply, v36_apply]
    rfl
  unfold val_main_v38 headMax
  generalize val_main_v37 (F := Ideal) x0 x8 = y at e ⊢
  simp only [← e]
  pointwise
  rfl

/-- The key scales. -/
theorem v43_apply (x0 x8) (b : Fin 4) (s : Fin 2048) (h : Fin 4) :
    val_main_v43 (F := Ideal) x0 x8 (ix3 b s h) = headScale (rotHead (posOf x8 b s) (newHead x0 b s h)) := by
  rw [val_main_v43_apply, val_main_v40_apply, val_main_v42_apply, v38_apply, val_main_v39_apply, val_main_v41_apply, val_main_call0_v0_apply,
    val_main_cst_3_apply, val_main_cst_4_apply, val_main_cst_5_apply]
  generalize rotHead (posOf x8 b s) (newHead x0 b s h) = y
  unfold headScale
  pointwise

/-- The key codes. -/
theorem v50_apply (x0 x8) (b : Fin 4) (s : Fin 2048) (h : Fin 4) (d : Fin 128) :
    val_main_v50 (F := Ideal) x0 x8 (ix4 b s h d) = (headCode (rotHead (posOf x8 b s) (newHead x0 b s h)) d).setWidth 8 := by
  rw [val_main_v50_apply, val_main_v49_apply, val_main_v48_apply, val_main_call2_v4_apply, val_main_call2_v2_apply, val_main_call2_v1_apply, val_main_v47_apply, val_main_v46_apply,
    val_main_v45_apply, val_main_v44_apply, v36_apply]
  rw [show idx_main_v44 (idx_main_v45 (ix4 b s h d)) = ix3 b s h from by funext a; match a with | ⟨0, _⟩ => rfl | ⟨1, _⟩ => rfl | ⟨2, _⟩ => rfl, v43_apply]
  unfold headCode
  rfl

end Cert.ReferenceIdeal.Hand

end
-- ==== Proof.AgreeKeys.lean ====
/- The kernel's new keys' codes and scales are the reference's, element by element. -/
module

public import proofs.«01_k».proof.Proof.KernelIdeal.NewKeys
public import proofs.«01_k».proof.Proof.ReferenceIdeal.Rotary

@[expose] public section

set_option maxRecDepth 16384

noncomputable section

namespace Cert.Agree

open Cert.KernelIdeal Cert.KernelIdeal.Gen Cert.KernelIdeal.Hand Cert.Request
open Idealize.ShloMosaic Idealize.ShloMosaic.TcCoe

variable (m : (ℓ : Loc nD τ sig) → Buf (Elt Ideal) ℓ) (hO : Ok m)
variable (v : Valid (m (((0 : Dev nD) : Thread nD τ).loc main_arg6)) (m (((0 : Dev nD) : Thread nD τ).loc main_arg7)) (m (((0 : Dev nD) : Thread nD τ).loc main_arg8)))

include v

/-- The key scales are the reference's. -/
theorem key_scales (b : Fin 4) (s : Fin 2048) (h : Fin 4) :
    (tiled (k := 256) (d := 4) (fun t => ksAt m hO 0 t) (by decide) : S4x2048x4.Idx → _) (ix3 b s h)
      = Cert.ReferenceIdeal.Read.val_main_v43 (F := Ideal) (m (((0 : Dev nD) : Thread nD τ).loc main_arg0)) (m (((0 : Dev nD) : Thread nD τ).loc main_arg8)) (ix3 b s h) := by
  have hs : s.val / 256 < 8 := by have := s.isLt; omega
  rw [Cert.ReferenceIdeal.Hand.v43_apply]
  have gen : ∀ (n : Nat) (hn : n < 2048), n = s.val →
      headScale (rotHead (startOf m b + BitVec.ofNat 32 n).toInt (newHead (m (((0 : Dev nD) : Thread nD τ).loc main_arg0)) b ⟨n, hn⟩ h))
        = headScale (rotHead (Cert.ReferenceIdeal.Hand.posOf (m (((0 : Dev nD) : Thread nD τ).loc main_arg8)) b s) (newHead (m (((0 : Dev nD) : Thread nD τ).loc main_arg0)) b s h)) := by
    rintro _ _ rfl
    rfl
  exact (ksAt_apply m hO v b (s.val / 256) hs ⟨s.val % 256, Nat.mod_lt _ (by decide)⟩ h).trans (gen _ _ (Nat.div_add_mod s.val 256))

/-- The key codes are the reference's. -/
theorem key_codes (b : Fin 4) (q : Fin 8192) (d : Fin 128) :
    (tiled (k := 1024) (d := 128) (fun t => kcAt m hO 0 t) (by decide) : S4x8192x128.Idx → _) (ix3 b q d)
      = Cert.ReferenceIdeal.Read.val_main_v172 (F := Ideal) (m (((0 : Dev nD) : Thread nD τ).loc main_arg0)) (m (((0 : Dev nD) : Thread nD τ).loc main_arg8)) (ix3 b q d) := by
  have hq : q.val / 1024 < 8 := by have := q.isLt; omega
  have e : Cert.ReferenceIdeal.Read.idx_main_v172 (ix3 b q d) = ix4 b (⟨q.val / 4, by have := q.isLt; omega⟩ : Fin 2048) (⟨q.val % 4, by omega⟩ : Fin 4) d := by
    have hb := b.isLt
    have hq := q.isLt
    have hd := d.isLt
    funext a
    match a with
    | ⟨0, _⟩ => exact Fin.ext (by show ((b.val * 8192 + q.val) * 128 + d.val) / 1048576 = b.val; omega)
    | ⟨1, _⟩ => exact Fin.ext (by show ((b.val * 8192 + q.val) * 128 + d.val) / 512 % 2048 = q.val / 4; omega)
    | ⟨2, _⟩ => exact Fin.ext (by show ((b.val * 8192 + q.val) * 128 + d.val) / 128 % 4 = q.val % 4; omega)
    | ⟨3, _⟩ => exact Fin.ext (by show ((b.val * 8192 + q.val) * 128 + d.val) % 128 = d.val; omega)
  rw [Cert.ReferenceIdeal.Read.val_main_v172_apply, e, Cert.ReferenceIdeal.Hand.v50_apply]
  refine (kcAt_apply m hO v b (q.val / 1024) hq ⟨q.val % 1024, Nat.mod_lt _ (by decide)⟩ d).trans ?_
  have e1 : (⟨256 * (q.val / 1024) + q.val % 1024 / 4, by omega⟩ : Fin 2048) = ⟨q.val / 4, by omega⟩ := Fin.ext (by show 256 * (q.val / 1024) + q.val % 1024 / 4 = q.val / 4; omega)
  have e2 : (⟨q.val % 1024 % 4, by omega⟩ : Fin 4) = ⟨q.val % 4, by omega⟩ := Fin.ext (by show q.val % 1024 % 4 = q.val % 4; omega)
  refine (congrArg (fun s : Fin 2048 => (headCode (rotHead (startOf m b + BitVec.ofNat 32 s.val).toInt (newHead _ b s ⟨q.val % 1024 % 4, by omega⟩)) d).setWidth 8) e1).trans ?_
  exact congrArg (fun h : Fin 4 => (headCode (rotHead (startOf m b + BitVec.ofNat 32 (q.val / 4)).toInt (newHead _ b ⟨q.val / 4, by have := q.isLt; omega⟩ h)) d).setWidth 8) e2

/-- The key scales are the reference's, at any index. -/
theorem key_scales_at (j : S4x2048x4.Idx) :
    (tiled (k := 256) (d := 4) (fun t => ksAt m hO 0 t) (by decide) : S4x2048x4.Idx → _) j
      = Cert.ReferenceIdeal.Read.val_main_v43 (F := Ideal) (m (((0 : Dev nD) : Thread nD τ).loc main_arg0)) (m (((0 : Dev nD) : Thread nD τ).loc main_arg8)) j := by
  have e : j = (ix3 (j 0) (j 1) (j 2) : S4x2048x4.Idx) := by funext a; match a with | ⟨0, _⟩ => rfl | ⟨1, _⟩ => rfl | ⟨2, _⟩ => rfl
  rw [e]
  exact key_scales m hO v (j 0) (j 1) (j 2)

/-- The key codes are the reference's, at any index. -/
theorem key_codes_at (j : S4x8192x128.Idx) :
    (tiled (k := 1024) (d := 128) (fun t => kcAt m hO 0 t) (by decide) : S4x8192x128.Idx → _) j
      = Cert.ReferenceIdeal.Read.val_main_v172 (F := Ideal) (m (((0 : Dev nD) : Thread nD τ).loc main_arg0)) (m (((0 : Dev nD) : Thread nD τ).loc main_arg8)) j := by
  have e : j = (ix3 (j 0) (j 1) (j 2) : S4x8192x128.Idx) := by funext a; match a with | ⟨0, _⟩ => rfl | ⟨1, _⟩ => rfl | ⟨2, _⟩ => rfl
  rw [e]
  exact key_codes m hO v (j 0) (j 1) (j 2)

end Cert.Agree

end
-- ==== Proof.KernelIdeal.Touched.lean ====
/- What the launch leaves in the four touched arrays, read at an index: what a batch's last point leaves in its block, which is
   the points' blocks over the first and last page. -/
module

public import proofs.«01_k».proof.Proof.KernelIdeal.NewKeys

@[expose] public section

set_option maxRecDepth 16384

noncomputable section

namespace Cert.KernelIdeal.Hand

open Cert.KernelIdeal.Gen

open Idealize.ShloMosaic Idealize.ShloMosaic.TcCoe Idealize.ShloMosaic.Tactic
open Idealize.ShloMosaic.Pipeline (Dat RDat Cfg Window)

/-- An entry of a revisited block after point `i` of batch `b`: of the point whose rows cover it, or as the batch's first point
    found it with the ends laid. -/
theorem laid_apply {N : Nat} {Y B α : Type} (over : Nat → B → Y → Y) (o : Fin N → Nat) (p : Fin N → B) (e : Fin N → Y → Y) (y : Y)
    (get : Y → α) (k q : Nat) (hk : 0 < k) (hit : B → Fin k → α)
    (hget : ∀ o' p' y', get (over o' p' y') = if h : o' ≤ q ∧ q < o' + k then hit p' ⟨q - o', by omega⟩ else get y')
    (b : Nat) (hb : 8 * b + 7 < N) (off : Nat) (ho : ∀ (i : Nat) (hi : i < 8), o ⟨8 * b + i, by omega⟩ = off + k * i) :
    ∀ (i : Nat) (hi : i < 8),
      ((off ≤ q ∧ q < off + k * (i + 1)) → ∀ (c : Nat) (hc : c < 8) (r : Fin k), q = off + k * c + r.val →
        get (laid over o p e y (8 * b + i) (by omega)) = hit (p ⟨8 * b + c, by omega⟩) r)
      ∧ (¬ (off ≤ q ∧ q < off + k * (i + 1)) → get (laid over o p e y (8 * b + i) (by omega)) = get (e ⟨8 * b, by omega⟩ y)) := by
  intro i
  induction i with
  | zero =>
    intro hi
    have h0 : o ⟨8 * b, by omega⟩ = off := (ho 0 hi).trans (by omega)
    have hl : laid over o p e y (8 * b + 0) (by omega) = over off (p ⟨8 * b, by omega⟩) (e ⟨8 * b, by omega⟩ y) := by
      refine (laid_first over o p e y (8 * b) (by omega) (by omega)).trans ?_
      rw [h0]
    have hg := (congrArg get hl).trans (hget _ _ _)
    rw [Nat.zero_add, Nat.mul_one]
    refine ⟨fun h c hc r hq => (hg.trans (dif_pos h)).trans ?_, fun h => hg.trans (dif_neg h)⟩
    have c0 : c = 0 := by
      rcases Nat.eq_zero_or_pos c with h' | h'
      · exact h'
      · have := Nat.le_mul_of_pos_right k h'
        omega
    subst c0
    rw [Nat.mul_zero] at hq
    exact congrArg (hit _) (Fin.ext (show q - off = r.val by omega))
  | succ i ih =>
    intro hi
    obtain ⟨ih1, ih2⟩ := ih (by omega)
    have hl : laid over o p e y (8 * b + (i + 1)) (by omega) = over (off + k * (i + 1)) (p ⟨8 * b + (i + 1), by omega⟩) (laid over o p e y (8 * b + i) (by omega)) := by
      refine (laid_next over o p e y (8 * b + (i + 1)) (by omega) (show 8 * b + i < N by omega) (by omega)).trans ?_
      rw [ho (i + 1) hi]
      rfl
    have hg := (congrArg get hl).trans (hget _ _ _)
    have hm : k * (i + 1 + 1) = k * (i + 1) + k := Nat.mul_succ _ _
    rw [hm]
    by_cases h : off + k * (i + 1) ≤ q ∧ q < off + k * (i + 1) + k
    · refine ⟨fun _ c hc r hq => (hg.trans (dif_pos h)).trans ?_, fun h' => absurd ⟨by omega, by omega⟩ h'⟩
      have hr := r.isLt
      have hci : c = i + 1 := by
        rcases Nat.lt_trichotomy c (i + 1) with h' | h' | h'
        · have := Nat.mul_le_mul_left k (show c + 1 ≤ i + 1 from h')
          rw [Nat.mul_succ] at this
          omega
        · exact h'
        · have := Nat.mul_le_mul_left k (show i + 1 + 1 ≤ c from h')
          omega
      subst hci
      exact congrArg (hit _) (Fin.ext (show q - (off + k * (i + 1)) = r.val by omega))
    · refine ⟨fun h' c hc r hq => (hg.trans (dif_neg h)).trans (ih1 ⟨h'.1, by omega⟩ c hc r hq),
        fun h' => (hg.trans (dif_neg h)).trans (ih2 fun h'' => h' ⟨h''.1, by omega⟩)⟩

variable {F : FTy → Type} [FloatOps F] [Named F]

variable (m : (ℓ : Loc nD τ sig) → Buf (Elt F) ℓ) (hO : Ok m) (c : Dev nD)

/-- Where a touched block of key codes sits in its array. -/
theorem emb10 (t : Fin (cfgM m hO).N) (y : S1x8256x128.Idx) (j : S4x8256x128.Idx) (hj : (((cfgM m hO).win 10).blk t).view.emb y = j) :
    (j 0).val = t.val / 8 ∧ (j 1).val = (y 1).val ∧ (j 2).val = (y 2).val := by
  subst hj
  have ht : t.val < 32 := t.isLt
  refine ⟨?_, ?_, ?_⟩
  · refine (Window.rect_emb_val ((cfgM m hO).win 10) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 10) t y (1 : Fin 3)).trans ?_
    show 0 * _ + (y 1).val = _
    rw [Nat.zero_mul, Nat.zero_add]
  · refine (Window.rect_emb_val ((cfgM m hO).win 10) t y (2 : Fin 3)).trans ?_
    show 0 * _ + (y 2).val = _
    rw [Nat.zero_mul, Nat.zero_add]

/-- Where a touched block of key scales sits in its array. -/
theorem emb11 (t : Fin (cfgM m hO).N) (y : S1x2064x4.Idx) (j : S4x2064x4.Idx) (hj : (((cfgM m hO).win 11).blk t).view.emb y = j) :
    (j 0).val = t.val / 8 ∧ (j 1).val = (y 1).val ∧ (j 2).val = (y 2).val := by
  subst hj
  have ht : t.val < 32 := t.isLt
  refine ⟨?_, ?_, ?_⟩
  · refine (Window.rect_emb_val ((cfgM m hO).win 11) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 11) t y (1 : Fin 3)).trans ?_
    show 0 * _ + (y 1).val = _
    rw [Nat.zero_mul, Nat.zero_add]
  · refine (Window.rect_emb_val ((cfgM m hO).win 11) t y (2 : Fin 3)).trans ?_
    show 0 * _ + (y 2).val = _
    rw [Nat.zero_mul, Nat.zero_add]

/-- Where a touched block of value codes sits in its array. -/
theorem emb12 (t : Fin (cfgM m hO).N) (y : S1x8256x128.Idx) (j : S4x8256x128.Idx) (hj : (((cfgM m hO).win 12).blk t).view.emb y = j) :
    (j 0).val = t.val / 8 ∧ (j 1).val = (y 1).val ∧ (j 2).val = (y 2).val := by
  subst hj
  have ht : t.val < 32 := t.isLt
  refine ⟨?_, ?_, ?_⟩
  · refine (Window.rect_emb_val ((cfgM m hO).win 12) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 12) t y (1 : Fin 3)).trans ?_
    show 0 * _ + (y 1).val = _
    rw [Nat.zero_mul, Nat.zero_add]
  · refine (Window.rect_emb_val ((cfgM m hO).win 12) t y (2 : Fin 3)).trans ?_
    show 0 * _ + (y 2).val = _
    rw [Nat.zero_mul, Nat.zero_add]

/-- Where a touched block of value scales sits in its array. -/
theorem emb13 (t : Fin (cfgM m hO).N) (y : S1x2064x4.Idx) (j : S4x2064x4.Idx) (hj : (((cfgM m hO).win 13).blk t).view.emb y = j) :
    (j 0).val = t.val / 8 ∧ (j 1).val = (y 1).val ∧ (j 2).val = (y 2).val := by
  subst hj
  have ht : t.val < 32 := t.isLt
  refine ⟨?_, ?_, ?_⟩
  · refine (Window.rect_emb_val ((cfgM m hO).win 13) t y (0 : Fin 3)).trans ?_
    have hy : (y 0).val < 1 := (y 0).isLt
    have e := coord0 t
    show (BitVec.ofNat 32 (grid0.coords t 0).val).toNat * 1 + (y 0).val = _
    rw [BitVec.toNat_ofNat]
    omega
  · refine (Window.rect_emb_val ((cfgM m hO).win 13) t y (1 : Fin 3)).trans ?_
    show 0 * _ + (y 1).val = _
    rw [Nat.zero_mul, Nat.zero_add]
  · refine (Window.rect_emb_val ((cfgM m hO).win 13) t y (2 : Fin 3)).trans ?_
    show 0 * _ + (y 2).val = _
    rw [Nat.zero_mul, Nat.zero_add]

/-- A batch's touched block read at an index of the array. -/
def whole {α : Type} {k d : Nat} (X : Fin grid0.N → (⟨3, ![1, k, d]⟩ : Shape).Idx → α) : (⟨3, ![4, k, d]⟩ : Shape).Idx → α :=
  fun j => X (point (j 0) 7 (by decide)) (ValueIdx.ix3 0 (j 1) (j 2))

/-- Read where a batch's last point's block sits it is that block. -/
theorem whole_block {α : Type} {k d : Nat} (X : Fin grid0.N → (⟨3, ![1, k, d]⟩ : Shape).Idx → α) (t : Fin grid0.N) (ht : t.val % 8 = 7)
    (y : (⟨3, ![1, k, d]⟩ : Shape).Idx) (j : (⟨3, ![4, k, d]⟩ : Shape).Idx)
    (h0 : (j 0).val = t.val / 8) (h1 : (j 1).val = (y 1).val) (h2 : (j 2).val = (y 2).val) : whole X j = X t y := by
  have hy0 : (y 0).val < 1 := (y 0).isLt
  unfold whole
  congr 1
  · apply Fin.ext
    show 8 * (j 0).val + 7 = t.val
    omega
  · funext a
    apply Fin.ext
    match a with
    | ⟨0, _⟩ => show 0 = (y 0).val; omega
    | ⟨1, _⟩ => exact h1
    | ⟨2, _⟩ => exact h2

/-- The last point of a batch. -/
abbrev T (b : Fin 4) : Fin grid0.N := point b 7 (by decide)

/-- The array of touched key codes after the launch. -/
theorem final10 {r : PUnit × MemSt nD τ sig (Elt F)}
    (h : Pipeline.RDat.FramePost ((Pipeline.pin pcfgs fun _ => adm m hO) 0) (rdatV m hO) (V m) r) (b : Fin 4) (q : Fin 8256) (d : Fin 128) :
    ∃ y, r.2.mem ((c.tc : Thread nD τ).loc main_v13_0) (ix3 b q d) = tkAt m hO c y (T b).val (T b).isLt (ix3 (0 : Fin 1) q d) := by
  obtain ⟨after, hL, hA⟩ := Pipeline.RDat.FramePost.exists_exact h c
  have e := congrFun (hA 10) (ix3 b q d)
  have hp : (T b).val = 8 * b.val + 7 := rfl
  have hf : ((cfgM m hO).win 10).flush (T b) = true := (flush0_10 _ _).mpr (by rw [hp]; omega)
  obtain ⟨y, hy⟩ := (datV m hO c).toRRel_leaves (fgt := revisited) (Rl := relV m hO c) (w := 10) rfl (hL 10 (T b) hf)
  refine ⟨y, e.trans ?_⟩
  have fl : ∀ t, ((cfgM m hO).win 10).flush t = true → ((rdatV m hO c).withAfter after).flushed 10 t
      = (((cfgM m hO).win 10).blk t).view.read (Elt F) (whole (k := 8256) (d := 128) (fun t => after 10 t) : S4x8256x128.Idx → Elt F .i8) := fun t ht => by
    funext z
    obtain ⟨h0, h1, h2⟩ := emb10 m hO t z _ rfl
    exact (whole_block (k := 8256) (d := 128) (fun t => after 10 t) t ((flush0_10 _ t).mp ht) z _ h0 h1 h2).symm
  have hm : (ix3 b q d : S4x8256x128.Idx) ∈ (((cfgM m hO).win 10).blk (T b)).view.set := by
    have hm := View.emb_mem_set (((cfgM m hO).win 10).blk (T b)).view (ix3 (0 : Fin 1) q d)
    generalize hi : (((cfgM m hO).win 10).blk (T b)).view.emb (ix3 (0 : Fin 1) q d) = i at hm
    obtain ⟨e0, e1, e2⟩ := emb10 m hO _ _ i hi
    have e : i = ix3 b q d := by
      refine funext fun a : Fin 3 => Fin.ext ?_
      match a with
      | ⟨0, _⟩ => refine e0.trans ?_; rw [hp]; show _ = b.val; omega
      | ⟨1, _⟩ => exact e1
      | ⟨2, _⟩ => exact e2
    rw [← e]
    exact hm
  refine (Dat.arrAt_apply_of_mem _ 10 _ fl (cfgM m hO).N (T b) (ix3 b q d) (Fin.isLt _) hf hm).trans ?_
  exact congrFun hy (ix3 (0 : Fin 1) q d)

/-- The array of touched key scales after the launch. -/
theorem final11 {r : PUnit × MemSt nD τ sig (Elt F)}
    (h : Pipeline.RDat.FramePost ((Pipeline.pin pcfgs fun _ => adm m hO) 0) (rdatV m hO) (V m) r) (b : Fin 4) (q : Fin 2064) (d : Fin 4) :
    ∃ y, r.2.mem ((c.tc : Thread nD τ).loc main_v13_1) (ix3 b q d) = tksAt m hO c y (T b).val (T b).isLt (ix3 (0 : Fin 1) q d) := by
  obtain ⟨after, hL, hA⟩ := Pipeline.RDat.FramePost.exists_exact h c
  have e := congrFun (hA 11) (ix3 b q d)
  have hp : (T b).val = 8 * b.val + 7 := rfl
  have hf : ((cfgM m hO).win 11).flush (T b) = true := (flush0_11 _ _).mpr (by rw [hp]; omega)
  obtain ⟨y, hy⟩ := (datV m hO c).toRRel_leaves (fgt := revisited) (Rl := relV m hO c) (w := 11) rfl (hL 11 (T b) hf)
  refine ⟨y, e.trans ?_⟩
  have fl : ∀ t, ((cfgM m hO).win 11).flush t = true → ((rdatV m hO c).withAfter after).flushed 11 t
      = (((cfgM m hO).win 11).blk t).view.read (Elt F) (whole (k := 2064) (d := 4) (fun t => after 11 t) : S4x2064x4.Idx → Elt F .f32) := fun t ht => by
    funext z
    obtain ⟨h0, h1, h2⟩ := emb11 m hO t z _ rfl
    exact (whole_block (k := 2064) (d := 4) (fun t => after 11 t) t ((flush0_11 _ t).mp ht) z _ h0 h1 h2).symm
  have hm : (ix3 b q d : S4x2064x4.Idx) ∈ (((cfgM m hO).win 11).blk (T b)).view.set := by
    have hm := View.emb_mem_set (((cfgM m hO).win 11).blk (T b)).view (ix3 (0 : Fin 1) q d)
    generalize hi : (((cfgM m hO).win 11).blk (T b)).view.emb (ix3 (0 : Fin 1) q d) = i at hm
    obtain ⟨e0, e1, e2⟩ := emb11 m hO _ _ i hi
    have e : i = ix3 b q d := by
      refine funext fun a : Fin 3 => Fin.ext ?_
      match a with
      | ⟨0, _⟩ => refine e0.trans ?_; rw [hp]; show _ = b.val; omega
      | ⟨1, _⟩ => exact e1
      | ⟨2, _⟩ => exact e2
    rw [← e]
    exact hm
  refine (Dat.arrAt_apply_of_mem _ 11 _ fl (cfgM m hO).N (T b) (ix3 b q d) (Fin.isLt _) hf hm).trans ?_
  exact congrFun hy (ix3 (0 : Fin 1) q d)

/-- The array of touched value codes after the launch. -/
theorem final12 {r : PUnit × MemSt nD τ sig (Elt F)}
    (h : Pipeline.RDat.FramePost ((Pipeline.pin pcfgs fun _ => adm m hO) 0) (rdatV m hO) (V m) r) (b : Fin 4) (q : Fin 8256) (d : Fin 128) :
    ∃ y, r.2.mem ((c.tc : Thread nD τ).loc main_v13_2) (ix3 b q d) = tvAt m hO c y (T b).val (T b).isLt (ix3 (0 : Fin 1) q d) := by
  obtain ⟨after, hL, hA⟩ := Pipeline.RDat.FramePost.exists_exact h c
  have e := congrFun (hA 12) (ix3 b q d)
  have hp : (T b).val = 8 * b.val + 7 := rfl
  have hf : ((cfgM m hO).win 12).flush (T b) = true := (flush0_12 _ _).mpr (by rw [hp]; omega)
  obtain ⟨y, hy⟩ := (datV m hO c).toRRel_leaves (fgt := revisited) (Rl := relV m hO c) (w := 12) rfl (hL 12 (T b) hf)
  refine ⟨y, e.trans ?_⟩
  have fl : ∀ t, ((cfgM m hO).win 12).flush t = true → ((rdatV m hO c).withAfter after).flushed 12 t
      = (((cfgM m hO).win 12).blk t).view.read (Elt F) (whole (k := 8256) (d := 128) (fun t => after 12 t) : S4x8256x128.Idx → Elt F .i8) := fun t ht => by
    funext z
    obtain ⟨h0, h1, h2⟩ := emb12 m hO t z _ rfl
    exact (whole_block (k := 8256) (d := 128) (fun t => after 12 t) t ((flush0_12 _ t).mp ht) z _ h0 h1 h2).symm
  have hm : (ix3 b q d : S4x8256x128.Idx) ∈ (((cfgM m hO).win 12).blk (T b)).view.set := by
    have hm := View.emb_mem_set (((cfgM m hO).win 12).blk (T b)).view (ix3 (0 : Fin 1) q d)
    generalize hi : (((cfgM m hO).win 12).blk (T b)).view.emb (ix3 (0 : Fin 1) q d) = i at hm
    obtain ⟨e0, e1, e2⟩ := emb12 m hO _ _ i hi
    have e : i = ix3 b q d := by
      refine funext fun a : Fin 3 => Fin.ext ?_
      match a with
      | ⟨0, _⟩ => refine e0.trans ?_; rw [hp]; show _ = b.val; omega
      | ⟨1, _⟩ => exact e1
      | ⟨2, _⟩ => exact e2
    rw [← e]
    exact hm
  refine (Dat.arrAt_apply_of_mem _ 12 _ fl (cfgM m hO).N (T b) (ix3 b q d) (Fin.isLt _) hf hm).trans ?_
  exact congrFun hy (ix3 (0 : Fin 1) q d)

/-- The array of touched value scales after the launch. -/
theorem final13 {r : PUnit × MemSt nD τ sig (Elt F)}
    (h : Pipeline.RDat.FramePost ((Pipeline.pin pcfgs fun _ => adm m hO) 0) (rdatV m hO) (V m) r) (b : Fin 4) (q : Fin 2064) (d : Fin 4) :
    ∃ y, r.2.mem ((c.tc : Thread nD τ).loc main_v13_3) (ix3 b q d) = tvsAt m hO c y (T b).val (T b).isLt (ix3 (0 : Fin 1) q d) := by
  obtain ⟨after, hL, hA⟩ := Pipeline.RDat.FramePost.exists_exact h c
  have e := congrFun (hA 13) (ix3 b q d)
  have hp : (T b).val = 8 * b.val + 7 := rfl
  have hf : ((cfgM m hO).win 13).flush (T b) = true := (flush0_13 _ _).mpr (by rw [hp]; omega)
  obtain ⟨y, hy⟩ := (datV m hO c).toRRel_leaves (fgt := revisited) (Rl := relV m hO c) (w := 13) rfl (hL 13 (T b) hf)
  refine ⟨y, e.trans ?_⟩
  have fl : ∀ t, ((cfgM m hO).win 13).flush t = true → ((rdatV m hO c).withAfter after).flushed 13 t
      = (((cfgM m hO).win 13).blk t).view.read (Elt F) (whole (k := 2064) (d := 4) (fun t => after 13 t) : S4x2064x4.Idx → Elt F .f32) := fun t ht => by
    funext z
    obtain ⟨h0, h1, h2⟩ := emb13 m hO t z _ rfl
    exact (whole_block (k := 2064) (d := 4) (fun t => after 13 t) t ((flush0_13 _ t).mp ht) z _ h0 h1 h2).symm
  have hm : (ix3 b q d : S4x2064x4.Idx) ∈ (((cfgM m hO).win 13).blk (T b)).view.set := by
    have hm := View.emb_mem_set (((cfgM m hO).win 13).blk (T b)).view (ix3 (0 : Fin 1) q d)
    generalize hi : (((cfgM m hO).win 13).blk (T b)).view.emb (ix3 (0 : Fin 1) q d) = i at hm
    obtain ⟨e0, e1, e2⟩ := emb13 m hO _ _ i hi
    have e : i = ix3 b q d := by
      refine funext fun a : Fin 3 => Fin.ext ?_
      match a with
      | ⟨0, _⟩ => refine e0.trans ?_; rw [hp]; show _ = b.val; omega
      | ⟨1, _⟩ => exact e1
      | ⟨2, _⟩ => exact e2
    rw [← e]
    exact hm
  refine (Dat.arrAt_apply_of_mem _ 13 _ fl (cfgM m hO).N (T b) (ix3 b q d) (Fin.isLt _) hf hm).trans ?_
  exact congrFun hy (ix3 (0 : Fin 1) q d)

/-- The number of tokens a batch holds already. -/
def pastOf (b : Fin 4) : Nat := (m (((0 : Dev nD) : Thread nD τ).loc main_arg7) (ix1 b)).toNat

/-- The row of the touched pages a point's tokens begin at. -/
theorem rowAt_point (b : Fin 4) (i : Nat) (hi : i < 8) (h : 8 * b.val + i < (cfgM m hO).N) :
    rowAt m hO 0 ⟨8 * b.val + i, h⟩ = pastOf m b % 16 + 256 * i := by
  have e0 := coord0 (point b i hi)
  have e1 := coord1 (point b i hi)
  have hp : (point b i hi).val = 8 * b.val + i := rfl
  have hb : (grid0.coords (point b i hi) 0).val = b.val := by rw [e0, hp]; omega
  have hc : (grid0.coords (point b i hi) 1).val = i := by rw [e1, hp]; omega
  have hw : tblWord (F := F) (grid0.coords (point b i hi)) tbM0_1 (tbl m 1) = m (((0 : Dev nD) : Thread nD τ).loc main_arg7) (ix1 b) :=
    (tblWord_one _ b hb _).trans (congrFun (V_main_arg7 m 0) (ix1 b))
  refine (congrArg (tokenRow (grid0.coords (point b i hi))) hw).trans ?_
  unfold tokenRow
  rw [hc]
  rfl

/-- A touched row of codes that holds a new token, after a batch's last point. -/
theorem codes_new (p : Fin (cfgM m hO).N → IVec S1x1024x128 8) (e : Fin (cfgM m hO).N → IVec S1x8256x128 8 → IVec S1x8256x128 8) (y : IVec S1x8256x128 8)
    (b : Fin 4) (q : Fin 8256) (d : Fin 128) (s : Fin 8192) (hs : q.val = 4 * (pastOf m b % 16) + s.val) :
    laid overCodes (fun t => 4 * rowAt m hO 0 t) p e y (T b).val (T b).isLt (ix3 (0 : Fin 1) q d)
      = (tiled (k := 1024) (d := 128) p (by decide) : S4x8192x128.Idx → _) (ix3 b s d) := by
  have hq := s.isLt
  refine ((laid_apply overCodes (fun t => 4 * rowAt m hO 0 t) p e y (fun z => z (ix3 (0 : Fin 1) q d)) 1024 q.val (by decide)
    (fun z r => z (ix3 (0 : Fin 1) r d)) (fun _ _ _ => rfl) b.val (T b).isLt (4 * (pastOf m b % 16)) ?_ 7 (by decide)).1 ⟨by omega, by omega⟩
    (s.val / 1024) (by omega) ⟨s.val % 1024, Nat.mod_lt _ (by decide)⟩ (by show q.val = _ + s.val % 1024; omega)).trans rfl
  intro i hi
  show 4 * rowAt m hO 0 _ = _
  rw [rowAt_point m hO b i hi]
  omega

/-- A touched row of codes that holds no new token, after a batch's last point. -/
theorem codes_old (p : Fin (cfgM m hO).N → IVec S1x1024x128 8) (e : Fin (cfgM m hO).N → IVec S1x8256x128 8 → IVec S1x8256x128 8) (y : IVec S1x8256x128 8)
    (b : Fin 4) (q : Fin 8256) (d : Fin 128) (hs : ¬ (4 * (pastOf m b % 16) ≤ q.val ∧ q.val < 4 * (pastOf m b % 16) + 8192)) :
    laid overCodes (fun t => 4 * rowAt m hO 0 t) p e y (T b).val (T b).isLt (ix3 (0 : Fin 1) q d) = e (point b 0 (by decide)) y (ix3 (0 : Fin 1) q d) := by
  refine ((laid_apply overCodes (fun t => 4 * rowAt m hO 0 t) p e y (fun z => z (ix3 (0 : Fin 1) q d)) 1024 q.val (by decide)
    (fun z r => z (ix3 (0 : Fin 1) r d)) (fun _ _ _ => rfl) b.val (T b).isLt (4 * (pastOf m b % 16)) ?_ 7 (by decide)).2 hs).trans rfl
  intro i hi
  show 4 * rowAt m hO 0 _ = _
  rw [rowAt_point m hO b i hi]
  omega

/-- A touched row of scales that holds a new token, after a batch's last point. -/
theorem scales_new (p : Fin (cfgM m hO).N → FVec F S1x256x4 .f32) (e : Fin (cfgM m hO).N → FVec F S1x2064x4 .f32 → FVec F S1x2064x4 .f32) (y : FVec F S1x2064x4 .f32)
    (b : Fin 4) (q : Fin 2064) (d : Fin 4) (s : Fin 2048) (hs : q.val = pastOf m b % 16 + s.val) :
    laid overScales (rowAt m hO 0) p e y (T b).val (T b).isLt (ix3 (0 : Fin 1) q d)
      = (tiled (k := 256) (d := 4) p (by decide) : S4x2048x4.Idx → _) (ix3 b s d) := by
  have hq := s.isLt
  refine ((laid_apply overScales (rowAt m hO 0) p e y (fun z => z (ix3 (0 : Fin 1) q d)) 256 q.val (by decide)
    (fun z r => z (ix3 (0 : Fin 1) r d)) (fun _ _ _ => rfl) b.val (T b).isLt (pastOf m b % 16) ?_ 7 (by decide)).1 ⟨by omega, by omega⟩
    (s.val / 256) (by omega) ⟨s.val % 256, Nat.mod_lt _ (by decide)⟩ (by show q.val = _ + s.val % 256; omega)).trans rfl
  intro i hi
  exact rowAt_point m hO b i hi _

/-- A touched row of scales that holds no new token, after a batch's last point. -/
theorem scales_old (p : Fin (cfgM m hO).N → FVec F S1x256x4 .f32) (e : Fin (cfgM m hO).N → FVec F S1x2064x4 .f32 → FVec F S1x2064x4 .f32) (y : FVec F S1x2064x4 .f32)
    (b : Fin 4) (q : Fin 2064) (d : Fin 4) (hs : ¬ (pastOf m b % 16 ≤ q.val ∧ q.val < pastOf m b % 16 + 2048)) :
    laid overScales (rowAt m hO 0) p e y (T b).val (T b).isLt (ix3 (0 : Fin 1) q d) = e (point b 0 (by decide)) y (ix3 (0 : Fin 1) q d) := by
  refine ((laid_apply overScales (rowAt m hO 0) p e y (fun z => z (ix3 (0 : Fin 1) q d)) 256 q.val (by decide)
    (fun z r => z (ix3 (0 : Fin 1) r d)) (fun _ _ _ => rfl) b.val (T b).isLt (pastOf m b % 16) ?_ 7 (by decide)).2 hs).trans rfl
  intro i hi
  exact rowAt_point m hO b i hi _

end Cert.KernelIdeal.Hand

end
-- ==== Proof.ReferenceIdeal.Gathers.lean ====
/- The reference's lookups, read at an index: the page table, the pools and the new tokens by number. -/
module

public import proofs.«01_k».proof.Proof.ReferenceIdeal.Rotary

@[expose] public section

set_option maxRecDepth 16384

noncomputable section

namespace Cert.ReferenceIdeal.Hand

open Cert.ReferenceIdeal Cert.ReferenceIdeal.Gen Cert.ReferenceIdeal.Read
open Idealize.ShloMosaic

/-- A page-table lookup within each request: the entry at the column the index names. -/
theorem table_gather (x : IVec S4x513 32) (idx : IVec S4x129x1 32) (b : Fin 4) (p : Fin 129) (k : Fin 513)
    (h : (idx (ix3 b p (0 : Fin 1))).toNat = k.val) :
    Host.gather gather_S4x513_S4x129x1_S4x129_n_1_0_0_1_2_11 x idx (ix2 b p) = x (ix2 b k) := by
  refine congrArg x ?_
  have hk : min (idx (ix3 b p (0 : Fin 1))).toInt.toNat (513 - 1) = k.val := by
    rw [BitVec.toInt_eq_toNat_of_lt (by omega), h]
    omega
  funext a
  match a with
  | ⟨0, _⟩ =>
    refine Fin.ext ?_
    show GatherDims.start _ (ix2 b p) idx 0 + GatherDims.batchCoord gather_S4x513_S4x129x1_S4x129_n_1_0_0_1_2_11 (ix2 b p) 0 + GatherDims.offCoord gather_S4x513_S4x129x1_S4x129_n_1_0_0_1_2_11 (ix2 b p) 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    refine Fin.ext (Eq.trans ?_ hk)
    show min (idx _).toInt.toNat (513 - 1) + 0 + 0 = _
    refine congrArg (fun s => min (idx s).toInt.toNat (513 - 1)) (?_ : _ = ix3 b p (0 : Fin 1))
    funext a
    match a with
    | ⟨0, _⟩ => rfl
    | ⟨1, _⟩ => rfl
    | ⟨2, _⟩ => rfl

/-- Pages of codes taken from the pool by number. -/
theorem pool_gather {α : Type} (x : S2565x16x4x128.Idx → α) (idx : IVec S4x129x1 32) (b : Fin 4) (p : Fin 129) (r : Fin 16) (h : Fin 4) (d : Fin 128)
    (k : Fin 2565) (hi : (idx (ix3 b p (0 : Fin 1))).toNat = k.val) :
    Host.gather gather_S2565x16x4x128_S4x129x1_S4x129x16x4x128_234_0_n_n_0_2_1164128 x idx (ix5 b p r h d) = x (ix4 k r h d) := by
  refine congrArg x ?_
  have hk : min (idx (ix3 b p (0 : Fin 1))).toInt.toNat (2565 - 1) = k.val := by
    rw [BitVec.toInt_eq_toNat_of_lt (by omega), hi]
    omega
  funext a
  match a with
  | ⟨0, _⟩ =>
    refine Fin.ext (Eq.trans ?_ hk)
    show min (idx _).toInt.toNat (2565 - 1) + 0 + 0 = _
    refine congrArg (fun s => min (idx s).toInt.toNat (2565 - 1)) (?_ : _ = ix3 b p (0 : Fin 1))
    funext a
    match a with
    | ⟨0, _⟩ => rfl
    | ⟨1, _⟩ => rfl
    | ⟨2, _⟩ => rfl
  | ⟨1, _⟩ => exact Fin.ext (show 0 + 0 + r.val = r.val by omega)
  | ⟨2, _⟩ => exact Fin.ext (show 0 + 0 + h.val = h.val by omega)
  | ⟨3, _⟩ => exact Fin.ext (show 0 + 0 + d.val = d.val by omega)

/-- Pages of scales taken from the pool by number. -/
theorem scale_pool_gather {α : Type} (x : S2565x16x4.Idx → α) (idx : IVec S4x129x1 32) (b : Fin 4) (p : Fin 129) (r : Fin 16) (h : Fin 4)
    (k : Fin 2565) (hi : (idx (ix3 b p (0 : Fin 1))).toNat = k.val) :
    Host.gather gather_S2565x16x4_S4x129x1_S4x129x16x4_23_0_n_n_0_2_1164 x idx (ix4 b p r h) = x (ix3 k r h) := by
  refine congrArg x ?_
  have hk : min (idx (ix3 b p (0 : Fin 1))).toInt.toNat (2565 - 1) = k.val := by
    rw [BitVec.toInt_eq_toNat_of_lt (by omega), hi]
    omega
  funext a
  match a with
  | ⟨0, _⟩ =>
    refine Fin.ext (Eq.trans ?_ hk)
    show min (idx _).toInt.toNat (2565 - 1) + 0 + 0 = _
    refine congrArg (fun s => min (idx s).toInt.toNat (2565 - 1)) (?_ : _ = ix3 b p (0 : Fin 1))
    funext a
    match a with
    | ⟨0, _⟩ => rfl
    | ⟨1, _⟩ => rfl
    | ⟨2, _⟩ => rfl
  | ⟨1, _⟩ => exact Fin.ext (show 0 + 0 + r.val = r.val by omega)
  | ⟨2, _⟩ => exact Fin.ext (show 0 + 0 + h.val = h.val by omega)

/-- Codes of new tokens taken within each request by token number. -/
theorem token_gather {α : Type} (x : S4x2048x4x128.Idx → α) (idx : IVec S4x2064x1 32) (b : Fin 4) (j : Fin 2064) (h : Fin 4) (d : Fin 128)
    (k : Fin 2048) (hi : (idx (ix3 b j (0 : Fin 1))).toNat = k.val) :
    Host.gather gather_S4x2048x4x128_S4x2064x1_S4x2064x4x128_23_1_0_0_1_2_114128 x idx (ix4 b j h d) = x (ix4 b k h d) := by
  refine congrArg x ?_
  have hk : min (idx (ix3 b j (0 : Fin 1))).toInt.toNat (2048 - 1) = k.val := by
    rw [BitVec.toInt_eq_toNat_of_lt (by omega), hi]
    omega
  funext a
  match a with
  | ⟨0, _⟩ =>
    refine Fin.ext ?_
    show GatherDims.start _ (ix4 b j h d) idx 0 + GatherDims.batchCoord gather_S4x2048x4x128_S4x2064x1_S4x2064x4x128_23_1_0_0_1_2_114128 (ix4 b j h d) 0 + GatherDims.offCoord gather_S4x2048x4x128_S4x2064x1_S4x2064x4x128_23_1_0_0_1_2_114128 (ix4 b j h d) 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    refine Fin.ext (Eq.trans ?_ hk)
    show min (idx _).toInt.toNat (2048 - 1) + 0 + 0 = _
    refine congrArg (fun s => min (idx s).toInt.toNat (2048 - 1)) (?_ : _ = ix3 b j (0 : Fin 1))
    funext a
    match a with
    | ⟨0, _⟩ => rfl
    | ⟨1, _⟩ => rfl
    | ⟨2, _⟩ => rfl
  | ⟨2, _⟩ => exact Fin.ext (show 0 + 0 + h.val = h.val by omega)
  | ⟨3, _⟩ => exact Fin.ext (show 0 + 0 + d.val = d.val by omega)

/-- Scales of new tokens taken within each request by token number. -/
theorem token_scale_gather {α : Type} (x : S4x2048x4.Idx → α) (idx : IVec S4x2064x1 32) (b : Fin 4) (j : Fin 2064) (h : Fin 4)
    (k : Fin 2048) (hi : (idx (ix3 b j (0 : Fin 1))).toNat = k.val) :
    Host.gather gather_S4x2048x4_S4x2064x1_S4x2064x4_2_1_0_0_1_2_114 x idx (ix3 b j h) = x (ix3 b k h) := by
  refine congrArg x ?_
  have hk : min (idx (ix3 b j (0 : Fin 1))).toInt.toNat (2048 - 1) = k.val := by
    rw [BitVec.toInt_eq_toNat_of_lt (by omega), hi]
    omega
  funext a
  match a with
  | ⟨0, _⟩ =>
    refine Fin.ext ?_
    show GatherDims.start _ (ix3 b j h) idx 0 + GatherDims.batchCoord gather_S4x2048x4_S4x2064x1_S4x2064x4_2_1_0_0_1_2_114 (ix3 b j h) 0 + GatherDims.offCoord gather_S4x2048x4_S4x2064x1_S4x2064x4_2_1_0_0_1_2_114 (ix3 b j h) 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    refine Fin.ext (Eq.trans ?_ hk)
    show min (idx _).toInt.toNat (2048 - 1) + 0 + 0 = _
    refine congrArg (fun s => min (idx s).toInt.toNat (2048 - 1)) (?_ : _ = ix3 b j (0 : Fin 1))
    funext a
    match a with
    | ⟨0, _⟩ => rfl
    | ⟨1, _⟩ => rfl
    | ⟨2, _⟩ => rfl
  | ⟨2, _⟩ => exact Fin.ext (show 0 + 0 + h.val = h.val by omega)

end Cert.ReferenceIdeal.Hand

end
-- ==== Proof.ReferenceIdeal.Words.lean ====
/- The reference's words: the first touched page, the offset in it, the touched pages, the mask of new rows and the token
   each new row takes. -/
module

public import proofs.«01_k».proof.Proof.ReferenceIdeal.Gathers

@[expose] public section

set_option maxRecDepth 16384

noncomputable section

namespace Cert.ReferenceIdeal.Hand

open Cert.ReferenceIdeal Cert.ReferenceIdeal.Gen Cert.ReferenceIdeal.Read
open Idealize.ShloMosaic

variable (x6 : IVec S4x513 32) (x7 : IVec S4 32)

/-- A number below 8192 as a word has that value. -/
theorem toNat_word (n : Nat) (hn : n < 8192) : (BitVec.ofNat 32 n).toNat = n := by
  rw [BitVec.toNat_ofNat]
  omega

/-- And so it does read signed. -/
theorem toInt_word (n : Nat) (hn : n < 8192) : (BitVec.ofNat 32 n).toInt = n := by
  rw [BitVec.toInt_eq_toNat_of_lt (by rw [toNat_word n hn]; omega), toNat_word n hn]

/-- A word is the word of its value. -/
theorem word_toNat (w : BitVec 32) : BitVec.ofNat 32 w.toNat = w := by
  simp only [BitVec.ofNat_toNat, BitVec.setWidth_eq]

theorem sign_past (i : S4.Idx) : val_main_call6_v3 (F := Ideal) x7 i = if x7 i = 0 then 0 else if (x7 i).msb then -1 else 1 := rfl

theorem sign_page (i : S_.Idx) : val_main_call6_v4 (F := Ideal) i = 1#32 := by
  show (if (16#32 : BitVec 32) = 0 then (0 : BitVec 32) else if (16#32 : BitVec 32).msb then -1 else 1) = 1#32
  decide

/-- Floor division by the page size, on the words a valid request can hold. -/
theorem floor_words : ∀ n : Fin 6145,
    Scalar.select
      (IntOp.andi (IntOp.cmpi .ne (if BitVec.ofNat 32 n.val = 0 then (0 : BitVec 32) else if (BitVec.ofNat 32 n.val).msb then -1 else 1) 1#32)
        (IntOp.cmpi .ne (IntOp.remsi .host (BitVec.ofNat 32 n.val) 16#32) 0#32))
      (IntOp.subi (IntOp.divsi .host (BitVec.ofNat 32 n.val) 16#32) 1#32)
      (IntOp.divsi .host (BitVec.ofNat 32 n.val) 16#32) = BitVec.ofNat 32 (n.val / 16) := by
  decide +kernel

/-- The remainder by the page size, on the words a valid request can hold. -/
theorem rem_words : ∀ n : Fin 6145,
    Scalar.select
      (IntOp.andi
        (IntOp.cmpi .ne
          (IntOp.cmpi .slt (IntOp.remsi .host (BitVec.ofNat 32 n.val) (Scalar.select (IntOp.cmpi .eq 16#32 0#32) 1#32 16#32)) 0#32)
          (IntOp.cmpi .slt (Scalar.select (IntOp.cmpi .eq 16#32 0#32) 1#32 16#32) 0#32))
        (IntOp.cmpi .ne (IntOp.remsi .host (BitVec.ofNat 32 n.val) (Scalar.select (IntOp.cmpi .eq 16#32 0#32) 1#32 16#32)) 0#32))
      (IntOp.addi (IntOp.remsi .host (BitVec.ofNat 32 n.val) (Scalar.select (IntOp.cmpi .eq 16#32 0#32) 1#32 16#32))
        (Scalar.select (IntOp.cmpi .eq 16#32 0#32) 1#32 16#32))
      (IntOp.remsi .host (BitVec.ofNat 32 n.val) (Scalar.select (IntOp.cmpi .eq 16#32 0#32) 1#32 16#32)) = BitVec.ofNat 32 (n.val % 16) := by
  decide +kernel

/-- The first touched page's place in the page table. -/
theorem v66_word (b : Fin 4) (hn : (x7 (ix1 b)).toNat < 6145) :
    val_main_v66 (F := Ideal) x7 (ix1 b) = BitVec.ofNat 32 ((x7 (ix1 b)).toNat / 16) := by
  have e := (word_toNat (x7 (ix1 b))).symm
  simp only [val_main_v66_apply, val_main_call6_v11_apply, val_main_call6_v13_apply, val_main_call6_v2_apply, val_main_call6_v6_apply, val_main_call6_v10_apply,
    val_main_call6_v8_apply, val_main_call6_v9_apply, val_main_call6_v7_apply, val_main_call6_v5_apply, val_main_call6_v1_apply, val_main_call6_v0_apply, val_main_call6_v12_apply,
    val_main_call6_c_apply, val_main_call6_c_0_apply, val_main_c_apply, sign_past, sign_page]
  generalize x7 (ix1 b) = w at hn e ⊢
  rw [e]
  exact (floor_words ⟨w.toNat, hn⟩).trans (by rw [toNat_word _ (by omega)])

/-- The offset of the first new token in the first touched page. -/
theorem v67_word (b : Fin 4) (hn : (x7 (ix1 b)).toNat < 6145) :
    val_main_v67 (F := Ideal) x7 (ix1 b) = BitVec.ofNat 32 ((x7 (ix1 b)).toNat % 16) := by
  have e := (word_toNat (x7 (ix1 b))).symm
  simp only [val_main_v67_apply, val_main_call7_v14_apply, val_main_call7_v13_apply, val_main_call7_v12_apply, val_main_call7_v11_apply, val_main_call7_v10_apply, val_main_call7_v9_apply,
    val_main_call7_v8_apply, val_main_call7_v7_apply, val_main_call7_v6_apply, val_main_call7_v5_apply, val_main_call7_v4_apply, val_main_call7_v3_apply, val_main_call7_v2_apply,
    val_main_call7_v1_apply, val_main_call7_v0_apply, val_main_call7_c_apply, val_main_call7_c_0_apply, val_main_call7_c_1_apply, val_main_call7_c_2_apply, val_main_call7_c_3_apply,
    val_main_c_14_apply]
  generalize x7 (ix1 b) = w at hn e ⊢
  rw [e]
  exact (rem_words ⟨w.toNat, hn⟩).trans (by rw [toNat_word _ (by omega)])

/-- A touched page's place in the page table: the first one's plus its number. -/
theorem v73_word (b : Fin 4) (p : Fin 129) (hn : (x7 (ix1 b)).toNat < 6145) :
    val_main_v73 (F := Ideal) x7 (ix2 b p) = BitVec.ofNat 32 ((x7 (ix1 b)).toNat / 16 + p.val) := by
  have e : val_main_v71 (F := Ideal) x7 (ix2 b p) = BitVec.ofNat 32 ((x7 (ix1 b)).toNat / 16) := by
    rw [val_main_v71_apply, val_main_v68_apply]
    refine Eq.trans (congrArg (val_main_v66 (F := Ideal) x7) ?_) (v66_word x7 b hn)
    funext a
    match a with
    | ⟨0, _⟩ => rfl
  rw [val_main_v73_apply, e, val_main_v72_apply, val_main_v70_apply, val_main_v69_apply]
  exact (BitVec.ofNat_add _ _).symm

/-- Wrapping a small index about a table's length leaves it alone. -/
theorem wrap_word (n : Nat) (hn : n < 8192) (c : BitVec 32) :
    Scalar.select (IntOp.cmpi .slt (BitVec.ofNat 32 n) 0#32) (IntOp.addi (BitVec.ofNat 32 n) c) (BitVec.ofNat 32 n) = BitVec.ofNat 32 n := by
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt, toInt_word _ (by omega)]
      exact decide_eq_false (by show ¬ ((n : Int) < 0); omega)
    rw [this]
    rfl
  rw [h]
  rfl

/-- A touched page's number: the page table's entry at the first touched place plus the page's number. -/
theorem v74_word (b : Fin 4) (p : Fin 129) (hn : (x7 (ix1 b)).toNat < 6145) :
    val_main_v74 (F := Ideal) x6 x7 (ix2 b p) = x6 (ix2 b (⟨(x7 (ix1 b)).toNat / 16 + p.val, by have := p.isLt; omega⟩ : Fin 513)) := by
  unfold val_main_v74
  refine table_gather x6 _ b p _ ?_
  have hp := p.isLt
  have hb := b.isLt
  have e : idx_main_call8_v5 (ix3 b p (0 : Fin 1)) = ix2 b p := by
    funext a
    match a with
    | ⟨0, _⟩ => exact Fin.ext (by show ((b.val * 129 + p.val) * 1 + 0) / 129 = b.val; omega)
    | ⟨1, _⟩ => exact Fin.ext (by show ((b.val * 129 + p.val) * 1 + 0) % 129 = p.val; omega)
  rw [val_main_call8_v5_apply, e, val_main_call8_v4_apply, val_main_call8_v1_apply, val_main_call8_v3_apply, val_main_call8_v0_apply, val_main_call8_v2_apply,
    val_main_call8_c_apply, val_main_call8_c_0_apply, v73_word x7 b p hn, wrap_word _ (by omega), toNat_word _ (by omega)]

/-- The page numbers the pools are read at. -/
theorem v93_word (b : Fin 4) (p : Fin 129) (hn : (x7 (ix1 b)).toNat < 6145) (hp : ∀ j, (x6 j).toNat < 2565) :
    val_main_v93 (F := Ideal) x6 x7 (ix3 b p (0 : Fin 1)) = x6 (ix2 b (⟨(x7 (ix1 b)).toNat / 16 + p.val, by have := p.isLt; omega⟩ : Fin 513)) := by
  have e : idx_main_v93 (ix3 b p (0 : Fin 1)) = ix2 b p := by
    funext a
    match a with
    | ⟨0, _⟩ => rfl
    | ⟨1, _⟩ => rfl
  rw [val_main_v93_apply, e, val_main_v92_apply, val_main_v89_apply, val_main_v91_apply, val_main_v88_apply, val_main_v90_apply,
    val_main_c_16_apply, val_main_c_17_apply, v74_word x6 x7 b p hn]
  have h := hp (ix2 b (⟨(x7 (ix1 b)).toNat / 16 + p.val, by have := p.isLt; omega⟩ : Fin 513))
  generalize x6 _ = w at h ⊢
  rw [← word_toNat w]
  exact wrap_word _ (by omega) _

/-- Whether a touched token is a new one. -/
theorem v87_bit (b : Fin 4) (j : Fin 2064) (hn : (x7 (ix1 b)).toNat < 6145) :
    val_main_v87 (F := Ideal) x7 (ix2 b j)
      = BitVec.ofBool (decide ((x7 (ix1 b)).toNat % 16 ≤ j.val ∧ j.val < (x7 (ix1 b)).toNat % 16 + 2048)) := by
  have hj := j.isLt
  have e : ∀ a : S4.Idx, a = ix1 b → val_main_v67 (F := Ideal) x7 a = BitVec.ofNat 32 ((x7 (ix1 b)).toNat % 16) := by
    rintro _ rfl
    exact v67_word x7 b hn
  have e1 : idx_main_v77 (idx_main_v79 (ix2 b j)) = ix1 b := by
    funext a
    match a with
    | ⟨0, _⟩ => rfl
  rw [val_main_v87_apply, val_main_v80_apply, val_main_v86_apply, val_main_v78_apply, val_main_v79_apply, val_main_v84_apply, val_main_v85_apply, val_main_v76_apply,
    val_main_v77_apply, val_main_v83_apply, val_main_v81_apply, val_main_v82_apply, val_main_c_15_apply, val_main_v75_apply, e _ e1]
  show BitVec.ofBool (BitVec.sle (BitVec.ofNat 32 ((x7 (ix1 b)).toNat % 16)) (BitVec.ofNat 32 j.val))
      &&& BitVec.ofBool (BitVec.slt (BitVec.ofNat 32 j.val) (BitVec.ofNat 32 ((x7 (ix1 b)).toNat % 16) + BitVec.ofNat 32 2048)) = _
  rw [← BitVec.ofNat_add, BitVec.sle, BitVec.slt, toInt_word _ (by omega), toInt_word _ (by omega),
    toInt_word _ (by omega)]
  rcases Nat.lt_or_ge j.val ((x7 (ix1 b)).toNat % 16) with h | h
  · rw [decide_eq_false (show ¬ (((x7 (ix1 b)).toNat % 16 : Nat) : Int) ≤ (j.val : Int) by omega), decide_eq_false (show ¬ ((x7 (ix1 b)).toNat % 16 ≤ j.val ∧ _) by omega)]
    simp
  · rw [decide_eq_true (show (((x7 (ix1 b)).toNat % 16 : Nat) : Int) ≤ (j.val : Int) by omega)]
    rcases Nat.lt_or_ge j.val ((x7 (ix1 b)).toNat % 16 + 2048) with h' | h'
    · rw [decide_eq_true (show ((j.val : Nat) : Int) < (((x7 (ix1 b)).toNat % 16 + 2048 : Nat) : Int) by omega), decide_eq_true ⟨h, h'⟩]
      rfl
    · rw [decide_eq_false (show ¬ ((j.val : Nat) : Int) < (((x7 (ix1 b)).toNat % 16 + 2048 : Nat) : Int) by omega), decide_eq_false (by omega)]
      rfl

/-- The new token a touched token holds, where it is a new one. -/
theorem v102_word (b : Fin 4) (j : Fin 2064) (hn : (x7 (ix1 b)).toNat < 6145)
    (h : (x7 (ix1 b)).toNat % 16 ≤ j.val ∧ j.val < (x7 (ix1 b)).toNat % 16 + 2048) :
    val_main_v102 (F := Ideal) x7 (ix2 b j) = BitVec.ofNat 32 (j.val - (x7 (ix1 b)).toNat % 16) := by
  have hj := j.isLt
  have e : ∀ a : S4.Idx, a = ix1 b → val_main_v67 (F := Ideal) x7 a = BitVec.ofNat 32 ((x7 (ix1 b)).toNat % 16) := by
    rintro _ rfl
    exact v67_word x7 b hn
  have e1 : idx_main_v98 (idx_main_v100 (ix2 b j)) = ix1 b := by
    funext a
    match a with
    | ⟨0, _⟩ => rfl
  rw [val_main_v102_apply, val_main_call9_v4_apply, val_main_call9_v2_apply, val_main_call9_v1_apply, val_main_call9_v3_apply, val_main_call9_v0_apply, val_main_c_18_apply, val_main_c_19_apply,
    val_main_v101_apply, val_main_v99_apply, val_main_v97_apply, val_main_v96_apply, val_main_v100_apply, val_main_v98_apply, e _ e1]
  have s : IntOp.subi (BitVec.ofNat 32 j.val) (BitVec.ofNat 32 ((x7 (ix1 b)).toNat % 16)) = BitVec.ofNat 32 (j.val - (x7 (ix1 b)).toNat % 16) := by
    show BitVec.ofNat 32 j.val - BitVec.ofNat 32 ((x7 (ix1 b)).toNat % 16) = _
    apply BitVec.eq_of_toNat_eq
    rw [BitVec.toNat_sub, toNat_word _ (by omega), toNat_word _ (by omega), toNat_word _ (by omega)]
    omega
  refine (congrArg (fun w => IntOp.minsi 2047#32 (IntOp.maxsi 0#32 w)) s).trans ?_
  generalize hk : j.val - (x7 (ix1 b)).toNat % 16 = k
  have hk' : k < 2048 := by omega
  have h1 : IntOp.maxsi 0#32 (BitVec.ofNat 32 k) = BitVec.ofNat 32 k := by
    unfold IntOp.maxsi
    rw [BitVec.slt, toInt_word k (by omega), decide_eq_false (show ¬ ((k : Int) < (0#32 : BitVec 32).toInt) by show ¬ ((k : Int) < 0); omega)]
    rfl
  rw [h1]
  unfold IntOp.minsi
  rw [show (2047#32 : BitVec 32) = BitVec.ofNat 32 2047 from rfl, BitVec.slt, toInt_word k (by omega), toInt_word 2047 (by omega)]
  rw [decide_eq_false (show ¬ (((2047 : Nat) : Int) < (k : Int)) by omega)]
  rfl

end Cert.ReferenceIdeal.Hand

end
-- ==== Proof.KernelIdeal.Ends.lean ====
/- The first and last touched pages a batch's points read: the pages of the pools that the page table names. -/
module

public import proofs.«01_k».proof.Proof.KernelIdeal.NewKeys
public import proofs.«01_k».proof.Proof.ReferenceIdeal.Words

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.Pipeline (Dat RDat Cfg Window)

/-- The places in the page table of a request's first and last touched pages, side by side. -/
def ends (p : IVec S4 32) : IVec S4x2 32 :=
  concatenate S4x2 1 [⟨S4x1, broadcastInDim S4x1 ![0] bcast_S4_S4x1_0 p⟩,
    ⟨S4x1, broadcastInDim S4x1 ![0] bcast_S4_S4x1_0 (subi (addi p (broadcastInDim S4 ![] bcast_S_S4 (constantI S_ 32 129#32))) (broadcastInDim S4 ![] bcast_S_S4 (constantI S_ 32 1#32)))⟩]
    concatenates_S4x1_S4x1_S4x2_d1

/-- Negative places counted from the table's end. -/
def wrapped (e : IVec S4x2 32) : IVec S4x2x1 32 :=
  shapeCast S4x2x1 (select (cmpi .slt e (broadcastInDim S4x2 ![] bcast_S_S4x2 (constantI S_ 32 0#32))) (addi e (broadcastInDim S4x2 ![] bcast_S_S4x2 (constantI S_ 32 513#32))) e)
    shapeCasts_S4x2_S4x2x1

variable (m : (ℓ : Loc nD τ sig) → Buf (Elt Ideal) ℓ) (hO : Ok m)

/-- The launch's first touched page is the reference's. -/
theorem first_eq : V m (0 : Dev nD) main_v2 = Cert.ReferenceIdeal.Read.val_main_v66 (F := Ideal) (m (((0 : Dev nD) : Thread nD τ).loc main_arg7)) := by
  unfold_abbrev_sides
  after_reads_simp
  rfl

/-- The places the launch looks up. -/
theorem places_eq : V m (0 : Dev nD) main_v9 = ends (V m (0 : Dev nD) main_v2) := by
  unfold ends
  unfold_abbrev_sides
  after_reads_simp
  rfl

/-- The table of end pages. -/
theorem end_pages_eq : V m (0 : Dev nD) main_v10
    = Host.gather gather_S4x513_S4x2x1_S4x2_n_1_0_0_1_2_11 (m (((0 : Dev nD) : Thread nD τ).loc main_arg6)) (wrapped (V m (0 : Dev nD) main_v9)) := by
  unfold wrapped
  unfold_abbrev_sides
  after_reads_simp
  rfl

/-- A lookup of end pages within each request: the entry at the column the index names. -/
theorem ends_gather (x : IVec S4x513 32) (idx : IVec S4x2x1 32) (b : Fin 4) (p : Fin 2) (k : Fin 513)
    (h : (idx (ix3 b p (0 : Fin 1))).toNat = k.val) :
    Host.gather gather_S4x513_S4x2x1_S4x2_n_1_0_0_1_2_11 x idx (ix2 b p) = x (ix2 b k) := by
  refine congrArg x ?_
  have hk : min (idx (ix3 b p (0 : Fin 1))).toInt.toNat (513 - 1) = k.val := by
    rw [BitVec.toInt_eq_toNat_of_lt (by omega), h]
    omega
  funext a
  match a with
  | ⟨0, _⟩ =>
    refine Fin.ext ?_
    show GatherDims.start _ (ix2 b p) idx 0 + GatherDims.batchCoord gather_S4x513_S4x2x1_S4x2_n_1_0_0_1_2_11 (ix2 b p) 0 + GatherDims.offCoord gather_S4x513_S4x2x1_S4x2_n_1_0_0_1_2_11 (ix2 b p) 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    refine Fin.ext (Eq.trans ?_ hk)
    show min (idx _).toInt.toNat (513 - 1) + 0 + 0 = _
    refine congrArg (fun s => min (idx s).toInt.toNat (513 - 1)) (?_ : _ = ix3 b p (0 : Fin 1))
    funext a
    match a with
    | ⟨0, _⟩ => rfl
    | ⟨1, _⟩ => rfl
    | ⟨2, _⟩ => rfl

/-- The places side by side, read. -/
theorem ends_apply (p : IVec S4 32) (b : Fin 4) (i : Fin 2) (n : Nat) (h : p (ix1 b) = BitVec.ofNat 32 n) :
    ends p (ix2 b i) = BitVec.ofNat 32 (n + 128 * i.val) := by
  unfold ends
  have h1 : broadcastInDim S4x1 ![0] bcast_S4_S4x1_0 p (ix2 b (0 : Fin 1)) = BitVec.ofNat 32 n := by
    rw [← h]
    pointwise
  have h2 : broadcastInDim S4x1 ![0] bcast_S4_S4x1_0 (subi (addi p (broadcastInDim S4 ![] bcast_S_S4 (constantI S_ 32 129#32))) (broadcastInDim S4 ![] bcast_S_S4 (constantI S_ 32 1#32)))
      (ix2 b (0 : Fin 1)) = BitVec.ofNat 32 (n + 128) := by
    have e : (p (ix1 b) + 129#32) - 1#32 = BitVec.ofNat 32 (n + 128) := by
      rw [h, BitVec.sub_eq_add_neg, BitVec.add_assoc, BitVec.ofNat_add]
      rfl
    rw [← e]
    pointwise
    rfl
  generalize broadcastInDim S4x1 ![0] bcast_S4_S4x1_0 p = x1 at h1 ⊢
  generalize broadcastInDim S4x1 ![0] bcast_S4_S4x1_0 (subi (addi p (broadcastInDim S4 ![] bcast_S_S4 (constantI S_ 32 129#32))) (broadcastInDim S4 ![] bcast_S_S4 (constantI S_ 32 1#32))) = x2 at h2 ⊢
  match i with
  | ⟨0, _⟩ =>
    refine Eq.trans ?_ h1
    pointwise
  | ⟨1, _⟩ =>
    refine Eq.trans ?_ h2
    pointwise

/-- A small place is left alone. -/
theorem wrapped_apply (e : IVec S4x2 32) (b : Fin 4) (i : Fin 2) (n : Nat) (hn : n < 8192) (h : e (ix2 b i) = BitVec.ofNat 32 n) :
    wrapped e (ix3 b i (0 : Fin 1)) = BitVec.ofNat 32 n := by
  refine (shapeCast_apply _ _ (ix3 b i (0 : Fin 1)) (ix2 b i) ?_).trans ?_
  · rw [Shape.rowMajor_val_two, Shape.rowMajor_val_three]
    show b.val * 2 + i.val = (b.val * 2 + i.val) * 1 + 0
    omega
  · show Scalar.select (IntOp.cmpi .slt (e (ix2 b i)) 0#32) (IntOp.addi (e (ix2 b i)) 513#32) (e (ix2 b i)) = _
    rw [h]
    exact Cert.ReferenceIdeal.Hand.wrap_word n hn _

/-- An entry of the table of end pages is the page table's at the first touched place, or 128 on. -/
theorem end_page (b : Fin 4) (i : Fin 2) (hn : (m (((0 : Dev nD) : Thread nD τ).loc main_arg7) (ix1 b)).toNat < 6145) :
    tbl m 0 (ix2 b i) = m (((0 : Dev nD) : Thread nD τ).loc main_arg6)
      (ix2 b (⟨(m (((0 : Dev nD) : Thread nD τ).loc main_arg7) (ix1 b)).toNat / 16 + 128 * i.val, by have := i.isLt; omega⟩ : Fin 513)) := by
  have hi := i.isLt
  refine (congrFun (end_pages_eq m) (ix2 b i)).trans (ends_gather _ _ b i _ ?_)
  rw [places_eq, first_eq, wrapped_apply _ b i _ (by omega) (ends_apply _ b i _ (Cert.ReferenceIdeal.Hand.v66_word _ b hn)), Cert.ReferenceIdeal.Hand.toNat_word _ (by omega)]

/-- The page a point's first page block is read from. -/
theorem page_first (i : grid0.Coords) (b : Fin 4) (hb : (i 0).val = b.val) :
    cc0_transform_2 k0_off1_inb numel1_S1x1 (tbl m) i 0 = (tbl m 0 (ix2 b (0 : Fin 2))).toNat := by
  refine congrArg (fun j => (tbl m 0 j).toNat) (?_ : _ = ix2 b (0 : Fin 2))
  funext a
  match a with
  | ⟨0, _⟩ =>
    refine Fin.ext (Eq.trans ?_ (off3_at i b hb 0))
    show k0_off3 i 0 + _ = k0_off3 i 0
    exact Nat.add_zero _
  | ⟨1, _⟩ => rfl

/-- The page a point's last page block is read from. -/
theorem page_last (i : grid0.Coords) (b : Fin 4) (hb : (i 0).val = b.val) :
    cc0_transform_3 k0_off2_inb numel1_S1x1 (tbl m) i 0 = (tbl m 0 (ix2 b (1 : Fin 2))).toNat := by
  refine congrArg (fun j => (tbl m 0 j).toNat) (?_ : _ = ix2 b (1 : Fin 2))
  funext a
  match a with
  | ⟨0, _⟩ =>
    refine Fin.ext (Eq.trans ?_ (off3_at i b hb 0))
    show k0_off3 i 0 + _ = k0_off3 i 0
    exact Nat.add_zero _
  | ⟨1, _⟩ => rfl

/-- A batch's first point is of that batch. -/
theorem first_batch (b : Fin 4) : (grid0.coords (point b 0 (by decide)) 0).val = b.val :=
  (coord0 _).trans (by show (8 * b.val + 0) / 8 = b.val; omega)

/-- The pool of key codes with the rows and heads of a page in one axis. -/
theorem key_pool_eq : V m (0 : Dev nD) main_v0 = shapeCast S2565x64x128 (m (((0 : Dev nD) : Thread nD τ).loc main_arg2)) shapeCasts_S2565x16x4x128_S2565x64x128 := by
  unfold_abbrev_sides
  after_reads_simp
  rfl

/-- The pool of value codes with the rows and heads of a page in one axis. -/
theorem value_pool_eq : V m (0 : Dev nD) main_v1 = shapeCast S2565x64x128 (m (((0 : Dev nD) : Thread nD τ).loc main_arg4)) shapeCasts_S2565x16x4x128_S2565x64x128 := by
  unfold_abbrev_sides
  after_reads_simp
  rfl

/-- The joined axis is the rows and heads in row-major order. -/
theorem paged_apply {α : Type} (x : S2565x16x4x128.Idx → α) (k : Fin 2565) (r : Fin 64) (d : Fin 128) (j : S2565x64x128.Idx)
    (h0 : (j 0).val = k.val) (h1 : (j 1).val = r.val) (h2 : (j 2).val = d.val) :
    shapeCast S2565x64x128 x shapeCasts_S2565x16x4x128_S2565x64x128 j = x (ix4 k (⟨r.val / 4, by omega⟩ : Fin 16) (⟨r.val % 4, by omega⟩ : Fin 4) d) := by
  refine shapeCast_apply x _ j _ ?_
  rw [Shape.rowMajor_val_four, Shape.rowMajor_val_three]
  show ((k.val * 16 + r.val / 4) * 4 + r.val % 4) * 128 + d.val = ((j 0).val * 64 + (j 1).val) * 128 + (j 2).val
  omega

/-- An index is its three coordinates. -/
theorem at3 (k : Fin 2565) (r : Fin 16) (d : Fin 4) (j : S2565x16x4.Idx) (h0 : (j 0).val = k.val) (h1 : (j 1).val = r.val) (h2 : (j 2).val = d.val) :
    j = (ix3 k r d : S2565x16x4.Idx) := by
  refine funext fun a : Fin 3 => Fin.ext ?_
  match a with
  | ⟨0, _⟩ => exact h0
  | ⟨1, _⟩ => exact h1
  | ⟨2, _⟩ => exact h2

/-- Where a batch's first page of key codes sits in the pool. -/
theorem emb2 (t : Fin (cfgM m hO).N) (y : S1x64x128.Idx) (j : S2565x64x128.Idx) (hj : (((cfgM m hO).win 2).blk t).view.emb y = j) :
    (j 0).val = cc0_transform_2 k0_off1_inb numel1_S1x1 (tbl m) (grid0.coords t) 0 ∧ (j 1).val = (y 1).val ∧ (j 2).val = (y 2).val := by
  subst hj
  refine ⟨?_, ?_, ?_⟩
  · refine (Window.rect_emb_val ((cfgM m hO).win 2) t y (0 : Fin 3)).trans ?_
    have hy : (y 0).val < 1 := (y 0).isLt
    show cc0_transform_2 k0_off1_inb numel1_S1x1 (tbl m) (grid0.coords t) 0 * 1 + (y 0).val = _
    omega
  · refine (Window.rect_emb_val ((cfgM m hO).win 2) t y (1 : Fin 3)).trans ?_
    show 0 * _ + (y 1).val = _
    rw [Nat.zero_mul, Nat.zero_add]
  · refine (Window.rect_emb_val ((cfgM m hO).win 2) t y (2 : Fin 3)).trans ?_
    show 0 * _ + (y 2).val = _
    rw [Nat.zero_mul, Nat.zero_add]

/-- A batch's first page of key codes. -/
theorem first_keys (b : Fin 4) (r : Fin 64) (d : Fin 128) (k : Fin 2565) (hk : (tbl m 0 (ix2 b (0 : Fin 2))).toNat = k.val) :
    iblk m hO 0 2 (point b 0 (by decide)) (ix3 (0 : Fin 1) r d)
      = m (((0 : Dev nD) : Thread nD τ).loc main_arg2) (ix4 k (⟨r.val / 4, by omega⟩ : Fin 16) (⟨r.val % 4, by omega⟩ : Fin 4) d) := by
  obtain ⟨e0, e1, e2⟩ := emb2 m hO (point b 0 (by decide)) (ix3 (0 : Fin 1) r d) _ rfl
  exact (congrFun (key_pool_eq m) _).trans (paged_apply _ k r d _ (e0.trans ((page_first m _ b (first_batch b)).trans hk)) e1 e2)

/-- Where a batch's last page of key codes sits in the pool. -/
theorem emb3 (t : Fin (cfgM m hO).N) (y : S1x64x128.Idx) (j : S2565x64x128.Idx) (hj : (((cfgM m hO).win 3).blk t).view.emb y = j) :
    (j 0).val = cc0_transform_3 k0_off2_inb numel1_S1x1 (tbl m) (grid0.coords t) 0 ∧ (j 1).val = (y 1).val ∧ (j 2).val = (y 2).val := by
  subst hj
  refine ⟨?_, ?_, ?_⟩
  · refine (Window.rect_emb_val ((cfgM m hO).win 3) t y (0 : Fin 3)).trans ?_
    have hy : (y 0).val < 1 := (y 0).isLt
    show cc0_transform_3 k0_off2_inb numel1_S1x1 (tbl m) (grid0.coords t) 0 * 1 + (y 0).val = _
    omega
  · refine (Window.rect_emb_val ((cfgM m hO).win 3) t y (1 : Fin 3)).trans ?_
    show 0 * _ + (y 1).val = _
    rw [Nat.zero_mul, Nat.zero_add]
  · refine (Window.rect_emb_val ((cfgM m hO).win 3) t y (2 : Fin 3)).trans ?_
    show 0 * _ + (y 2).val = _
    rw [Nat.zero_mul, Nat.zero_add]

/-- A batch's last page of key codes. -/
theorem last_keys (b : Fin 4) (r : Fin 64) (d : Fin 128) (k : Fin 2565) (hk : (tbl m 0 (ix2 b (1 : Fin 2))).toNat = k.val) :
    iblk m hO 0 3 (point b 0 (by decide)) (ix3 (0 : Fin 1) r d)
      = m (((0 : Dev nD) : Thread nD τ).loc main_arg2) (ix4 k (⟨r.val / 4, by omega⟩ : Fin 16) (⟨r.val % 4, by omega⟩ : Fin 4) d) := by
  obtain ⟨e0, e1, e2⟩ := emb3 m hO (point b 0 (by decide)) (ix3 (0 : Fin 1) r d) _ rfl
  exact (congrFun (key_pool_eq m) _).trans (paged_apply _ k r d _ (e0.trans ((page_last m _ b (first_batch b)).trans hk)) e1 e2)

/-- Where a batch's first page of key scales sits in the pool. -/
theorem emb4 (t : Fin (cfgM m hO).N) (y : S1x16x4.Idx) (j : S2565x16x4.Idx) (hj : (((cfgM m hO).win 4).blk t).view.emb y = j) :
    (j 0).val = cc0_transform_4 k0_off1_inb numel1_S1x1 (tbl m) (grid0.coords t) 0 ∧ (j 1).val = (y 1).val ∧ (j 2).val = (y 2).val := by
  subst hj
  refine ⟨?_, ?_, ?_⟩
  · refine (Window.rect_emb_val ((cfgM m hO).win 4) t y (0 : Fin 3)).trans ?_
    have hy : (y 0).val < 1 := (y 0).isLt
    show cc0_transform_4 k0_off1_inb numel1_S1x1 (tbl m) (grid0.coords t) 0 * 1 + (y 0).val = _
    omega
  · refine (Window.rect_emb_val ((cfgM m hO).win 4) t y (1 : Fin 3)).trans ?_
    show 0 * _ + (y 1).val = _
    rw [Nat.zero_mul, Nat.zero_add]
  · refine (Window.rect_emb_val ((cfgM m hO).win 4) t y (2 : Fin 3)).trans ?_
    show 0 * _ + (y 2).val = _
    rw [Nat.zero_mul, Nat.zero_add]

/-- A batch's first page of key scales. -/
theorem first_key_scales (b : Fin 4) (r : Fin 16) (d : Fin 4) (k : Fin 2565) (hk : (tbl m 0 (ix2 b (0 : Fin 2))).toNat = k.val) :
    iblk m hO 0 4 (point b 0 (by decide)) (ix3 (0 : Fin 1) r d)
      = m (((0 : Dev nD) : Thread nD τ).loc main_arg3) (ix3 k r d) := by
  obtain ⟨e0, e1, e2⟩ := emb4 m hO (point b 0 (by decide)) (ix3 (0 : Fin 1) r d) _ rfl
  exact (congrFun (V_main_arg3 m 0) _).trans (congrArg _ (at3 k r d _ (e0.trans ((page_first m _ b (first_batch b)).trans hk)) e1 e2))

/-- Where a batch's last page of key scales sits in the pool. -/
theorem emb5 (t : Fin (cfgM m hO).N) (y : S1x16x4.Idx) (j : S2565x16x4.Idx) (hj : (((cfgM m hO).win 5).blk t).view.emb y = j) :
    (j 0).val = cc0_transform_5 k0_off2_inb numel1_S1x1 (tbl m) (grid0.coords t) 0 ∧ (j 1).val = (y 1).val ∧ (j 2).val = (y 2).val := by
  subst hj
  refine ⟨?_, ?_, ?_⟩
  · refine (Window.rect_emb_val ((cfgM m hO).win 5) t y (0 : Fin 3)).trans ?_
    have hy : (y 0).val < 1 := (y 0).isLt
    show cc0_transform_5 k0_off2_inb numel1_S1x1 (tbl m) (grid0.coords t) 0 * 1 + (y 0).val = _
    omega
  · refine (Window.rect_emb_val ((cfgM m hO).win 5) t y (1 : Fin 3)).trans ?_
    show 0 * _ + (y 1).val = _
    rw [Nat.zero_mul, Nat.zero_add]
  · refine (Window.rect_emb_val ((cfgM m hO).win 5) t y (2 : Fin 3)).trans ?_
    show 0 * _ + (y 2).val = _
    rw [Nat.zero_mul, Nat.zero_add]

/-- A batch's last page of key scales. -/
theorem last_key_scales (b : Fin 4) (r : Fin 16) (d : Fin 4) (k : Fin 2565) (hk : (tbl m 0 (ix2 b (1 : Fin 2))).toNat = k.val) :
    iblk m hO 0 5 (point b 0 (by decide)) (ix3 (0 : Fin 1) r d)
      = m (((0 : Dev nD) : Thread nD τ).loc main_arg3) (ix3 k r d) := by
  obtain ⟨e0, e1, e2⟩ := emb5 m hO (point b 0 (by decide)) (ix3 (0 : Fin 1) r d) _ rfl
  exact (congrFun (V_main_arg3 m 0) _).trans (congrArg _ (at3 k r d _ (e0.trans ((page_last m _ b (first_batch b)).trans hk)) e1 e2))

/-- Where a batch's first page of value codes sits in the pool. -/
theorem emb6 (t : Fin (cfgM m hO).N) (y : S1x64x128.Idx) (j : S2565x64x128.Idx) (hj : (((cfgM m hO).win 6).blk t).view.emb y = j) :
    (j 0).val = cc0_transform_6 k0_off1_inb numel1_S1x1 (tbl m) (grid0.coords t) 0 ∧ (j 1).val = (y 1).val ∧ (j 2).val = (y 2).val := by
  subst hj
  refine ⟨?_, ?_, ?_⟩
  · refine (Window.rect_emb_val ((cfgM m hO).win 6) t y (0 : Fin 3)).trans ?_
    have hy : (y 0).val < 1 := (y 0).isLt
    show cc0_transform_6 k0_off1_inb numel1_S1x1 (tbl m) (grid0.coords t) 0 * 1 + (y 0).val = _
    omega
  · refine (Window.rect_emb_val ((cfgM m hO).win 6) t y (1 : Fin 3)).trans ?_
    show 0 * _ + (y 1).val = _
    rw [Nat.zero_mul, Nat.zero_add]
  · refine (Window.rect_emb_val ((cfgM m hO).win 6) t y (2 : Fin 3)).trans ?_
    show 0 * _ + (y 2).val = _
    rw [Nat.zero_mul, Nat.zero_add]

/-- A batch's first page of value codes. -/
theorem first_values (b : Fin 4) (r : Fin 64) (d : Fin 128) (k : Fin 2565) (hk : (tbl m 0 (ix2 b (0 : Fin 2))).toNat = k.val) :
    iblk m hO 0 6 (point b 0 (by decide)) (ix3 (0 : Fin 1) r d)
      = m (((0 : Dev nD) : Thread nD τ).loc main_arg4) (ix4 k (⟨r.val / 4, by omega⟩ : Fin 16) (⟨r.val % 4, by omega⟩ : Fin 4) d) := by
  obtain ⟨e0, e1, e2⟩ := emb6 m hO (point b 0 (by decide)) (ix3 (0 : Fin 1) r d) _ rfl
  exact (congrFun (value_pool_eq m) _).trans (paged_apply _ k r d _ (e0.trans ((page_first m _ b (first_batch b)).trans hk)) e1 e2)

/-- Where a batch's last page of value codes sits in the pool. -/
theorem emb7 (t : Fin (cfgM m hO).N) (y : S1x64x128.Idx) (j : S2565x64x128.Idx) (hj : (((cfgM m hO).win 7).blk t).view.emb y = j) :
    (j 0).val = cc0_transform_7 k0_off2_inb numel1_S1x1 (tbl m) (grid0.coords t) 0 ∧ (j 1).val = (y 1).val ∧ (j 2).val = (y 2).val := by
  subst hj
  refine ⟨?_, ?_, ?_⟩
  · refine (Window.rect_emb_val ((cfgM m hO).win 7) t y (0 : Fin 3)).trans ?_
    have hy : (y 0).val < 1 := (y 0).isLt
    show cc0_transform_7 k0_off2_inb numel1_S1x1 (tbl m) (grid0.coords t) 0 * 1 + (y 0).val = _
    omega
  · refine (Window.rect_emb_val ((cfgM m hO).win 7) t y (1 : Fin 3)).trans ?_
    show 0 * _ + (y 1).val = _
    rw [Nat.zero_mul, Nat.zero_add]
  · refine (Window.rect_emb_val ((cfgM m hO).win 7) t y (2 : Fin 3)).trans ?_
    show 0 * _ + (y 2).val = _
    rw [Nat.zero_mul, Nat.zero_add]

/-- A batch's last page of value codes. -/
theorem last_values (b : Fin 4) (r : Fin 64) (d : Fin 128) (k : Fin 2565) (hk : (tbl m 0 (ix2 b (1 : Fin 2))).toNat = k.val) :
    iblk m hO 0 7 (point b 0 (by decide)) (ix3 (0 : Fin 1) r d)
      = m (((0 : Dev nD) : Thread nD τ).loc main_arg4) (ix4 k (⟨r.val / 4, by omega⟩ : Fin 16) (⟨r.val % 4, by omega⟩ : Fin 4) d) := by
  obtain ⟨e0, e1, e2⟩ := emb7 m hO (point b 0 (by decide)) (ix3 (0 : Fin 1) r d) _ rfl
  exact (congrFun (value_pool_eq m) _).trans (paged_apply _ k r d _ (e0.trans ((page_last m _ b (first_batch b)).trans hk)) e1 e2)

/-- Where a batch's first page of value scales sits in the pool. -/
theorem emb8 (t : Fin (cfgM m hO).N) (y : S1x16x4.Idx) (j : S2565x16x4.Idx) (hj : (((cfgM m hO).win 8).blk t).view.emb y = j) :
    (j 0).val = cc0_transform_8 k0_off1_inb numel1_S1x1 (tbl m) (grid0.coords t) 0 ∧ (j 1).val = (y 1).val ∧ (j 2).val = (y 2).val := by
  subst hj
  refine ⟨?_, ?_, ?_⟩
  · refine (Window.rect_emb_val ((cfgM m hO).win 8) t y (0 : Fin 3)).trans ?_
    have hy : (y 0).val < 1 := (y 0).isLt
    show cc0_transform_8 k0_off1_inb numel1_S1x1 (tbl m) (grid0.coords t) 0 * 1 + (y 0).val = _
    omega
  · refine (Window.rect_emb_val ((cfgM m hO).win 8) t y (1 : Fin 3)).trans ?_
    show 0 * _ + (y 1).val = _
    rw [Nat.zero_mul, Nat.zero_add]
  · refine (Window.rect_emb_val ((cfgM m hO).win 8) t y (2 : Fin 3)).trans ?_
    show 0 * _ + (y 2).val = _
    rw [Nat.zero_mul, Nat.zero_add]

/-- A batch's first page of value scales. -/
theorem first_value_scales (b : Fin 4) (r : Fin 16) (d : Fin 4) (k : Fin 2565) (hk : (tbl m 0 (ix2 b (0 : Fin 2))).toNat = k.val) :
    iblk m hO 0 8 (point b 0 (by decide)) (ix3 (0 : Fin 1) r d)
      = m (((0 : Dev nD) : Thread nD τ).loc main_arg5) (ix3 k r d) := by
  obtain ⟨e0, e1, e2⟩ := emb8 m hO (point b 0 (by decide)) (ix3 (0 : Fin 1) r d) _ rfl
  exact (congrFun (V_main_arg5 m 0) _).trans (congrArg _ (at3 k r d _ (e0.trans ((page_first m _ b (first_batch b)).trans hk)) e1 e2))

/-- Where a batch's last page of value scales sits in the pool. -/
theorem emb9 (t : Fin (cfgM m hO).N) (y : S1x16x4.Idx) (j : S2565x16x4.Idx) (hj : (((cfgM m hO).win 9).blk t).view.emb y = j) :
    (j 0).val = cc0_transform_9 k0_off2_inb numel1_S1x1 (tbl m) (grid0.coords t) 0 ∧ (j 1).val = (y 1).val ∧ (j 2).val = (y 2).val := by
  subst hj
  refine ⟨?_, ?_, ?_⟩
  · refine (Window.rect_emb_val ((cfgM m hO).win 9) t y (0 : Fin 3)).trans ?_
    have hy : (y 0).val < 1 := (y 0).isLt
    show cc0_transform_9 k0_off2_inb numel1_S1x1 (tbl m) (grid0.coords t) 0 * 1 + (y 0).val = _
    omega
  · refine (Window.rect_emb_val ((cfgM m hO).win 9) t y (1 : Fin 3)).trans ?_
    show 0 * _ + (y 1).val = _
    rw [Nat.zero_mul, Nat.zero_add]
  · refine (Window.rect_emb_val ((cfgM m hO).win 9) t y (2 : Fin 3)).trans ?_
    show 0 * _ + (y 2).val = _
    rw [Nat.zero_mul, Nat.zero_add]

/-- A batch's last page of value scales. -/
theorem last_value_scales (b : Fin 4) (r : Fin 16) (d : Fin 4) (k : Fin 2565) (hk : (tbl m 0 (ix2 b (1 : Fin 2))).toNat = k.val) :
    iblk m hO 0 9 (point b 0 (by decide)) (ix3 (0 : Fin 1) r d)
      = m (((0 : Dev nD) : Thread nD τ).loc main_arg5) (ix3 k r d) := by
  obtain ⟨e0, e1, e2⟩ := emb9 m hO (point b 0 (by decide)) (ix3 (0 : Fin 1) r d) _ rfl
  exact (congrFun (V_main_arg5 m 0) _).trans (congrArg _ (at3 k r d _ (e0.trans ((page_last m _ b (first_batch b)).trans hk)) e1 e2))

end Cert.KernelIdeal.Hand

end
-- ==== Proof.ReferenceIdeal.Merge.lean ====
/- The reference's touched pages, read at an index: a new token's where a row is new, the pool's elsewhere. -/
module

public import proofs.«01_k».proof.Proof.ReferenceIdeal.Words

@[expose] public section

set_option maxRecDepth 16384

noncomputable section

namespace Cert.ReferenceIdeal.Hand

open Cert.ReferenceIdeal Cert.ReferenceIdeal.Gen Cert.ReferenceIdeal.Read
open Idealize.ShloMosaic

variable (x6 : IVec S4x513 32) (x7 : IVec S4 32)

/-- Codes of the touched pages before they are laid flat: a new token's where a row is new, the pool's elsewhere. -/
def mergedCodes (new : IVec S4x2048x4x128 8) (pool : IVec S2565x16x4x128 8) : IVec S4x2064x4x128 8 :=
  select (val_main_call11_v0 (F := Ideal) x7)
    (Host.gather gather_S4x2048x4x128_S4x2064x1_S4x2064x4x128_23_1_0_0_1_2_114128 new (val_main_call10_v5 (F := Ideal) x7))
    (shapeCast S4x2064x4x128 (Host.gather gather_S2565x16x4x128_S4x129x1_S4x129x16x4x128_234_0_n_n_0_2_1164128 pool (val_main_v93 (F := Ideal) x6 x7)) shapeCasts_S4x129x16x4x128_S4x2064x4x128)

/-- Codes of the touched pages. -/
def touchedCodes (new : IVec S4x2048x4x128 8) (pool : IVec S2565x16x4x128 8) : IVec S4x8256x128 8 :=
  shapeCast S4x8256x128 (shapeCast S4x129x16x4x128 (mergedCodes x6 x7 new pool) shapeCasts_S4x2064x4x128_S4x129x16x4x128) shapeCasts_S4x129x16x4x128_S4x8256x128

/-- Scales of the touched pages before they are laid flat. -/
def mergedScales (new : FVec Ideal S4x2048x4 .f32) (pool : FVec Ideal S2565x16x4 .f32) : FVec Ideal S4x2064x4 .f32 :=
  select (val_main_call14_v0 (F := Ideal) x7)
    (Host.gather gather_S4x2048x4_S4x2064x1_S4x2064x4_2_1_0_0_1_2_114 new (val_main_call13_v4 (F := Ideal) x7))
    (shapeCast S4x2064x4 (Host.gather gather_S2565x16x4_S4x129x1_S4x129x16x4_23_0_n_n_0_2_1164 pool (val_main_v93 (F := Ideal) x6 x7)) shapeCasts_S4x129x16x4_S4x2064x4)

/-- Scales of the touched pages. -/
def touchedScales (new : FVec Ideal S4x2048x4 .f32) (pool : FVec Ideal S2565x16x4 .f32) : FVec Ideal S4x2064x4 .f32 :=
  shapeCast S4x2064x4 (shapeCast S4x129x16x4 (mergedScales x6 x7 new pool) shapeCasts_S4x2064x4_S4x129x16x4) shapeCasts_S4x129x16x4_S4x2064x4

/-- The reference's touched key codes. -/
theorem v168_eq (x0 : FVec Ideal S4x2048x4x128 .bf16) (x2 : IVec S2565x16x4x128 8) (x8 : IVec S4 32) :
    val_main_v168 (F := Ideal) x0 x2 x6 x7 x8 = touchedCodes x6 x7 (val_main_v50 (F := Ideal) x0 x8) x2 := rfl

/-- The reference's touched key scales. -/
theorem v169_eq (x0 : FVec Ideal S4x2048x4x128 .bf16) (x3 : FVec Ideal S2565x16x4 .f32) (x8 : IVec S4 32) :
    val_main_v169 (F := Ideal) x0 x3 x6 x7 x8 = touchedScales x6 x7 (val_main_v43 (F := Ideal) x0 x8) x3 := rfl

/-- The reference's touched value codes. -/
theorem v170_eq (x1 : FVec Ideal S4x2048x4x128 .bf16) (x4 : IVec S2565x16x4x128 8) :
    val_main_v170 (F := Ideal) x1 x4 x6 x7 = touchedCodes x6 x7 (val_main_v65 (F := Ideal) x1) x4 := rfl

/-- The reference's touched value scales. -/
theorem v171_eq (x1 : FVec Ideal S4x2048x4x128 .bf16) (x5 : FVec Ideal S2565x16x4 .f32) :
    val_main_v171 (F := Ideal) x1 x5 x6 x7 = touchedScales x6 x7 (val_main_v58 (F := Ideal) x1) x5 := rfl

/-- Laying the touched codes flat moves nothing. -/
theorem touchedCodes_apply (new : IVec S4x2048x4x128 8) (pool : IVec S2565x16x4x128 8) (b : Fin 4) (q : Fin 8256) (d : Fin 128) :
    touchedCodes x6 x7 new pool (ix3 b q d)
      = mergedCodes x6 x7 new pool (ix4 b (⟨q.val / 4, by have := q.isLt; omega⟩ : Fin 2064) (⟨q.val % 4, by omega⟩ : Fin 4) d) := by
  have hq := q.isLt
  unfold touchedCodes
  generalize mergedCodes x6 x7 new pool = y
  refine (shapeCast_apply _ shapeCasts_S4x129x16x4x128_S4x8256x128 (ix3 b q d)
    (ix5 b (⟨q.val / 64, by omega⟩ : Fin 129) (⟨q.val / 4 % 16, by omega⟩ : Fin 16) (⟨q.val % 4, by omega⟩ : Fin 4) d) ?_).trans
    (shapeCast_apply y shapeCasts_S4x2064x4x128_S4x129x16x4x128 _ (ix4 b (⟨q.val / 4, by omega⟩ : Fin 2064) (⟨q.val % 4, by omega⟩ : Fin 4) d) ?_)
  · rw [Shape.rowMajor_val_five, Shape.rowMajor_val_three]
    show (((b.val * 129 + q.val / 64) * 16 + q.val / 4 % 16) * 4 + q.val % 4) * 128 + d.val = (b.val * 8256 + q.val) * 128 + d.val
    omega
  · rw [Shape.rowMajor_val_four, Shape.rowMajor_val_five]
    show ((b.val * 2064 + q.val / 4) * 4 + q.val % 4) * 128 + d.val = (((b.val * 129 + q.val / 64) * 16 + q.val / 4 % 16) * 4 + q.val % 4) * 128 + d.val
    omega

/-- Laying the touched scales flat moves nothing. -/
theorem touchedScales_apply (new : FVec Ideal S4x2048x4 .f32) (pool : FVec Ideal S2565x16x4 .f32) (b : Fin 4) (q : Fin 2064) (h : Fin 4) :
    touchedScales x6 x7 new pool (ix3 b q h) = mergedScales x6 x7 new pool (ix3 b q h) := by
  have hq := q.isLt
  unfold touchedScales
  generalize mergedScales x6 x7 new pool = y
  refine (shapeCast_apply _ shapeCasts_S4x129x16x4_S4x2064x4 (ix3 b q h)
    (ix4 b (⟨q.val / 16, by omega⟩ : Fin 129) (⟨q.val % 16, by omega⟩ : Fin 16) h) ?_).trans
    (shapeCast_apply y shapeCasts_S4x2064x4_S4x129x16x4 _ (ix3 b q h) ?_)
  · rw [Shape.rowMajor_val_four, Shape.rowMajor_val_three]
    show ((b.val * 129 + q.val / 16) * 16 + q.val % 16) * 4 + h.val = (b.val * 2064 + q.val) * 4 + h.val
    omega
  · rw [Shape.rowMajor_val_four, Shape.rowMajor_val_three]
    show (b.val * 2064 + q.val) * 4 + h.val = ((b.val * 129 + q.val / 16) * 16 + q.val % 16) * 4 + h.val
    omega

/-- Whether a row of codes is new. -/
theorem codes_bit (b : Fin 4) (j : Fin 2064) (h : Fin 4) (d : Fin 128) : val_main_call11_v0 (F := Ideal) x7 (ix4 b j h d) = val_main_v87 (F := Ideal) x7 (ix2 b j) := by
  have hj := j.isLt
  have e : idx_main_v105 (idx_main_call11_v0 (ix4 b j h d)) = ix2 b j := by
    funext a
    match a with
    | ⟨0, _⟩ => exact Fin.ext (by show (((b.val * 2064 + j.val) * 1 + 0) * 1 + 0) / 2064 = b.val; omega)
    | ⟨1, _⟩ => exact Fin.ext (by show (((b.val * 2064 + j.val) * 1 + 0) * 1 + 0) % 2064 = j.val; omega)
  rw [val_main_call11_v0_apply, val_main_v105_apply, e]

/-- Whether a row of scales is new. -/
theorem scales_bit (b : Fin 4) (j : Fin 2064) (h : Fin 4) : val_main_call14_v0 (F := Ideal) x7 (ix3 b j h) = val_main_v87 (F := Ideal) x7 (ix2 b j) := by
  have hj := j.isLt
  have e : idx_main_v125 (idx_main_call14_v0 (ix3 b j h)) = ix2 b j := by
    funext a
    match a with
    | ⟨0, _⟩ => exact Fin.ext (by show ((b.val * 2064 + j.val) * 1 + 0) / 2064 = b.val; omega)
    | ⟨1, _⟩ => exact Fin.ext (by show ((b.val * 2064 + j.val) * 1 + 0) % 2064 = j.val; omega)
  rw [val_main_call14_v0_apply, val_main_v125_apply, e]

/-- The token a new row of codes takes. -/
theorem codes_token (b : Fin 4) (j : Fin 2064) (hn : (x7 (ix1 b)).toNat < 6145)
    (h : (x7 (ix1 b)).toNat % 16 ≤ j.val ∧ j.val < (x7 (ix1 b)).toNat % 16 + 2048) :
    val_main_call10_v5 (F := Ideal) x7 (ix3 b j (0 : Fin 1)) = BitVec.ofNat 32 (j.val - (x7 (ix1 b)).toNat % 16) := by
  have hj := j.isLt
  have e : idx_main_v103 (idx_main_call10_v5 (ix3 b j (0 : Fin 1))) = ix2 b j := by
    funext a
    match a with
    | ⟨0, _⟩ => exact Fin.ext (by show (((((b.val * 2064 + j.val) * 1 + 0) / 2064 * 2064 + ((b.val * 2064 + j.val) * 1 + 0) / 1 % 2064) * 1 + 0) * 1 + 0) / 2064 = b.val; omega)
    | ⟨1, _⟩ => exact Fin.ext (by show (((((b.val * 2064 + j.val) * 1 + 0) / 2064 * 2064 + ((b.val * 2064 + j.val) * 1 + 0) / 1 % 2064) * 1 + 0) * 1 + 0) % 2064 = j.val; omega)
  rw [val_main_call10_v5_apply, val_main_call10_v4_apply, val_main_call10_v1_apply, val_main_call10_v3_apply, val_main_call10_v0_apply, val_main_call10_v2_apply,
    val_main_call10_c_apply, val_main_call10_c_0_apply, val_main_v103_apply, e, v102_word x7 b j hn h]
  exact wrap_word _ (by omega) _

/-- The token a new row of scales takes. -/
theorem scales_token (b : Fin 4) (j : Fin 2064) (hn : (x7 (ix1 b)).toNat < 6145)
    (h : (x7 (ix1 b)).toNat % 16 ≤ j.val ∧ j.val < (x7 (ix1 b)).toNat % 16 + 2048) :
    val_main_call13_v4 (F := Ideal) x7 (ix3 b j (0 : Fin 1)) = BitVec.ofNat 32 (j.val - (x7 (ix1 b)).toNat % 16) := by
  have hj := j.isLt
  have e : idx_main_v123 (ix3 b j (0 : Fin 1)) = ix2 b j := by
    funext a
    match a with
    | ⟨0, _⟩ => exact Fin.ext (by show ((b.val * 2064 + j.val) * 1 + 0) / 2064 = b.val; omega)
    | ⟨1, _⟩ => exact Fin.ext (by show ((b.val * 2064 + j.val) * 1 + 0) % 2064 = j.val; omega)
  have w : val_main_v122 (F := Ideal) x7 (ix2 b j) = BitVec.ofNat 32 (j.val - (x7 (ix1 b)).toNat % 16) := v102_word x7 b j hn h
  rw [val_main_call13_v4_apply, val_main_call13_v1_apply, val_main_call13_v3_apply, val_main_call13_v0_apply, val_main_call13_v2_apply,
    val_main_call13_c_apply, val_main_call13_c_0_apply, val_main_v123_apply, e, w]
  exact wrap_word _ (by omega) _

/-- A new row of touched codes is a new token's. -/
theorem touchedCodes_new (new : IVec S4x2048x4x128 8) (pool : IVec S2565x16x4x128 8) (b : Fin 4) (q : Fin 8256) (d : Fin 128) (hn : (x7 (ix1 b)).toNat < 6145)
    (s : Fin 8192) (hs : q.val = 4 * ((x7 (ix1 b)).toNat % 16) + s.val) :
    touchedCodes x6 x7 new pool (ix3 b q d) = shapeCast S4x8192x128 new shapeCasts_S4x2048x4x128_S4x8192x128 (ix3 b s d) := by
  have hq := q.isLt
  have hs' := s.isLt
  have hj : (x7 (ix1 b)).toNat % 16 ≤ q.val / 4 ∧ q.val / 4 < (x7 (ix1 b)).toNat % 16 + 2048 := ⟨by omega, by omega⟩
  rw [touchedCodes_apply]
  show Scalar.select (val_main_call11_v0 (F := Ideal) x7 _) _ _ = _
  rw [codes_bit, v87_bit x7 b _ hn, decide_eq_true hj]
  refine (token_gather new _ b _ _ d ⟨s.val / 4, by omega⟩ ?_).trans ?_
  · rw [codes_token x7 b _ hn hj, toNat_word _ (by show q.val / 4 - _ < 8192; omega)]
    show q.val / 4 - _ = s.val / 4
    omega
  · refine (shapeCast_apply new shapeCasts_S4x2048x4x128_S4x8192x128 (ix3 b s d) _ ?_).symm
    rw [Shape.rowMajor_val_four, Shape.rowMajor_val_three]
    show ((b.val * 2048 + s.val / 4) * 4 + q.val % 4) * 128 + d.val = (b.val * 8192 + s.val) * 128 + d.val
    omega

/-- A row of touched codes that is not new is the pool's. -/
theorem touchedCodes_old (new : IVec S4x2048x4x128 8) (pool : IVec S2565x16x4x128 8) (b : Fin 4) (q : Fin 8256) (d : Fin 128) (hn : (x7 (ix1 b)).toNat < 6145)
    (hp : ∀ j, (x6 j).toNat < 2565) (hs : ¬ (4 * ((x7 (ix1 b)).toNat % 16) ≤ q.val ∧ q.val < 4 * ((x7 (ix1 b)).toNat % 16) + 8192))
    (k : Fin 2565) (hk : (x6 (ix2 b (⟨(x7 (ix1 b)).toNat / 16 + q.val / 64, by have := q.isLt; omega⟩ : Fin 513))).toNat = k.val) :
    touchedCodes x6 x7 new pool (ix3 b q d) = pool (ix4 k (⟨q.val / 4 % 16, by omega⟩ : Fin 16) (⟨q.val % 4, by omega⟩ : Fin 4) d) := by
  have hq := q.isLt
  have hj : ¬ ((x7 (ix1 b)).toNat % 16 ≤ q.val / 4 ∧ q.val / 4 < (x7 (ix1 b)).toNat % 16 + 2048) := by omega
  rw [touchedCodes_apply]
  show Scalar.select (val_main_call11_v0 (F := Ideal) x7 _) _ _ = _
  rw [codes_bit, v87_bit x7 b _ hn, decide_eq_false hj]
  refine (shapeCast_apply (Host.gather gather_S2565x16x4x128_S4x129x1_S4x129x16x4x128_234_0_n_n_0_2_1164128 pool (val_main_v93 (F := Ideal) x6 x7)) shapeCasts_S4x129x16x4x128_S4x2064x4x128 _
    (ix5 b (⟨q.val / 64, by omega⟩ : Fin 129) (⟨q.val / 4 % 16, by omega⟩ : Fin 16) (⟨q.val % 4, by omega⟩ : Fin 4) d) ?_).trans
    (pool_gather pool _ b _ _ _ d k ?_)
  · rw [Shape.rowMajor_val_four, Shape.rowMajor_val_five]
    show (((b.val * 129 + q.val / 64) * 16 + q.val / 4 % 16) * 4 + q.val % 4) * 128 + d.val = ((b.val * 2064 + q.val / 4) * 4 + q.val % 4) * 128 + d.val
    omega
  · rw [v93_word x6 x7 b _ hn hp]
    exact hk

/-- A new row of touched scales is a new token's. -/
theorem touchedScales_new (new : FVec Ideal S4x2048x4 .f32) (pool : FVec Ideal S2565x16x4 .f32) (b : Fin 4) (q : Fin 2064) (h : Fin 4) (hn : (x7 (ix1 b)).toNat < 6145)
    (s : Fin 2048) (hs : q.val = (x7 (ix1 b)).toNat % 16 + s.val) :
    touchedScales x6 x7 new pool (ix3 b q h) = new (ix3 b s h) := by
  have hq := q.isLt
  have hs' := s.isLt
  have hj : (x7 (ix1 b)).toNat % 16 ≤ q.val ∧ q.val < (x7 (ix1 b)).toNat % 16 + 2048 := ⟨by omega, by omega⟩
  rw [touchedScales_apply]
  show Scalar.select (val_main_call14_v0 (F := Ideal) x7 _) _ _ = _
  rw [scales_bit, v87_bit x7 b _ hn, decide_eq_true hj]
  refine token_scale_gather new _ b _ h s ?_
  rw [scales_token x7 b _ hn hj, toNat_word _ (by omega)]
  omega

/-- A row of touched scales that is not new is the pool's. -/
theorem touchedScales_old (new : FVec Ideal S4x2048x4 .f32) (pool : FVec Ideal S2565x16x4 .f32) (b : Fin 4) (q : Fin 2064) (h : Fin 4) (hn : (x7 (ix1 b)).toNat < 6145)
    (hp : ∀ j, (x6 j).toNat < 2565) (hs : ¬ ((x7 (ix1 b)).toNat % 16 ≤ q.val ∧ q.val < (x7 (ix1 b)).toNat % 16 + 2048))
    (k : Fin 2565) (hk : (x6 (ix2 b (⟨(x7 (ix1 b)).toNat / 16 + q.val / 16, by have := q.isLt; omega⟩ : Fin 513))).toNat = k.val) :
    touchedScales x6 x7 new pool (ix3 b q h) = pool (ix3 k (⟨q.val % 16, by omega⟩ : Fin 16) h) := by
  have hq := q.isLt
  rw [touchedScales_apply]
  show Scalar.select (val_main_call14_v0 (F := Ideal) x7 _) _ _ = _
  rw [scales_bit, v87_bit x7 b _ hn, decide_eq_false hs]
  refine (shapeCast_apply (Host.gather gather_S2565x16x4_S4x129x1_S4x129x16x4_23_0_n_n_0_2_1164 pool (val_main_v93 (F := Ideal) x6 x7)) shapeCasts_S4x129x16x4_S4x2064x4 _
    (ix4 b (⟨q.val / 16, by omega⟩ : Fin 129) (⟨q.val % 16, by omega⟩ : Fin 16) h) ?_).trans
    (scale_pool_gather pool _ b _ _ h k ?_)
  · rw [Shape.rowMajor_val_four, Shape.rowMajor_val_three]
    show ((b.val * 129 + q.val / 16) * 16 + q.val % 16) * 4 + h.val = (b.val * 2064 + q.val) * 4 + h.val
    omega
  · rw [v93_word x6 x7 b _ hn hp]
    exact hk

end Cert.ReferenceIdeal.Hand
-- ==== Proof.AgreeTouched.lean ====
/- The kernel's touched pages are the reference's, element by element: a new row is a new token's, a row that is not new
   lies in the first or in the last touched page and is the pool's. -/
module

public import proofs.«01_k».proof.Proof.Agree
public import proofs.«01_k».proof.Proof.AgreeKeys
public import proofs.«01_k».proof.Proof.KernelIdeal.Touched
public import proofs.«01_k».proof.Proof.KernelIdeal.Ends
public import proofs.«01_k».proof.Proof.ReferenceIdeal.Merge

@[expose] public section

set_option maxRecDepth 16384

noncomputable section

namespace Cert.Agree

open Cert.KernelIdeal Cert.KernelIdeal.Gen Cert.KernelIdeal.Hand Cert.Request
open Cert.ReferenceIdeal.Hand (touchedCodes touchedScales touchedCodes_new touchedCodes_old touchedScales_new touchedScales_old)
open Idealize.ShloMosaic Idealize.ShloMosaic.TcCoe

variable (m : (ℓ : Loc nD τ sig) → Buf (Elt Ideal) ℓ) (hO : Ok m)
variable (v : Valid (m (((0 : Dev nD) : Thread nD τ).loc main_arg6)) (m (((0 : Dev nD) : Thread nD τ).loc main_arg7)) (m (((0 : Dev nD) : Thread nD τ).loc main_arg8)))

include v

/-- Codes: where the new tokens' codes and the two end pages agree with the reference's, so do the touched pages. -/
theorem touched_codes (p : Fin (cfgM m hO).N → IVec S1x1024x128 8) (first last : Fin (cfgM m hO).N → IVec S1x64x128 8) (y : IVec S1x8256x128 8)
    (new : IVec S4x2048x4x128 8) (pool : IVec S2565x16x4x128 8) (b : Fin 4) (q : Fin 8256) (d : Fin 128)
    (hnew : ∀ s : Fin 8192, (tiled (k := 1024) (d := 128) p (by decide) : S4x8192x128.Idx → _) (ix3 b s d)
      = shapeCast S4x8192x128 new Cert.ReferenceIdeal.Gen.shapeCasts_S4x2048x4x128_S4x8192x128 (ix3 b s d))
    (hfirst : ∀ (r : Fin 64) (k : Fin 2565), (tbl m 0 (ix2 b (0 : Fin 2))).toNat = k.val →
      first (point b 0 (by decide)) (ix3 (0 : Fin 1) r d) = pool (ix4 k (⟨r.val / 4, by omega⟩ : Fin 16) (⟨r.val % 4, by omega⟩ : Fin 4) d))
    (hlast : ∀ (r : Fin 64) (k : Fin 2565), (tbl m 0 (ix2 b (1 : Fin 2))).toNat = k.val →
      last (point b 0 (by decide)) (ix3 (0 : Fin 1) r d) = pool (ix4 k (⟨r.val / 4, by omega⟩ : Fin 16) (⟨r.val % 4, by omega⟩ : Fin 4) d)) :
    laid overCodes (fun t => 4 * rowAt m hO 0 t) p (fun t => endCodes (first t) (last t)) y (Hand.T b).val (Hand.T b).isLt (ix3 (0 : Fin 1) q d)
      = touchedCodes (m (((0 : Dev nD) : Thread nD τ).loc main_arg6)) (m (((0 : Dev nD) : Thread nD τ).loc main_arg7)) new pool (ix3 b q d) := by
  have hq := q.isLt
  have hn : pastOf m b < 6145 := by have h := v.past (ix1 b); exact Nat.lt_succ_of_le h
  by_cases hs : 4 * (pastOf m b % 16) ≤ q.val ∧ q.val < 4 * (pastOf m b % 16) + 8192
  · have hs' : q.val = 4 * (pastOf m b % 16) + (⟨q.val - 4 * (pastOf m b % 16), by omega⟩ : Fin 8192).val := by
      show q.val = _ + (q.val - _)
      omega
    exact (codes_new m hO p _ y b q d _ hs').trans ((hnew _).trans (touchedCodes_new _ _ new pool b q d hn _ hs').symm)
  · refine (codes_old m hO p _ y b q d hs).trans ?_
    have hk := v.page (ix2 b (⟨pastOf m b / 16 + q.val / 64, by omega⟩ : Fin 513))
    refine Eq.trans ?_ (touchedCodes_old _ _ new pool b q d hn v.page hs ⟨_, hk⟩ rfl).symm
    by_cases h0 : q.val < 64
    · refine (dif_pos h0).trans ((hfirst ⟨q.val, h0⟩ ⟨_, hk⟩ ?_).trans ?_)
      · rw [end_page m b 0 hn]
        refine congrArg (fun k : Fin 513 => (m (((0 : Dev nD) : Thread nD τ).loc main_arg6) (ix2 b k)).toNat) (Fin.ext ?_)
        show pastOf m b / 16 + 128 * 0 = pastOf m b / 16 + q.val / 64
        omega
      · exact congrArg (fun r : Fin 16 => pool (ix4 _ r _ d)) (Fin.ext (show q.val / 4 = q.val / 4 % 16 by omega))
    · have h1 : 8192 ≤ q.val := by omega
      refine (dif_neg h0).trans ((dif_pos h1).trans ((hlast ⟨q.val - 8192, by omega⟩ ⟨_, hk⟩ ?_).trans ?_))
      · rw [end_page m b 1 hn]
        refine congrArg (fun k : Fin 513 => (m (((0 : Dev nD) : Thread nD τ).loc main_arg6) (ix2 b k)).toNat) (Fin.ext ?_)
        show pastOf m b / 16 + 128 * 1 = pastOf m b / 16 + q.val / 64
        omega
      · have er : (⟨(q.val - 8192) / 4, by omega⟩ : Fin 16) = ⟨q.val / 4 % 16, by omega⟩ := Fin.ext (by show (q.val - 8192) / 4 = q.val / 4 % 16; omega)
        have eh : (⟨(q.val - 8192) % 4, by omega⟩ : Fin 4) = ⟨q.val % 4, by omega⟩ := Fin.ext (by show (q.val - 8192) % 4 = q.val % 4; omega)
        show pool (ix4 _ ⟨(q.val - 8192) / 4, _⟩ ⟨(q.val - 8192) % 4, _⟩ d) = _
        rw [er, eh]

/-- Scales: where the new tokens' scales and the two end pages agree with the reference's, so do the touched pages. -/
theorem touched_scales (p : Fin (cfgM m hO).N → FVec Ideal S1x256x4 .f32) (first last : Fin (cfgM m hO).N → FVec Ideal S1x16x4 .f32) (y : FVec Ideal S1x2064x4 .f32)
    (new : FVec Ideal S4x2048x4 .f32) (pool : FVec Ideal S2565x16x4 .f32) (b : Fin 4) (q : Fin 2064) (d : Fin 4)
    (hnew : ∀ s : Fin 2048, (tiled (k := 256) (d := 4) p (by decide) : S4x2048x4.Idx → _) (ix3 b s d) = new (ix3 b s d))
    (hfirst : ∀ (r : Fin 16) (k : Fin 2565), (tbl m 0 (ix2 b (0 : Fin 2))).toNat = k.val →
      first (point b 0 (by decide)) (ix3 (0 : Fin 1) r d) = pool (ix3 k r d))
    (hlast : ∀ (r : Fin 16) (k : Fin 2565), (tbl m 0 (ix2 b (1 : Fin 2))).toNat = k.val →
      last (point b 0 (by decide)) (ix3 (0 : Fin 1) r d) = pool (ix3 k r d)) :
    laid overScales (rowAt m hO 0) p (fun t => endScales (first t) (last t)) y (Hand.T b).val (Hand.T b).isLt (ix3 (0 : Fin 1) q d)
      = touchedScales (m (((0 : Dev nD) : Thread nD τ).loc main_arg6)) (m (((0 : Dev nD) : Thread nD τ).loc main_arg7)) new pool (ix3 b q d) := by
  have hq := q.isLt
  have hn : pastOf m b < 6145 := by have h := v.past (ix1 b); exact Nat.lt_succ_of_le h
  by_cases hs : pastOf m b % 16 ≤ q.val ∧ q.val < pastOf m b % 16 + 2048
  · have hs' : q.val = pastOf m b % 16 + (⟨q.val - pastOf m b % 16, by omega⟩ : Fin 2048).val := by
      show q.val = _ + (q.val - _)
      omega
    exact (scales_new m hO p _ y b q d _ hs').trans ((hnew _).trans (touchedScales_new _ _ new pool b q d hn _ hs').symm)
  · refine (scales_old m hO p _ y b q d hs).trans ?_
    have hk := v.page (ix2 b (⟨pastOf m b / 16 + q.val / 16, by omega⟩ : Fin 513))
    refine Eq.trans ?_ (touchedScales_old _ _ new pool b q d hn v.page hs ⟨_, hk⟩ rfl).symm
    by_cases h0 : q.val < 16
    · refine (dif_pos h0).trans ((hfirst ⟨q.val, h0⟩ ⟨_, hk⟩ ?_).trans ?_)
      · rw [end_page m b 0 hn]
        refine congrArg (fun k : Fin 513 => (m (((0 : Dev nD) : Thread nD τ).loc main_arg6) (ix2 b k)).toNat) (Fin.ext ?_)
        show pastOf m b / 16 + 128 * 0 = pastOf m b / 16 + q.val / 16
        omega
      · exact congrArg (fun r : Fin 16 => pool (ix3 _ r d)) (Fin.ext (show q.val = q.val % 16 by omega))
    · have h1 : 2048 ≤ q.val := by omega
      refine (dif_neg h0).trans ((dif_pos h1).trans ((hlast ⟨q.val - 2048, by omega⟩ ⟨_, hk⟩ ?_).trans ?_))
      · rw [end_page m b 1 hn]
        refine congrArg (fun k : Fin 513 => (m (((0 : Dev nD) : Thread nD τ).loc main_arg6) (ix2 b k)).toNat) (Fin.ext ?_)
        show pastOf m b / 16 + 128 * 1 = pastOf m b / 16 + q.val / 16
        omega
      · exact congrArg (fun r : Fin 16 => pool (ix3 _ r d)) (Fin.ext (show q.val - 2048 = q.val % 16 by omega))

/-- The touched key codes are the reference's. -/
theorem touched_key_codes (y : IVec S1x8256x128 8) (b : Fin 4) (q : Fin 8256) (d : Fin 128) :
    tkAt m hO 0 y (Hand.T b).val (Hand.T b).isLt (ix3 (0 : Fin 1) q d)
      = Cert.ReferenceIdeal.Read.val_main_v168 (F := Ideal) (m (((0 : Dev nD) : Thread nD τ).loc main_arg0)) (m (((0 : Dev nD) : Thread nD τ).loc main_arg2))
        (m (((0 : Dev nD) : Thread nD τ).loc main_arg6)) (m (((0 : Dev nD) : Thread nD τ).loc main_arg7)) (m (((0 : Dev nD) : Thread nD τ).loc main_arg8)) (ix3 b q d) := by
  rw [Cert.ReferenceIdeal.Hand.v168_eq]
  exact touched_codes m hO v _ _ _ y _ _ b q d (fun s => key_codes m hO v b s d) (fun r k hk => first_keys m hO b r d k hk) (fun r k hk => last_keys m hO b r d k hk)

/-- The touched key scales are the reference's. -/
theorem touched_key_scales (y : FVec Ideal S1x2064x4 .f32) (b : Fin 4) (q : Fin 2064) (d : Fin 4) :
    tksAt m hO 0 y (Hand.T b).val (Hand.T b).isLt (ix3 (0 : Fin 1) q d)
      = Cert.ReferenceIdeal.Read.val_main_v169 (F := Ideal) (m (((0 : Dev nD) : Thread nD τ).loc main_arg0)) (m (((0 : Dev nD) : Thread nD τ).loc main_arg3))
        (m (((0 : Dev nD) : Thread nD τ).loc main_arg6)) (m (((0 : Dev nD) : Thread nD τ).loc main_arg7)) (m (((0 : Dev nD) : Thread nD τ).loc main_arg8)) (ix3 b q d) := by
  rw [Cert.ReferenceIdeal.Hand.v169_eq]
  exact touched_scales m hO v _ _ _ y _ _ b q d (fun s => key_scales m hO v b s d) (fun r k hk => first_key_scales m hO b r d k hk) (fun r k hk => last_key_scales m hO b r d k hk)

/-- The touched value codes are the reference's. -/
theorem touched_value_codes (y : IVec S1x8256x128 8) (b : Fin 4) (q : Fin 8256) (d : Fin 128) :
    tvAt m hO 0 y (Hand.T b).val (Hand.T b).isLt (ix3 (0 : Fin 1) q d)
      = Cert.ReferenceIdeal.Read.val_main_v170 (F := Ideal) (m (((0 : Dev nD) : Thread nD τ).loc main_arg1)) (m (((0 : Dev nD) : Thread nD τ).loc main_arg4))
        (m (((0 : Dev nD) : Thread nD τ).loc main_arg6)) (m (((0 : Dev nD) : Thread nD τ).loc main_arg7)) (ix3 b q d) := by
  rw [Cert.ReferenceIdeal.Hand.v170_eq]
  exact touched_codes m hO v _ _ _ y _ _ b q d (fun s => value_codes m hO b s d) (fun r k hk => first_values m hO b r d k hk) (fun r k hk => last_values m hO b r d k hk)

/-- The touched value scales are the reference's. -/
theorem touched_value_scales (y : FVec Ideal S1x2064x4 .f32) (b : Fin 4) (q : Fin 2064) (d : Fin 4) :
    tvsAt m hO 0 y (Hand.T b).val (Hand.T b).isLt (ix3 (0 : Fin 1) q d)
      = Cert.ReferenceIdeal.Read.val_main_v171 (F := Ideal) (m (((0 : Dev nD) : Thread nD τ).loc main_arg1)) (m (((0 : Dev nD) : Thread nD τ).loc main_arg5))
        (m (((0 : Dev nD) : Thread nD τ).loc main_arg6)) (m (((0 : Dev nD) : Thread nD τ).loc main_arg7)) (ix3 b q d) := by
  rw [Cert.ReferenceIdeal.Hand.v171_eq]
  exact touched_scales m hO v _ _ _ y _ _ b q d (fun s => value_scales m hO b s d) (fun r k hk => first_value_scales m hO b r d k hk) (fun r k hk => last_value_scales m hO b r d k hk)

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_valid_request
public import proofs.«01_k».proof.Proof.Kernel.Side
public import proofs.«01_k».proof.Proof.KernelIdeal.Side
public import proofs.«01_k».proof.Proof.Agree
public import proofs.«01_k».proof.Proof.AgreeKeys
public import proofs.«01_k».proof.Proof.AgreeTouched
public import Idealize.ShloMosaic.Lib.Bf16Pair

@[expose] public section

set_option maxRecDepth 16384

noncomputable section

namespace Cert.Proof

open Idealize.ShloMosaic Idealize.ShloMosaic.TcCoe Idealize.ShloMosaic.StableHlo Idealize.SL.Sem Cert.Request

/-- The kernel runs under the precondition, leaves its arguments and ends with every counter at zero. -/
theorem frame_p : Cert.quiescent_Kernel := fun m ρ h =>
  have v := valid_of_fn (h 0)
  have hO := Cert.Kernel.Hand.ok_of_valid m v
  Cert.Kernel.Hand.frame m ρ hO (Cert.Kernel.Hand.hyps_of_valid m v hO)

/-- The idealized kernel runs under the precondition, leaves its arguments and ends with every counter at zero. -/
theorem frame_pi : Cert.quiescent_KernelIdeal := fun m ρ h =>
  have v := valid_of_fn (h 0)
  have hO := Cert.KernelIdeal.Hand.ok_of_valid m v
  Cert.KernelIdeal.Hand.frame m ρ hO (Cert.KernelIdeal.Hand.hyps_of_valid m v hO)

/-- The reference runs and leaves its arguments. -/
theorem frame_ri : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- The reference runs and leaves its arguments, under the precondition too. -/
theorem frame_ri_pre : Cert.quiescent_ReferenceIdeal_pre_valid_request := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- The idealization's three distinct rule statements: the named exponent base, the loads of row pairs as words and the
    words of row pairs read as floats. -/
theorem preserves : Cert.preserves_Kernel_KernelIdeal :=
  ⟨IdealRules.named_const.statement Cert.KernelIdeal.κ "log_base" .f32 0xBE135D8E#32 _ rfl,
    IdealRules.bf16_pair.statement Cert.KernelIdeal.S1x64x2x128 Cert.KernelIdeal.S1x64x1x128,
    IdealRules.bf16_pair.statement Cert.KernelIdeal.S128x128 Cert.KernelIdeal.S64x128⟩

/-- At any extended-real inputs under the precondition the kernel's results are the reference's. -/
theorem algebraic : Cert.algebraic_KernelIdeal_ReferenceIdeal :=
  fun m ρ m' ρ' hpre hag => by
  have v := valid_of_fn (hpre 0)
  have hO := Cert.KernelIdeal.Hand.ok_of_valid m v
  have hw : ∀ t : Fin (Cert.KernelIdeal.Hand.cfgM m hO).N, (Cert.KernelIdeal.Hand.tblWord (F := Ideal) (Cert.KernelIdeal.grid0.coords t) Cert.KernelIdeal.Hand.tbM0_1 (Cert.KernelIdeal.Hand.tbl m 1)).toNat ≤ 6144 := fun t => by
    have e : Cert.KernelIdeal.Hand.tbl m 1 = m (((0 : Dev Cert.KernelIdeal.nD) : Thread Cert.KernelIdeal.nD Cert.KernelIdeal.τ).loc Cert.KernelIdeal.main_arg7) := Cert.KernelIdeal.Hand.V_main_arg7 m 0
    rw [e]
    exact v.past _
  have hk := θ_run_and (Cert.KernelIdeal.Hand.frame m ρ hO (Cert.KernelIdeal.Hand.hyps_of_valid m v hO)) (Cert.KernelIdeal.Hand.run_mainV m ρ hO hw)
  obtain ⟨e0, e1, e2, e3, e4, e5, e6, e7, e8⟩ := hag 0
  refine ⟨_, _, _, _, _, _, _, _, (θ_run Cert.KernelIdeal.defs _ _).mono (fun r h c => ?_) hk, Cert.ReferenceIdeal.Value.run (F := Ideal) m' ρ'⟩
  obtain rfl : c = 0 := Subsingleton.elim _ _
  have at3 : ∀ {n0 n1 n2 : Nat} (i : (⟨3, ![n0, n1, n2]⟩ : Shape).Idx), i = ix3 (i 0) (i 1) (i 2) := fun i => by
    funext a; match a with | ⟨0, _⟩ => rfl | ⟨1, _⟩ => rfl | ⟨2, _⟩ => rfl
  refine ⟨funext fun i => ?_, funext fun i => ?_, funext fun i => ?_, funext fun i => ?_,
    funext fun i => ?_, funext fun i => ?_, funext fun i => ?_, funext fun i => ?_, h.1.1 0⟩
  · rw [at3 i]
    obtain ⟨y, hy⟩ := Cert.KernelIdeal.Hand.final10 m hO 0 h.2 (i 0) (i 1) (i 2)
    refine hy.trans ?_
    rw [Cert.ReferenceIdeal.Read.val_main_v168_eq, launchContents_devRef, launchContents_devRef, launchContents_devRef, launchContents_devRef, launchContents_devRef, e0, e2, e6, e7, e8]
    exact Cert.Agree.touched_key_codes m hO v y (i 0) (i 1) (i 2)
  · rw [at3 i]
    obtain ⟨y, hy⟩ := Cert.KernelIdeal.Hand.final11 m hO 0 h.2 (i 0) (i 1) (i 2)
    refine hy.trans ?_
    rw [Cert.ReferenceIdeal.Read.val_main_v169_eq, launchContents_devRef, launchContents_devRef, launchContents_devRef, launchContents_devRef, launchContents_devRef, e0, e3, e6, e7, e8]
    exact Cert.Agree.touched_key_scales m hO v y (i 0) (i 1) (i 2)
  · rw [at3 i]
    obtain ⟨y, hy⟩ := Cert.KernelIdeal.Hand.final12 m hO 0 h.2 (i 0) (i 1) (i 2)
    refine hy.trans ?_
    rw [Cert.ReferenceIdeal.Read.val_main_v170_eq, launchContents_devRef, launchContents_devRef, launchContents_devRef, launchContents_devRef, e1, e4, e6, e7]
    exact Cert.Agree.touched_value_codes m hO v y (i 0) (i 1) (i 2)
  · rw [at3 i]
    obtain ⟨y, hy⟩ := Cert.KernelIdeal.Hand.final13 m hO 0 h.2 (i 0) (i 1) (i 2)
    refine hy.trans ?_
    rw [Cert.ReferenceIdeal.Read.val_main_v171_eq, launchContents_devRef, launchContents_devRef, launchContents_devRef, launchContents_devRef, e1, e5, e6, e7]
    exact Cert.Agree.touched_value_scales m hO v y (i 0) (i 1) (i 2)
  · refine (Cert.KernelIdeal.Hand.final14 m hO 0 h.2 i).trans ?_
    rw [Cert.ReferenceIdeal.Read.val_main_v172_eq, launchContents_devRef, launchContents_devRef, e0, e8]
    exact Cert.Agree.key_codes_at m hO v i
  · refine (Cert.KernelIdeal.Hand.final15 m hO 0 h.2 i).trans ?_
    rw [Cert.ReferenceIdeal.Read.val_main_v43_eq, launchContents_devRef, launchContents_devRef, e0, e8]
    exact Cert.Agree.key_scales_at m hO v i
  · refine (Cert.KernelIdeal.Hand.final16 m hO 0 h.2 i).trans ?_
    rw [Cert.ReferenceIdeal.Read.val_main_v173_eq, launchContents_devRef, e1]
    exact Cert.Agree.value_codes_at m hO i
  · refine (Cert.KernelIdeal.Hand.final17 m hO 0 h.2 i).trans ?_
    rw [Cert.ReferenceIdeal.Read.val_main_v58_eq, launchContents_devRef, e1]
    exact Cert.Agree.value_scales_at m hO i

theorem claim : Cert.Claim := ⟨Cert.Kernel.Gen.facts, Cert.KernelIdeal.Gen.facts, Cert.ReferenceIdeal.Gen.facts,
  Cert.Pre_valid_request.Gen.facts, frame_p, frame_pi, frame_ri, frame_ri_pre, preserves, algebraic⟩

end Cert.Proof

end

end
